-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x16384 : Shape := ⟨3, ![2, 4096, 16384]⟩
abbrev S128x128x128 : Shape := ⟨3, ![128, 128, 128]⟩
abbrev S128 : Shape := ⟨1, ![128]⟩
abbrev S8192x16384 : Shape := ⟨2, ![8192, 16384]⟩
abbrev S128x1 : Shape := ⟨2, ![128, 1]⟩
abbrev S128x128 : Shape := ⟨2, ![128, 128]⟩
abbrev S64x128 : Shape := ⟨2, ![64, 128]⟩
abbrev S128x16384 : Shape := ⟨2, ![128, 16384]⟩
abbrev S16896x128 : Shape := ⟨2, ![16896, 128]⟩
abbrev S32x256 : Shape := ⟨2, ![32, 256]⟩
abbrev S32 : Shape := ⟨1, ![32]⟩
abbrev S32x1 : Shape := ⟨2, ![32, 1]⟩
abbrev S32x128 : Shape := ⟨2, ![32, 128]⟩
abbrev S1x128 : Shape := ⟨2, ![1, 128]⟩
abbrev S8x128 : Shape := ⟨2, ![8, 128]⟩
abbrev S1x128x128 : Shape := ⟨3, ![1, 128, 128]⟩
abbrev S1 : Shape := ⟨1, ![1]⟩

abbrev nBuf : Space → Nat
  | .hbm => 18
  | .vmem => 19
  | .smem => 2
  | _ => 0

abbrev bufTy : (tb : Table) → Fin (tcTables nBuf tb) → BufTy
  | .hbm, ⟨0, _⟩ => ⟨S2x4096x16384, .bf16⟩
  | .hbm, ⟨1, _⟩ => ⟨S128x128x128, .fp8e4m3⟩
  | .hbm, ⟨2, _⟩ => ⟨S128, .f32⟩
  | .hbm, ⟨3, _⟩ => ⟨S128x128x128, .fp8e4m3⟩
  | .hbm, ⟨4, _⟩ => ⟨S128, .f32⟩
  | .hbm, ⟨5, _⟩ => ⟨S8192x16384, .bf16⟩
  | .hbm, ⟨6, _⟩ => ⟨S128x128x128, .fp8e4m3⟩
  | .hbm, ⟨7, _⟩ => ⟨S128x1, .f32⟩
  | .hbm, ⟨8, _⟩ => ⟨S128x128, .f32⟩
  | .hbm, ⟨9, _⟩ => ⟨S128x128x128, .fp8e4m3⟩
  | .hbm, ⟨10, _⟩ => ⟨S128x1, .f32⟩
  | .hbm, ⟨11, _⟩ => ⟨S128x128, .f32⟩
  | .hbm, ⟨12, _⟩ => ⟨S8192x16384, .fp8e4m3⟩
  | .hbm, ⟨13, _⟩ => ⟨S64x128, .f32⟩
  | .hbm, ⟨14, _⟩ => ⟨S8192x16384, .fp8e4m3⟩
  | .hbm, ⟨15, _⟩ => ⟨S64x128, .f32⟩
  | .hbm, ⟨16, _⟩ => ⟨S8192x16384, .fp8e4m3⟩
  | .hbm, ⟨17, _⟩ => ⟨S64x128, .f32⟩
  | .local _ .vmem, ⟨0, _⟩ => ⟨S128x16384, .bf16⟩
  | .local _ .vmem, ⟨1, _⟩ => ⟨S128x16384, .bf16⟩
  | .local _ .vmem, ⟨2, _⟩ => ⟨S128x128x128, .fp8e4m3⟩
  | .local _ .vmem, ⟨3, _⟩ => ⟨S128x128, .f32⟩
  | .local _ .vmem, ⟨4, _⟩ => ⟨S128x128x128, .fp8e4m3⟩
  | .local _ .vmem, ⟨5, _⟩ => ⟨S128x128, .f32⟩
  | .local _ .vmem, ⟨6, _⟩ => ⟨S128x16384, .fp8e4m3⟩
  | .local _ .vmem, ⟨7, _⟩ => ⟨S128x16384, .fp8e4m3⟩
  | .local _ .vmem, ⟨8, _⟩ => ⟨S64x128, .f32⟩
  | .local _ .vmem, ⟨9, _⟩ => ⟨S128x16384, .fp8e4m3⟩
  | .local _ .vmem, ⟨10, _⟩ => ⟨S128x16384, .fp8e4m3⟩
  | .local _ .vmem, ⟨11, _⟩ => ⟨S64x128, .f32⟩
  | .local _ .vmem, ⟨12, _⟩ => ⟨S128x16384, .fp8e4m3⟩
  | .local _ .vmem, ⟨13, _⟩ => ⟨S128x16384, .fp8e4m3⟩
  | .local _ .vmem, ⟨14, _⟩ => ⟨S64x128, .f32⟩
  | .local _ .vmem, ⟨15, _⟩ => ⟨S16896x128, .f32⟩
  | .local _ .vmem, ⟨16, _⟩ => ⟨S16896x128, .f32⟩
  | .local _ .vmem, ⟨17, _⟩ => ⟨S128x128, .f32⟩
  | .local _ .vmem, ⟨18, _⟩ => ⟨S128x128, .f32⟩
  | .local _ .smem, ⟨0, _⟩ => ⟨S128, .f32⟩
  | .local _ .smem, ⟨1, _⟩ => ⟨S128, .f32⟩
  | _, _ => ⟨S2x4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v7_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_stg3_0 : Ref sig .tc := ⟨.smem, 0, rfl⟩
abbrev cc0_stg6_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem11_1 : DmaSem sig := 15
abbrev cc0_sem12_0 : DmaSem sig := 16

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_259 : BitVec 32 := 16#32
  let v644 : BitVec 32 := Scalar.muli arg18 c16_i32_259
  let c0_i32_260 : BitVec 32 := 0#32
  let v645 : BitVec 32 := Scalar.addi v644 c0_i32_260
  let c256_i32 : BitVec 32 := 256#32
  let v646 : BitVec 32 := Scalar.muli v645 c256_i32
  v646
def k0_off1 (k0_t1 : Fin k0_t1_loop.trips) (c0_i32_260 : BitVec 32) : Fin 2 → Nat :=
  let c0_261 : Index := 0#32
  let c0_i32 : BitVec 32 := 0#32
  let c1_i32 : BitVec 32 := 1#32
  let arg18 : BitVec 32 := Scf.iv c0_i32 c1_i32 k0_t1
  let c16_i32_259 : BitVec 32 := 16#32
  let v644 : BitVec 32 := Scalar.muli arg18 c16_i32_259
  let v645 : BitVec 32 := Scalar.addi v644 c0_i32_260
  let c256_i32 : BitVec 32 := 256#32
  let v646 : BitVec 32 := Scalar.muli v645 c256_i32
  let v647 : BitVec 32 := v646
  let v648 : Index := Scalar.indexCast v647
  ![0, v648.toNat]
def k0_mult2 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_262 : BitVec 32 := 16#32
  let v653 : BitVec 32 := Scalar.muli arg18 c16_i32_262
  let c1_i32_263 : BitVec 32 := 1#32
  let v654 : BitVec 32 := Scalar.addi v653 c1_i32_263
  let c256_i32_264 : BitVec 32 := 256#32
  let v655 : BitVec 32 := Scalar.muli v654 c256_i32_264
  v655
def k0_mult3 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_266 : BitVec 32 := 16#32
  let v662 : BitVec 32 := Scalar.muli arg18 c16_i32_266
  let c2_i32_267 : BitVec 32 := 2#32
  let v663 : BitVec 32 := Scalar.addi v662 c2_i32_267
  let c256_i32_268 : BitVec 32 := 256#32
  let v664 : BitVec 32 := Scalar.muli v663 c256_i32_268
  v664
def k0_mult4 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_270 : BitVec 32 := 16#32
  let v671 : BitVec 32 := Scalar.muli arg18 c16_i32_270
  let c3_i32 : BitVec 32 := 3#32
  let v672 : BitVec 32 := Scalar.addi v671 c3_i32
  let c256_i32_271 : BitVec 32 := 256#32
  let v673 : BitVec 32 := Scalar.muli v672 c256_i32_271
  v673
def k0_mult5 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_273 : BitVec 32 := 16#32
  let v680 : BitVec 32 := Scalar.muli arg18 c16_i32_273
  let c4_i32_274 : BitVec 32 := 4#32
  let v681 : BitVec 32 := Scalar.addi v680 c4_i32_274
  let c256_i32_275 : BitVec 32 := 256#32
  let v682 : BitVec 32 := Scalar.muli v681 c256_i32_275
  v682
def k0_mult6 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_277 : BitVec 32 := 16#32
  let v689 : BitVec 32 := Scalar.muli arg18 c16_i32_277
  let c5_i32 : BitVec 32 := 5#32
  let v690 : BitVec 32 := Scalar.addi v689 c5_i32
  let c256_i32_278 : BitVec 32 := 256#32
  let v691 : BitVec 32 := Scalar.muli v690 c256_i32_278
  v691
def k0_mult7 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_280 : BitVec 32 := 16#32
  let v698 : BitVec 32 := Scalar.muli arg18 c16_i32_280
  let c6_i32 : BitVec 32 := 6#32
  let v699 : BitVec 32 := Scalar.addi v698 c6_i32
  let c256_i32_281 : BitVec 32 := 256#32
  let v700 : BitVec 32 := Scalar.muli v699 c256_i32_281
  v700
def k0_mult8 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_283 : BitVec 32 := 16#32
  let v707 : BitVec 32 := Scalar.muli arg18 c16_i32_283
  let c7_i32 : BitVec 32 := 7#32
  let v708 : BitVec 32 := Scalar.addi v707 c7_i32
  let c256_i32_284 : BitVec 32 := 256#32
  let v709 : BitVec 32 := Scalar.muli v708 c256_i32_284
  v709
def k0_mult9 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_286 : BitVec 32 := 16#32
  let v716 : BitVec 32 := Scalar.muli arg18 c16_i32_286
  let c8_i32_287 : BitVec 32 := 8#32
  let v717 : BitVec 32 := Scalar.addi v716 c8_i32_287
  let c256_i32_288 : BitVec 32 := 256#32
  let v718 : BitVec 32 := Scalar.muli v717 c256_i32_288
  v718
def k0_mult10 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_290 : BitVec 32 := 16#32
  let v725 : BitVec 32 := Scalar.muli arg18 c16_i32_290
  let c9_i32 : BitVec 32 := 9#32
  let v726 : BitVec 32 := Scalar.addi v725 c9_i32
  let c256_i32_291 : BitVec 32 := 256#32
  let v727 : BitVec 32 := Scalar.muli v726 c256_i32_291
  v727
def k0_mult11 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_293 : BitVec 32 := 16#32
  let v734 : BitVec 32 := Scalar.muli arg18 c16_i32_293
  let c10_i32 : BitVec 32 := 10#32
  let v735 : BitVec 32 := Scalar.addi v734 c10_i32
  let c256_i32_294 : BitVec 32 := 256#32
  let v736 : BitVec 32 := Scalar.muli v735 c256_i32_294
  v736
def k0_mult12 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_296 : BitVec 32 := 16#32
  let v743 : BitVec 32 := Scalar.muli arg18 c16_i32_296
  let c11_i32 : BitVec 32 := 11#32
  let v744 : BitVec 32 := Scalar.addi v743 c11_i32
  let c256_i32_297 : BitVec 32 := 256#32
  let v745 : BitVec 32 := Scalar.muli v744 c256_i32_297
  v745
def k0_mult13 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_299 : BitVec 32 := 16#32
  let v752 : BitVec 32 := Scalar.muli arg18 c16_i32_299
  let c12_i32 : BitVec 32 := 12#32
  let v753 : BitVec 32 := Scalar.addi v752 c12_i32
  let c256_i32_300 : BitVec 32 := 256#32
  let v754 : BitVec 32 := Scalar.muli v753 c256_i32_300
  v754
def k0_mult14 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_302 : BitVec 32 := 16#32
  let v761 : BitVec 32 := Scalar.muli arg18 c16_i32_302
  let c13_i32 : BitVec 32 := 13#32
  let v762 : BitVec 32 := Scalar.addi v761 c13_i32
  let c256_i32_303 : BitVec 32 := 256#32
  let v763 : BitVec 32 := Scalar.muli v762 c256_i32_303
  v763
def k0_mult15 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_305 : BitVec 32 := 16#32
  let v770 : BitVec 32 := Scalar.muli arg18 c16_i32_305
  let c14_i32 : BitVec 32 := 14#32
  let v771 : BitVec 32 := Scalar.addi v770 c14_i32
  let c256_i32_306 : BitVec 32 := 256#32
  let v772 : BitVec 32 := Scalar.muli v771 c256_i32_306
  v772
def k0_mult16 (k0_t1 : Fin k0_t1_loop.trips) : BitVec 32 :=
  let c0_i32 : BitVec 32 := 0#32
  let c1_i32 : BitVec 32 := 1#32
  let arg18 : BitVec 32 := Scf.iv c0_i32 c1_i32 k0_t1
  let c16_i32_308 : BitVec 32 := 16#32
  let v779 : BitVec 32 := Scalar.muli arg18 c16_i32_308
  let c15_i32 : BitVec 32 := 15#32
  let v780 : BitVec 32 := Scalar.addi v779 c15_i32
  let c256_i32_309 : BitVec 32 := 256#32
  let v781 : BitVec 32 := Scalar.muli v780 c256_i32_309
  v781
@[reducible] def k0_t2_loop : Scf.Loop 32 :=
  let c0_i32_28 : BitVec 32 := 0#32
  let c4_i32_29 : BitVec 32 := 4#32
  let v105 : BitVec 32 := Scalar.addi c0_i32_28 c4_i32_29
  let c1_i32_30 : BitVec 32 := 1#32
  ⟨c0_i32_28, v105, c1_i32_30⟩
def k0_mult17 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_259 : BitVec 32 := 16#32
  let v644 : BitVec 32 := Scalar.muli arg18 c16_i32_259
  let c0_i32_260 : BitVec 32 := 0#32
  let v645 : BitVec 32 := Scalar.addi v644 c0_i32_260
  let c256_i32 : BitVec 32 := 256#32
  let v646 : BitVec 32 := Scalar.muli v645 c256_i32
  v646
def k0_off2 (k0_t2 : Fin k0_t2_loop.trips) (c0_i32_260 : BitVec 32) : Fin 2 → Nat :=
  let c0_261 : Index := 0#32
  let c0_i32_28 : BitVec 32 := 0#32
  let c1_i32_30 : BitVec 32 := 1#32
  let arg18 : BitVec 32 := Scf.iv c0_i32_28 c1_i32_30 k0_t2
  let c16_i32_259 : BitVec 32 := 16#32
  let v644 : BitVec 32 := Scalar.muli arg18 c16_i32_259
  let v645 : BitVec 32 := Scalar.addi v644 c0_i32_260
  let c256_i32 : BitVec 32 := 256#32
  let v646 : BitVec 32 := Scalar.muli v645 c256_i32
  let v647 : BitVec 32 := v646
  let v648 : Index := Scalar.indexCast v647
  ![0, v648.toNat]
def k0_mult18 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_265 : BitVec 32 := 16#32
  let v661 : BitVec 32 := Scalar.muli arg18 c16_i32_265
  let c1_i32_266 : BitVec 32 := 1#32
  let v662 : BitVec 32 := Scalar.addi v661 c1_i32_266
  let c256_i32_267 : BitVec 32 := 256#32
  let v663 : BitVec 32 := Scalar.muli v662 c256_i32_267
  v663
def k0_mult19 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_272 : BitVec 32 := 16#32
  let v678 : BitVec 32 := Scalar.muli arg18 c16_i32_272
  let c2_i32_273 : BitVec 32 := 2#32
  let v679 : BitVec 32 := Scalar.addi v678 c2_i32_273
  let c256_i32_274 : BitVec 32 := 256#32
  let v680 : BitVec 32 := Scalar.muli v679 c256_i32_274
  v680
def k0_mult20 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_279 : BitVec 32 := 16#32
  let v695 : BitVec 32 := Scalar.muli arg18 c16_i32_279
  let c3_i32 : BitVec 32 := 3#32
  let v696 : BitVec 32 := Scalar.addi v695 c3_i32
  let c256_i32_280 : BitVec 32 := 256#32
  let v697 : BitVec 32 := Scalar.muli v696 c256_i32_280
  v697
def k0_mult21 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_285 : BitVec 32 := 16#32
  let v712 : BitVec 32 := Scalar.muli arg18 c16_i32_285
  let c4_i32_286 : BitVec 32 := 4#32
  let v713 : BitVec 32 := Scalar.addi v712 c4_i32_286
  let c256_i32_287 : BitVec 32 := 256#32
  let v714 : BitVec 32 := Scalar.muli v713 c256_i32_287
  v714
def k0_mult22 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_292 : BitVec 32 := 16#32
  let v729 : BitVec 32 := Scalar.muli arg18 c16_i32_292
  let c5_i32 : BitVec 32 := 5#32
  let v730 : BitVec 32 := Scalar.addi v729 c5_i32
  let c256_i32_293 : BitVec 32 := 256#32
  let v731 : BitVec 32 := Scalar.muli v730 c256_i32_293
  v731
def k0_mult23 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_298 : BitVec 32 := 16#32
  let v746 : BitVec 32 := Scalar.muli arg18 c16_i32_298
  let c6_i32 : BitVec 32 := 6#32
  let v747 : BitVec 32 := Scalar.addi v746 c6_i32
  let c256_i32_299 : BitVec 32 := 256#32
  let v748 : BitVec 32 := Scalar.muli v747 c256_i32_299
  v748
def k0_mult24 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_304 : BitVec 32 := 16#32
  let v763 : BitVec 32 := Scalar.muli arg18 c16_i32_304
  let c7_i32 : BitVec 32 := 7#32
  let v764 : BitVec 32 := Scalar.addi v763 c7_i32
  let c256_i32_305 : BitVec 32 := 256#32
  let v765 : BitVec 32 := Scalar.muli v764 c256_i32_305
  v765
def k0_mult25 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_310 : BitVec 32 := 16#32
  let v780 : BitVec 32 := Scalar.muli arg18 c16_i32_310
  let c8_i32_311 : BitVec 32 := 8#32
  let v781 : BitVec 32 := Scalar.addi v780 c8_i32_311
  let c256_i32_312 : BitVec 32 := 256#32
  let v782 : BitVec 32 := Scalar.muli v781 c256_i32_312
  v782
def k0_mult26 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_317 : BitVec 32 := 16#32
  let v797 : BitVec 32 := Scalar.muli arg18 c16_i32_317
  let c9_i32 : BitVec 32 := 9#32
  let v798 : BitVec 32 := Scalar.addi v797 c9_i32
  let c256_i32_318 : BitVec 32 := 256#32
  let v799 : BitVec 32 := Scalar.muli v798 c256_i32_318
  v799
def k0_mult27 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_323 : BitVec 32 := 16#32
  let v814 : BitVec 32 := Scalar.muli arg18 c16_i32_323
  let c10_i32 : BitVec 32 := 10#32
  let v815 : BitVec 32 := Scalar.addi v814 c10_i32
  let c256_i32_324 : BitVec 32 := 256#32
  let v816 : BitVec 32 := Scalar.muli v815 c256_i32_324
  v816
def k0_mult28 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_329 : BitVec 32 := 16#32
  let v831 : BitVec 32 := Scalar.muli arg18 c16_i32_329
  let c11_i32 : BitVec 32 := 11#32
  let v832 : BitVec 32 := Scalar.addi v831 c11_i32
  let c256_i32_330 : BitVec 32 := 256#32
  let v833 : BitVec 32 := Scalar.muli v832 c256_i32_330
  v833
def k0_mult29 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_335 : BitVec 32 := 16#32
  let v848 : BitVec 32 := Scalar.muli arg18 c16_i32_335
  let c12_i32 : BitVec 32 := 12#32
  let v849 : BitVec 32 := Scalar.addi v848 c12_i32
  let c256_i32_336 : BitVec 32 := 256#32
  let v850 : BitVec 32 := Scalar.muli v849 c256_i32_336
  v850
def k0_mult30 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_341 : BitVec 32 := 16#32
  let v865 : BitVec 32 := Scalar.muli arg18 c16_i32_341
  let c13_i32 : BitVec 32 := 13#32
  let v866 : BitVec 32 := Scalar.addi v865 c13_i32
  let c256_i32_342 : BitVec 32 := 256#32
  let v867 : BitVec 32 := Scalar.muli v866 c256_i32_342
  v867
def k0_mult31 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_347 : BitVec 32 := 16#32
  let v882 : BitVec 32 := Scalar.muli arg18 c16_i32_347
  let c14_i32 : BitVec 32 := 14#32
  let v883 : BitVec 32 := Scalar.addi v882 c14_i32
  let c256_i32_348 : BitVec 32 := 256#32
  let v884 : BitVec 32 := Scalar.muli v883 c256_i32_348
  v884
def k0_mult32 (k0_t2 : Fin k0_t2_loop.trips) : BitVec 32 :=
  let c0_i32_28 : BitVec 32 := 0#32
  let c1_i32_30 : BitVec 32 := 1#32
  let arg18 : BitVec 32 := Scf.iv c0_i32_28 c1_i32_30 k0_t2
  let c16_i32_353 : BitVec 32 := 16#32
  let v899 : BitVec 32 := Scalar.muli arg18 c16_i32_353
  let c15_i32 : BitVec 32 := 15#32
  let v900 : BitVec 32 := Scalar.addi v899 c15_i32
  let c256_i32_354 : BitVec 32 := 256#32
  let v901 : BitVec 32 := Scalar.muli v900 c256_i32_354
  v901
@[reducible] def k0_t3_loop : Scf.Loop 32 :=
  let c0_i32_33 : BitVec 32 := 0#32
  let c4_i32_34 : BitVec 32 := 4#32
  let v107 : BitVec 32 := Scalar.addi c0_i32_33 c4_i32_34
  let c1_i32_35 : BitVec 32 := 1#32
  ⟨c0_i32_33, v107, c1_i32_35⟩
def k0_mult33 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_259 : BitVec 32 := 16#32
  let v644 : BitVec 32 := Scalar.muli arg18 c16_i32_259
  let c0_i32_260 : BitVec 32 := 0#32
  let v645 : BitVec 32 := Scalar.addi v644 c0_i32_260
  let c256_i32 : BitVec 32 := 256#32
  let v646 : BitVec 32 := Scalar.muli v645 c256_i32
  v646
def k0_off3 (k0_t3 : Fin k0_t3_loop.trips) (c0_i32_260 : BitVec 32) : Fin 2 → Nat :=
  let c32_261 : Index := 32#32
  let c0_i32_33 : BitVec 32 := 0#32
  let c1_i32_35 : BitVec 32 := 1#32
  let arg18 : BitVec 32 := Scf.iv c0_i32_33 c1_i32_35 k0_t3
  let c16_i32_259 : BitVec 32 := 16#32
  let v644 : BitVec 32 := Scalar.muli arg18 c16_i32_259
  let v645 : BitVec 32 := Scalar.addi v644 c0_i32_260
  let c256_i32 : BitVec 32 := 256#32
  let v646 : BitVec 32 := Scalar.muli v645 c256_i32
  let v647 : BitVec 32 := v646
  let v648 : Index := Scalar.indexCast v647
  ![32, v648.toNat]
def k0_mult34 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_262 : BitVec 32 := 16#32
  let v653 : BitVec 32 := Scalar.muli arg18 c16_i32_262
  let c1_i32_263 : BitVec 32 := 1#32
  let v654 : BitVec 32 := Scalar.addi v653 c1_i32_263
  let c256_i32_264 : BitVec 32 := 256#32
  let v655 : BitVec 32 := Scalar.muli v654 c256_i32_264
  v655
def k0_mult35 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_266 : BitVec 32 := 16#32
  let v662 : BitVec 32 := Scalar.muli arg18 c16_i32_266
  let c2_i32_267 : BitVec 32 := 2#32
  let v663 : BitVec 32 := Scalar.addi v662 c2_i32_267
  let c256_i32_268 : BitVec 32 := 256#32
  let v664 : BitVec 32 := Scalar.muli v663 c256_i32_268
  v664
def k0_mult36 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_270 : BitVec 32 := 16#32
  let v671 : BitVec 32 := Scalar.muli arg18 c16_i32_270
  let c3_i32 : BitVec 32 := 3#32
  let v672 : BitVec 32 := Scalar.addi v671 c3_i32
  let c256_i32_271 : BitVec 32 := 256#32
  let v673 : BitVec 32 := Scalar.muli v672 c256_i32_271
  v673
def k0_mult37 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_273 : BitVec 32 := 16#32
  let v680 : BitVec 32 := Scalar.muli arg18 c16_i32_273
  let c4_i32_274 : BitVec 32 := 4#32
  let v681 : BitVec 32 := Scalar.addi v680 c4_i32_274
  let c256_i32_275 : BitVec 32 := 256#32
  let v682 : BitVec 32 := Scalar.muli v681 c256_i32_275
  v682
def k0_mult38 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_277 : BitVec 32 := 16#32
  let v689 : BitVec 32 := Scalar.muli arg18 c16_i32_277
  let c5_i32 : BitVec 32 := 5#32
  let v690 : BitVec 32 := Scalar.addi v689 c5_i32
  let c256_i32_278 : BitVec 32 := 256#32
  let v691 : BitVec 32 := Scalar.muli v690 c256_i32_278
  v691
def k0_mult39 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_280 : BitVec 32 := 16#32
  let v698 : BitVec 32 := Scalar.muli arg18 c16_i32_280
  let c6_i32 : BitVec 32 := 6#32
  let v699 : BitVec 32 := Scalar.addi v698 c6_i32
  let c256_i32_281 : BitVec 32 := 256#32
  let v700 : BitVec 32 := Scalar.muli v699 c256_i32_281
  v700
def k0_mult40 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_283 : BitVec 32 := 16#32
  let v707 : BitVec 32 := Scalar.muli arg18 c16_i32_283
  let c7_i32 : BitVec 32 := 7#32
  let v708 : BitVec 32 := Scalar.addi v707 c7_i32
  let c256_i32_284 : BitVec 32 := 256#32
  let v709 : BitVec 32 := Scalar.muli v708 c256_i32_284
  v709
def k0_mult41 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_286 : BitVec 32 := 16#32
  let v716 : BitVec 32 := Scalar.muli arg18 c16_i32_286
  let c8_i32_287 : BitVec 32 := 8#32
  let v717 : BitVec 32 := Scalar.addi v716 c8_i32_287
  let c256_i32_288 : BitVec 32 := 256#32
  let v718 : BitVec 32 := Scalar.muli v717 c256_i32_288
  v718
def k0_mult42 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_290 : BitVec 32 := 16#32
  let v725 : BitVec 32 := Scalar.muli arg18 c16_i32_290
  let c9_i32 : BitVec 32 := 9#32
  let v726 : BitVec 32 := Scalar.addi v725 c9_i32
  let c256_i32_291 : BitVec 32 := 256#32
  let v727 : BitVec 32 := Scalar.muli v726 c256_i32_291
  v727
def k0_mult43 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_293 : BitVec 32 := 16#32
  let v734 : BitVec 32 := Scalar.muli arg18 c16_i32_293
  let c10_i32 : BitVec 32 := 10#32
  let v735 : BitVec 32 := Scalar.addi v734 c10_i32
  let c256_i32_294 : BitVec 32 := 256#32
  let v736 : BitVec 32 := Scalar.muli v735 c256_i32_294
  v736
def k0_mult44 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_296 : BitVec 32 := 16#32
  let v743 : BitVec 32 := Scalar.muli arg18 c16_i32_296
  let c11_i32 : BitVec 32 := 11#32
  let v744 : BitVec 32 := Scalar.addi v743 c11_i32
  let c256_i32_297 : BitVec 32 := 256#32
  let v745 : BitVec 32 := Scalar.muli v744 c256_i32_297
  v745
def k0_mult45 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_299 : BitVec 32 := 16#32
  let v752 : BitVec 32 := Scalar.muli arg18 c16_i32_299
  let c12_i32 : BitVec 32 := 12#32
  let v753 : BitVec 32 := Scalar.addi v752 c12_i32
  let c256_i32_300 : BitVec 32 := 256#32
  let v754 : BitVec 32 := Scalar.muli v753 c256_i32_300
  v754
def k0_mult46 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_302 : BitVec 32 := 16#32
  let v761 : BitVec 32 := Scalar.muli arg18 c16_i32_302
  let c13_i32 : BitVec 32 := 13#32
  let v762 : BitVec 32 := Scalar.addi v761 c13_i32
  let c256_i32_303 : BitVec 32 := 256#32
  let v763 : BitVec 32 := Scalar.muli v762 c256_i32_303
  v763
def k0_mult47 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_305 : BitVec 32 := 16#32
  let v770 : BitVec 32 := Scalar.muli arg18 c16_i32_305
  let c14_i32 : BitVec 32 := 14#32
  let v771 : BitVec 32 := Scalar.addi v770 c14_i32
  let c256_i32_306 : BitVec 32 := 256#32
  let v772 : BitVec 32 := Scalar.muli v771 c256_i32_306
  v772
def k0_mult48 (k0_t3 : Fin k0_t3_loop.trips) : BitVec 32 :=
  let c0_i32_33 : BitVec 32 := 0#32
  let c1_i32_35 : BitVec 32 := 1#32
  let arg18 : BitVec 32 := Scf.iv c0_i32_33 c1_i32_35 k0_t3
  let c16_i32_308 : BitVec 32 := 16#32
  let v779 : BitVec 32 := Scalar.muli arg18 c16_i32_308
  let c15_i32 : BitVec 32 := 15#32
  let v780 : BitVec 32 := Scalar.addi v779 c15_i32
  let c256_i32_309 : BitVec 32 := 256#32
  let v781 : BitVec 32 := Scalar.muli v780 c256_i32_309
  v781
@[reducible] def k0_t4_loop : Scf.Loop 32 :=
  let c0_i32_72 : BitVec 32 := 0#32
  let c4_i32_73 : BitVec 32 := 4#32
  let v211 : BitVec 32 := Scalar.addi c0_i32_72 c4_i32_73
  let c1_i32_74 : BitVec 32 := 1#32
  ⟨c0_i32_72, v211, c1_i32_74⟩
def k0_mult49 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_259 : BitVec 32 := 16#32
  let v644 : BitVec 32 := Scalar.muli arg18 c16_i32_259
  let c0_i32_260 : BitVec 32 := 0#32
  let v645 : BitVec 32 := Scalar.addi v644 c0_i32_260
  let c256_i32 : BitVec 32 := 256#32
  let v646 : BitVec 32 := Scalar.muli v645 c256_i32
  v646
def k0_off4 (k0_t4 : Fin k0_t4_loop.trips) (c0_i32_260 : BitVec 32) : Fin 2 → Nat :=
  let c32_261 : Index := 32#32
  let c0_i32_72 : BitVec 32 := 0#32
  let c1_i32_74 : BitVec 32 := 1#32
  let arg18 : BitVec 32 := Scf.iv c0_i32_72 c1_i32_74 k0_t4
  let c16_i32_259 : BitVec 32 := 16#32
  let v644 : BitVec 32 := Scalar.muli arg18 c16_i32_259
  let v645 : BitVec 32 := Scalar.addi v644 c0_i32_260
  let c256_i32 : BitVec 32 := 256#32
  let v646 : BitVec 32 := Scalar.muli v645 c256_i32
  let v647 : BitVec 32 := v646
  let v648 : Index := Scalar.indexCast v647
  ![32, v648.toNat]
def k0_mult50 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_265 : BitVec 32 := 16#32
  let v661 : BitVec 32 := Scalar.muli arg18 c16_i32_265
  let c1_i32_266 : BitVec 32 := 1#32
  let v662 : BitVec 32 := Scalar.addi v661 c1_i32_266
  let c256_i32_267 : BitVec 32 := 256#32
  let v663 : BitVec 32 := Scalar.muli v662 c256_i32_267
  v663
def k0_mult51 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_272 : BitVec 32 := 16#32
  let v678 : BitVec 32 := Scalar.muli arg18 c16_i32_272
  let c2_i32_273 : BitVec 32 := 2#32
  let v679 : BitVec 32 := Scalar.addi v678 c2_i32_273
  let c256_i32_274 : BitVec 32 := 256#32
  let v680 : BitVec 32 := Scalar.muli v679 c256_i32_274
  v680
def k0_mult52 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_279 : BitVec 32 := 16#32
  let v695 : BitVec 32 := Scalar.muli arg18 c16_i32_279
  let c3_i32 : BitVec 32 := 3#32
  let v696 : BitVec 32 := Scalar.addi v695 c3_i32
  let c256_i32_280 : BitVec 32 := 256#32
  let v697 : BitVec 32 := Scalar.muli v696 c256_i32_280
  v697
def k0_mult53 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_285 : BitVec 32 := 16#32
  let v712 : BitVec 32 := Scalar.muli arg18 c16_i32_285
  let c4_i32_286 : BitVec 32 := 4#32
  let v713 : BitVec 32 := Scalar.addi v712 c4_i32_286
  let c256_i32_287 : BitVec 32 := 256#32
  let v714 : BitVec 32 := Scalar.muli v713 c256_i32_287
  v714
def k0_mult54 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_292 : BitVec 32 := 16#32
  let v729 : BitVec 32 := Scalar.muli arg18 c16_i32_292
  let c5_i32 : BitVec 32 := 5#32
  let v730 : BitVec 32 := Scalar.addi v729 c5_i32
  let c256_i32_293 : BitVec 32 := 256#32
  let v731 : BitVec 32 := Scalar.muli v730 c256_i32_293
  v731
def k0_mult55 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_298 : BitVec 32 := 16#32
  let v746 : BitVec 32 := Scalar.muli arg18 c16_i32_298
  let c6_i32 : BitVec 32 := 6#32
  let v747 : BitVec 32 := Scalar.addi v746 c6_i32
  let c256_i32_299 : BitVec 32 := 256#32
  let v748 : BitVec 32 := Scalar.muli v747 c256_i32_299
  v748
def k0_mult56 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_304 : BitVec 32 := 16#32
  let v763 : BitVec 32 := Scalar.muli arg18 c16_i32_304
  let c7_i32 : BitVec 32 := 7#32
  let v764 : BitVec 32 := Scalar.addi v763 c7_i32
  let c256_i32_305 : BitVec 32 := 256#32
  let v765 : BitVec 32 := Scalar.muli v764 c256_i32_305
  v765
def k0_mult57 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_310 : BitVec 32 := 16#32
  let v780 : BitVec 32 := Scalar.muli arg18 c16_i32_310
  let c8_i32_311 : BitVec 32 := 8#32
  let v781 : BitVec 32 := Scalar.addi v780 c8_i32_311
  let c256_i32_312 : BitVec 32 := 256#32
  let v782 : BitVec 32 := Scalar.muli v781 c256_i32_312
  v782
def k0_mult58 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_317 : BitVec 32 := 16#32
  let v797 : BitVec 32 := Scalar.muli arg18 c16_i32_317
  let c9_i32 : BitVec 32 := 9#32
  let v798 : BitVec 32 := Scalar.addi v797 c9_i32
  let c256_i32_318 : BitVec 32 := 256#32
  let v799 : BitVec 32 := Scalar.muli v798 c256_i32_318
  v799
def k0_mult59 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_323 : BitVec 32 := 16#32
  let v814 : BitVec 32 := Scalar.muli arg18 c16_i32_323
  let c10_i32 : BitVec 32 := 10#32
  let v815 : BitVec 32 := Scalar.addi v814 c10_i32
  let c256_i32_324 : BitVec 32 := 256#32
  let v816 : BitVec 32 := Scalar.muli v815 c256_i32_324
  v816
def k0_mult60 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_329 : BitVec 32 := 16#32
  let v831 : BitVec 32 := Scalar.muli arg18 c16_i32_329
  let c11_i32 : BitVec 32 := 11#32
  let v832 : BitVec 32 := Scalar.addi v831 c11_i32
  let c256_i32_330 : BitVec 32 := 256#32
  let v833 : BitVec 32 := Scalar.muli v832 c256_i32_330
  v833
def k0_mult61 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_335 : BitVec 32 := 16#32
  let v848 : BitVec 32 := Scalar.muli arg18 c16_i32_335
  let c12_i32 : BitVec 32 := 12#32
  let v849 : BitVec 32 := Scalar.addi v848 c12_i32
  let c256_i32_336 : BitVec 32 := 256#32
  let v850 : BitVec 32 := Scalar.muli v849 c256_i32_336
  v850
def k0_mult62 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_341 : BitVec 32 := 16#32
  let v865 : BitVec 32 := Scalar.muli arg18 c16_i32_341
  let c13_i32 : BitVec 32 := 13#32
  let v866 : BitVec 32 := Scalar.addi v865 c13_i32
  let c256_i32_342 : BitVec 32 := 256#32
  let v867 : BitVec 32 := Scalar.muli v866 c256_i32_342
  v867
def k0_mult63 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_347 : BitVec 32 := 16#32
  let v882 : BitVec 32 := Scalar.muli arg18 c16_i32_347
  let c14_i32 : BitVec 32 := 14#32
  let v883 : BitVec 32 := Scalar.addi v882 c14_i32
  let c256_i32_348 : BitVec 32 := 256#32
  let v884 : BitVec 32 := Scalar.muli v883 c256_i32_348
  v884
def k0_mult64 (k0_t4 : Fin k0_t4_loop.trips) : BitVec 32 :=
  let c0_i32_72 : BitVec 32 := 0#32
  let c1_i32_74 : BitVec 32 := 1#32
  let arg18 : BitVec 32 := Scf.iv c0_i32_72 c1_i32_74 k0_t4
  let c16_i32_353 : BitVec 32 := 16#32
  let v899 : BitVec 32 := Scalar.muli arg18 c16_i32_353
  let c15_i32 : BitVec 32 := 15#32
  let v900 : BitVec 32 := Scalar.addi v899 c15_i32
  let c256_i32_354 : BitVec 32 := 256#32
  let v901 : BitVec 32 := Scalar.muli v900 c256_i32_354
  v901
@[reducible] def k0_t5_loop : Scf.Loop 32 :=
  let c0_i32_77 : BitVec 32 := 0#32
  let c4_i32_78 : BitVec 32 := 4#32
  let v213 : BitVec 32 := Scalar.addi c0_i32_77 c4_i32_78
  let c1_i32_79 : BitVec 32 := 1#32
  ⟨c0_i32_77, v213, c1_i32_79⟩
def k0_mult65 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_259 : BitVec 32 := 16#32
  let v644 : BitVec 32 := Scalar.muli arg18 c16_i32_259
  let c0_i32_260 : BitVec 32 := 0#32
  let v645 : BitVec 32 := Scalar.addi v644 c0_i32_260
  let c256_i32 : BitVec 32 := 256#32
  let v646 : BitVec 32 := Scalar.muli v645 c256_i32
  v646
def k0_off5 (k0_t5 : Fin k0_t5_loop.trips) (c0_i32_260 : BitVec 32) : Fin 2 → Nat :=
  let c64_261 : Index := 64#32
  let c0_i32_77 : BitVec 32 := 0#32
  let c1_i32_79 : BitVec 32 := 1#32
  let arg18 : BitVec 32 := Scf.iv c0_i32_77 c1_i32_79 k0_t5
  let c16_i32_259 : BitVec 32 := 16#32
  let v644 : BitVec 32 := Scalar.muli arg18 c16_i32_259
  let v645 : BitVec 32 := Scalar.addi v644 c0_i32_260
  let c256_i32 : BitVec 32 := 256#32
  let v646 : BitVec 32 := Scalar.muli v645 c256_i32
  let v647 : BitVec 32 := v646
  let v648 : Index := Scalar.indexCast v647
  ![64, v648.toNat]
def k0_mult66 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_262 : BitVec 32 := 16#32
  let v653 : BitVec 32 := Scalar.muli arg18 c16_i32_262
  let c1_i32_263 : BitVec 32 := 1#32
  let v654 : BitVec 32 := Scalar.addi v653 c1_i32_263
  let c256_i32_264 : BitVec 32 := 256#32
  let v655 : BitVec 32 := Scalar.muli v654 c256_i32_264
  v655
def k0_mult67 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_266 : BitVec 32 := 16#32
  let v662 : BitVec 32 := Scalar.muli arg18 c16_i32_266
  let c2_i32_267 : BitVec 32 := 2#32
  let v663 : BitVec 32 := Scalar.addi v662 c2_i32_267
  let c256_i32_268 : BitVec 32 := 256#32
  let v664 : BitVec 32 := Scalar.muli v663 c256_i32_268
  v664
def k0_mult68 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_270 : BitVec 32 := 16#32
  let v671 : BitVec 32 := Scalar.muli arg18 c16_i32_270
  let c3_i32 : BitVec 32 := 3#32
  let v672 : BitVec 32 := Scalar.addi v671 c3_i32
  let c256_i32_271 : BitVec 32 := 256#32
  let v673 : BitVec 32 := Scalar.muli v672 c256_i32_271
  v673
def k0_mult69 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_273 : BitVec 32 := 16#32
  let v680 : BitVec 32 := Scalar.muli arg18 c16_i32_273
  let c4_i32_274 : BitVec 32 := 4#32
  let v681 : BitVec 32 := Scalar.addi v680 c4_i32_274
  let c256_i32_275 : BitVec 32 := 256#32
  let v682 : BitVec 32 := Scalar.muli v681 c256_i32_275
  v682
def k0_mult70 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_277 : BitVec 32 := 16#32
  let v689 : BitVec 32 := Scalar.muli arg18 c16_i32_277
  let c5_i32 : BitVec 32 := 5#32
  let v690 : BitVec 32 := Scalar.addi v689 c5_i32
  let c256_i32_278 : BitVec 32 := 256#32
  let v691 : BitVec 32 := Scalar.muli v690 c256_i32_278
  v691
def k0_mult71 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_280 : BitVec 32 := 16#32
  let v698 : BitVec 32 := Scalar.muli arg18 c16_i32_280
  let c6_i32 : BitVec 32 := 6#32
  let v699 : BitVec 32 := Scalar.addi v698 c6_i32
  let c256_i32_281 : BitVec 32 := 256#32
  let v700 : BitVec 32 := Scalar.muli v699 c256_i32_281
  v700
def k0_mult72 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_283 : BitVec 32 := 16#32
  let v707 : BitVec 32 := Scalar.muli arg18 c16_i32_283
  let c7_i32 : BitVec 32 := 7#32
  let v708 : BitVec 32 := Scalar.addi v707 c7_i32
  let c256_i32_284 : BitVec 32 := 256#32
  let v709 : BitVec 32 := Scalar.muli v708 c256_i32_284
  v709
def k0_mult73 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_286 : BitVec 32 := 16#32
  let v716 : BitVec 32 := Scalar.muli arg18 c16_i32_286
  let c8_i32_287 : BitVec 32 := 8#32
  let v717 : BitVec 32 := Scalar.addi v716 c8_i32_287
  let c256_i32_288 : BitVec 32 := 256#32
  let v718 : BitVec 32 := Scalar.muli v717 c256_i32_288
  v718
def k0_mult74 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_290 : BitVec 32 := 16#32
  let v725 : BitVec 32 := Scalar.muli arg18 c16_i32_290
  let c9_i32 : BitVec 32 := 9#32
  let v726 : BitVec 32 := Scalar.addi v725 c9_i32
  let c256_i32_291 : BitVec 32 := 256#32
  let v727 : BitVec 32 := Scalar.muli v726 c256_i32_291
  v727
def k0_mult75 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_293 : BitVec 32 := 16#32
  let v734 : BitVec 32 := Scalar.muli arg18 c16_i32_293
  let c10_i32 : BitVec 32 := 10#32
  let v735 : BitVec 32 := Scalar.addi v734 c10_i32
  let c256_i32_294 : BitVec 32 := 256#32
  let v736 : BitVec 32 := Scalar.muli v735 c256_i32_294
  v736
def k0_mult76 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_296 : BitVec 32 := 16#32
  let v743 : BitVec 32 := Scalar.muli arg18 c16_i32_296
  let c11_i32 : BitVec 32 := 11#32
  let v744 : BitVec 32 := Scalar.addi v743 c11_i32
  let c256_i32_297 : BitVec 32 := 256#32
  let v745 : BitVec 32 := Scalar.muli v744 c256_i32_297
  v745
def k0_mult77 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_299 : BitVec 32 := 16#32
  let v752 : BitVec 32 := Scalar.muli arg18 c16_i32_299
  let c12_i32 : BitVec 32 := 12#32
  let v753 : BitVec 32 := Scalar.addi v752 c12_i32
  let c256_i32_300 : BitVec 32 := 256#32
  let v754 : BitVec 32 := Scalar.muli v753 c256_i32_300
  v754
def k0_mult78 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_302 : BitVec 32 := 16#32
  let v761 : BitVec 32 := Scalar.muli arg18 c16_i32_302
  let c13_i32 : BitVec 32 := 13#32
  let v762 : BitVec 32 := Scalar.addi v761 c13_i32
  let c256_i32_303 : BitVec 32 := 256#32
  let v763 : BitVec 32 := Scalar.muli v762 c256_i32_303
  v763
def k0_mult79 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_305 : BitVec 32 := 16#32
  let v770 : BitVec 32 := Scalar.muli arg18 c16_i32_305
  let c14_i32 : BitVec 32 := 14#32
  let v771 : BitVec 32 := Scalar.addi v770 c14_i32
  let c256_i32_306 : BitVec 32 := 256#32
  let v772 : BitVec 32 := Scalar.muli v771 c256_i32_306
  v772
def k0_mult80 (k0_t5 : Fin k0_t5_loop.trips) : BitVec 32 :=
  let c0_i32_77 : BitVec 32 := 0#32
  let c1_i32_79 : BitVec 32 := 1#32
  let arg18 : BitVec 32 := Scf.iv c0_i32_77 c1_i32_79 k0_t5
  let c16_i32_308 : BitVec 32 := 16#32
  let v779 : BitVec 32 := Scalar.muli arg18 c16_i32_308
  let c15_i32 : BitVec 32 := 15#32
  let v780 : BitVec 32 := Scalar.addi v779 c15_i32
  let c256_i32_309 : BitVec 32 := 256#32
  let v781 : BitVec 32 := Scalar.muli v780 c256_i32_309
  v781
@[reducible] def k0_t6_loop : Scf.Loop 32 :=
  let c0_i32_116 : BitVec 32 := 0#32
  let c4_i32_117 : BitVec 32 := 4#32
  let v317 : BitVec 32 := Scalar.addi c0_i32_116 c4_i32_117
  let c1_i32_118 : BitVec 32 := 1#32
  ⟨c0_i32_116, v317, c1_i32_118⟩
def k0_mult81 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_259 : BitVec 32 := 16#32
  let v644 : BitVec 32 := Scalar.muli arg18 c16_i32_259
  let c0_i32_260 : BitVec 32 := 0#32
  let v645 : BitVec 32 := Scalar.addi v644 c0_i32_260
  let c256_i32 : BitVec 32 := 256#32
  let v646 : BitVec 32 := Scalar.muli v645 c256_i32
  v646
def k0_off6 (k0_t6 : Fin k0_t6_loop.trips) (c0_i32_260 : BitVec 32) : Fin 2 → Nat :=
  let c64_261 : Index := 64#32
  let c0_i32_116 : BitVec 32 := 0#32
  let c1_i32_118 : BitVec 32 := 1#32
  let arg18 : BitVec 32 := Scf.iv c0_i32_116 c1_i32_118 k0_t6
  let c16_i32_259 : BitVec 32 := 16#32
  let v644 : BitVec 32 := Scalar.muli arg18 c16_i32_259
  let v645 : BitVec 32 := Scalar.addi v644 c0_i32_260
  let c256_i32 : BitVec 32 := 256#32
  let v646 : BitVec 32 := Scalar.muli v645 c256_i32
  let v647 : BitVec 32 := v646
  let v648 : Index := Scalar.indexCast v647
  ![64, v648.toNat]
def k0_mult82 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_265 : BitVec 32 := 16#32
  let v661 : BitVec 32 := Scalar.muli arg18 c16_i32_265
  let c1_i32_266 : BitVec 32 := 1#32
  let v662 : BitVec 32 := Scalar.addi v661 c1_i32_266
  let c256_i32_267 : BitVec 32 := 256#32
  let v663 : BitVec 32 := Scalar.muli v662 c256_i32_267
  v663
def k0_mult83 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_272 : BitVec 32 := 16#32
  let v678 : BitVec 32 := Scalar.muli arg18 c16_i32_272
  let c2_i32_273 : BitVec 32 := 2#32
  let v679 : BitVec 32 := Scalar.addi v678 c2_i32_273
  let c256_i32_274 : BitVec 32 := 256#32
  let v680 : BitVec 32 := Scalar.muli v679 c256_i32_274
  v680
def k0_mult84 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_279 : BitVec 32 := 16#32
  let v695 : BitVec 32 := Scalar.muli arg18 c16_i32_279
  let c3_i32 : BitVec 32 := 3#32
  let v696 : BitVec 32 := Scalar.addi v695 c3_i32
  let c256_i32_280 : BitVec 32 := 256#32
  let v697 : BitVec 32 := Scalar.muli v696 c256_i32_280
  v697
def k0_mult85 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_285 : BitVec 32 := 16#32
  let v712 : BitVec 32 := Scalar.muli arg18 c16_i32_285
  let c4_i32_286 : BitVec 32 := 4#32
  let v713 : BitVec 32 := Scalar.addi v712 c4_i32_286
  let c256_i32_287 : BitVec 32 := 256#32
  let v714 : BitVec 32 := Scalar.muli v713 c256_i32_287
  v714
def k0_mult86 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_292 : BitVec 32 := 16#32
  let v729 : BitVec 32 := Scalar.muli arg18 c16_i32_292
  let c5_i32 : BitVec 32 := 5#32
  let v730 : BitVec 32 := Scalar.addi v729 c5_i32
  let c256_i32_293 : BitVec 32 := 256#32
  let v731 : BitVec 32 := Scalar.muli v730 c256_i32_293
  v731
def k0_mult87 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_298 : BitVec 32 := 16#32
  let v746 : BitVec 32 := Scalar.muli arg18 c16_i32_298
  let c6_i32 : BitVec 32 := 6#32
  let v747 : BitVec 32 := Scalar.addi v746 c6_i32
  let c256_i32_299 : BitVec 32 := 256#32
  let v748 : BitVec 32 := Scalar.muli v747 c256_i32_299
  v748
def k0_mult88 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_304 : BitVec 32 := 16#32
  let v763 : BitVec 32 := Scalar.muli arg18 c16_i32_304
  let c7_i32 : BitVec 32 := 7#32
  let v764 : BitVec 32 := Scalar.addi v763 c7_i32
  let c256_i32_305 : BitVec 32 := 256#32
  let v765 : BitVec 32 := Scalar.muli v764 c256_i32_305
  v765
def k0_mult89 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_310 : BitVec 32 := 16#32
  let v780 : BitVec 32 := Scalar.muli arg18 c16_i32_310
  let c8_i32_311 : BitVec 32 := 8#32
  let v781 : BitVec 32 := Scalar.addi v780 c8_i32_311
  let c256_i32_312 : BitVec 32 := 256#32
  let v782 : BitVec 32 := Scalar.muli v781 c256_i32_312
  v782
def k0_mult90 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_317 : BitVec 32 := 16#32
  let v797 : BitVec 32 := Scalar.muli arg18 c16_i32_317
  let c9_i32 : BitVec 32 := 9#32
  let v798 : BitVec 32 := Scalar.addi v797 c9_i32
  let c256_i32_318 : BitVec 32 := 256#32
  let v799 : BitVec 32 := Scalar.muli v798 c256_i32_318
  v799
def k0_mult91 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_323 : BitVec 32 := 16#32
  let v814 : BitVec 32 := Scalar.muli arg18 c16_i32_323
  let c10_i32 : BitVec 32 := 10#32
  let v815 : BitVec 32 := Scalar.addi v814 c10_i32
  let c256_i32_324 : BitVec 32 := 256#32
  let v816 : BitVec 32 := Scalar.muli v815 c256_i32_324
  v816
def k0_mult92 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_329 : BitVec 32 := 16#32
  let v831 : BitVec 32 := Scalar.muli arg18 c16_i32_329
  let c11_i32 : BitVec 32 := 11#32
  let v832 : BitVec 32 := Scalar.addi v831 c11_i32
  let c256_i32_330 : BitVec 32 := 256#32
  let v833 : BitVec 32 := Scalar.muli v832 c256_i32_330
  v833
def k0_mult93 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_335 : BitVec 32 := 16#32
  let v848 : BitVec 32 := Scalar.muli arg18 c16_i32_335
  let c12_i32 : BitVec 32 := 12#32
  let v849 : BitVec 32 := Scalar.addi v848 c12_i32
  let c256_i32_336 : BitVec 32 := 256#32
  let v850 : BitVec 32 := Scalar.muli v849 c256_i32_336
  v850
def k0_mult94 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_341 : BitVec 32 := 16#32
  let v865 : BitVec 32 := Scalar.muli arg18 c16_i32_341
  let c13_i32 : BitVec 32 := 13#32
  let v866 : BitVec 32 := Scalar.addi v865 c13_i32
  let c256_i32_342 : BitVec 32 := 256#32
  let v867 : BitVec 32 := Scalar.muli v866 c256_i32_342
  v867
def k0_mult95 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_347 : BitVec 32 := 16#32
  let v882 : BitVec 32 := Scalar.muli arg18 c16_i32_347
  let c14_i32 : BitVec 32 := 14#32
  let v883 : BitVec 32 := Scalar.addi v882 c14_i32
  let c256_i32_348 : BitVec 32 := 256#32
  let v884 : BitVec 32 := Scalar.muli v883 c256_i32_348
  v884
def k0_mult96 (k0_t6 : Fin k0_t6_loop.trips) : BitVec 32 :=
  let c0_i32_116 : BitVec 32 := 0#32
  let c1_i32_118 : BitVec 32 := 1#32
  let arg18 : BitVec 32 := Scf.iv c0_i32_116 c1_i32_118 k0_t6
  let c16_i32_353 : BitVec 32 := 16#32
  let v899 : BitVec 32 := Scalar.muli arg18 c16_i32_353
  let c15_i32 : BitVec 32 := 15#32
  let v900 : BitVec 32 := Scalar.addi v899 c15_i32
  let c256_i32_354 : BitVec 32 := 256#32
  let v901 : BitVec 32 := Scalar.muli v900 c256_i32_354
  v901
@[reducible] def k0_t7_loop : Scf.Loop 32 :=
  let c0_i32_121 : BitVec 32 := 0#32
  let c4_i32_122 : BitVec 32 := 4#32
  let v319 : BitVec 32 := Scalar.addi c0_i32_121 c4_i32_122
  let c1_i32_123 : BitVec 32 := 1#32
  ⟨c0_i32_121, v319, c1_i32_123⟩
def k0_mult97 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_259 : BitVec 32 := 16#32
  let v644 : BitVec 32 := Scalar.muli arg18 c16_i32_259
  let c0_i32_260 : BitVec 32 := 0#32
  let v645 : BitVec 32 := Scalar.addi v644 c0_i32_260
  let c256_i32 : BitVec 32 := 256#32
  let v646 : BitVec 32 := Scalar.muli v645 c256_i32
  v646
def k0_off7 (k0_t7 : Fin k0_t7_loop.trips) (c0_i32_260 : BitVec 32) : Fin 2 → Nat :=
  let c96_261 : Index := 96#32
  let c0_i32_121 : BitVec 32 := 0#32
  let c1_i32_123 : BitVec 32 := 1#32
  let arg18 : BitVec 32 := Scf.iv c0_i32_121 c1_i32_123 k0_t7
  let c16_i32_259 : BitVec 32 := 16#32
  let v644 : BitVec 32 := Scalar.muli arg18 c16_i32_259
  let v645 : BitVec 32 := Scalar.addi v644 c0_i32_260
  let c256_i32 : BitVec 32 := 256#32
  let v646 : BitVec 32 := Scalar.muli v645 c256_i32
  let v647 : BitVec 32 := v646
  let v648 : Index := Scalar.indexCast v647
  ![96, v648.toNat]
def k0_mult98 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_262 : BitVec 32 := 16#32
  let v653 : BitVec 32 := Scalar.muli arg18 c16_i32_262
  let c1_i32_263 : BitVec 32 := 1#32
  let v654 : BitVec 32 := Scalar.addi v653 c1_i32_263
  let c256_i32_264 : BitVec 32 := 256#32
  let v655 : BitVec 32 := Scalar.muli v654 c256_i32_264
  v655
def k0_mult99 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_266 : BitVec 32 := 16#32
  let v662 : BitVec 32 := Scalar.muli arg18 c16_i32_266
  let c2_i32_267 : BitVec 32 := 2#32
  let v663 : BitVec 32 := Scalar.addi v662 c2_i32_267
  let c256_i32_268 : BitVec 32 := 256#32
  let v664 : BitVec 32 := Scalar.muli v663 c256_i32_268
  v664
def k0_mult100 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_270 : BitVec 32 := 16#32
  let v671 : BitVec 32 := Scalar.muli arg18 c16_i32_270
  let c3_i32 : BitVec 32 := 3#32
  let v672 : BitVec 32 := Scalar.addi v671 c3_i32
  let c256_i32_271 : BitVec 32 := 256#32
  let v673 : BitVec 32 := Scalar.muli v672 c256_i32_271
  v673
def k0_mult101 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_273 : BitVec 32 := 16#32
  let v680 : BitVec 32 := Scalar.muli arg18 c16_i32_273
  let c4_i32_274 : BitVec 32 := 4#32
  let v681 : BitVec 32 := Scalar.addi v680 c4_i32_274
  let c256_i32_275 : BitVec 32 := 256#32
  let v682 : BitVec 32 := Scalar.muli v681 c256_i32_275
  v682
def k0_mult102 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_277 : BitVec 32 := 16#32
  let v689 : BitVec 32 := Scalar.muli arg18 c16_i32_277
  let c5_i32 : BitVec 32 := 5#32
  let v690 : BitVec 32 := Scalar.addi v689 c5_i32
  let c256_i32_278 : BitVec 32 := 256#32
  let v691 : BitVec 32 := Scalar.muli v690 c256_i32_278
  v691
def k0_mult103 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_280 : BitVec 32 := 16#32
  let v698 : BitVec 32 := Scalar.muli arg18 c16_i32_280
  let c6_i32 : BitVec 32 := 6#32
  let v699 : BitVec 32 := Scalar.addi v698 c6_i32
  let c256_i32_281 : BitVec 32 := 256#32
  let v700 : BitVec 32 := Scalar.muli v699 c256_i32_281
  v700
def k0_mult104 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_283 : BitVec 32 := 16#32
  let v707 : BitVec 32 := Scalar.muli arg18 c16_i32_283
  let c7_i32 : BitVec 32 := 7#32
  let v708 : BitVec 32 := Scalar.addi v707 c7_i32
  let c256_i32_284 : BitVec 32 := 256#32
  let v709 : BitVec 32 := Scalar.muli v708 c256_i32_284
  v709
def k0_mult105 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_286 : BitVec 32 := 16#32
  let v716 : BitVec 32 := Scalar.muli arg18 c16_i32_286
  let c8_i32_287 : BitVec 32 := 8#32
  let v717 : BitVec 32 := Scalar.addi v716 c8_i32_287
  let c256_i32_288 : BitVec 32 := 256#32
  let v718 : BitVec 32 := Scalar.muli v717 c256_i32_288
  v718
def k0_mult106 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_290 : BitVec 32 := 16#32
  let v725 : BitVec 32 := Scalar.muli arg18 c16_i32_290
  let c9_i32 : BitVec 32 := 9#32
  let v726 : BitVec 32 := Scalar.addi v725 c9_i32
  let c256_i32_291 : BitVec 32 := 256#32
  let v727 : BitVec 32 := Scalar.muli v726 c256_i32_291
  v727
def k0_mult107 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_293 : BitVec 32 := 16#32
  let v734 : BitVec 32 := Scalar.muli arg18 c16_i32_293
  let c10_i32 : BitVec 32 := 10#32
  let v735 : BitVec 32 := Scalar.addi v734 c10_i32
  let c256_i32_294 : BitVec 32 := 256#32
  let v736 : BitVec 32 := Scalar.muli v735 c256_i32_294
  v736
def k0_mult108 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_296 : BitVec 32 := 16#32
  let v743 : BitVec 32 := Scalar.muli arg18 c16_i32_296
  let c11_i32 : BitVec 32 := 11#32
  let v744 : BitVec 32 := Scalar.addi v743 c11_i32
  let c256_i32_297 : BitVec 32 := 256#32
  let v745 : BitVec 32 := Scalar.muli v744 c256_i32_297
  v745
def k0_mult109 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_299 : BitVec 32 := 16#32
  let v752 : BitVec 32 := Scalar.muli arg18 c16_i32_299
  let c12_i32 : BitVec 32 := 12#32
  let v753 : BitVec 32 := Scalar.addi v752 c12_i32
  let c256_i32_300 : BitVec 32 := 256#32
  let v754 : BitVec 32 := Scalar.muli v753 c256_i32_300
  v754
def k0_mult110 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_302 : BitVec 32 := 16#32
  let v761 : BitVec 32 := Scalar.muli arg18 c16_i32_302
  let c13_i32 : BitVec 32 := 13#32
  let v762 : BitVec 32 := Scalar.addi v761 c13_i32
  let c256_i32_303 : BitVec 32 := 256#32
  let v763 : BitVec 32 := Scalar.muli v762 c256_i32_303
  v763
def k0_mult111 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_305 : BitVec 32 := 16#32
  let v770 : BitVec 32 := Scalar.muli arg18 c16_i32_305
  let c14_i32 : BitVec 32 := 14#32
  let v771 : BitVec 32 := Scalar.addi v770 c14_i32
  let c256_i32_306 : BitVec 32 := 256#32
  let v772 : BitVec 32 := Scalar.muli v771 c256_i32_306
  v772
def k0_mult112 (k0_t7 : Fin k0_t7_loop.trips) : BitVec 32 :=
  let c0_i32_121 : BitVec 32 := 0#32
  let c1_i32_123 : BitVec 32 := 1#32
  let arg18 : BitVec 32 := Scf.iv c0_i32_121 c1_i32_123 k0_t7
  let c16_i32_308 : BitVec 32 := 16#32
  let v779 : BitVec 32 := Scalar.muli arg18 c16_i32_308
  let c15_i32 : BitVec 32 := 15#32
  let v780 : BitVec 32 := Scalar.addi v779 c15_i32
  let c256_i32_309 : BitVec 32 := 256#32
  let v781 : BitVec 32 := Scalar.muli v780 c256_i32_309
  v781
@[reducible] def k0_t8_loop : Scf.Loop 32 :=
  let c0_i32_160 : BitVec 32 := 0#32
  let c4_i32_161 : BitVec 32 := 4#32
  let v423 : BitVec 32 := Scalar.addi c0_i32_160 c4_i32_161
  let c1_i32_162 : BitVec 32 := 1#32
  ⟨c0_i32_160, v423, c1_i32_162⟩
def k0_mult113 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_259 : BitVec 32 := 16#32
  let v644 : BitVec 32 := Scalar.muli arg18 c16_i32_259
  let c0_i32_260 : BitVec 32 := 0#32
  let v645 : BitVec 32 := Scalar.addi v644 c0_i32_260
  let c256_i32 : BitVec 32 := 256#32
  let v646 : BitVec 32 := Scalar.muli v645 c256_i32
  v646
def k0_off8 (k0_t8 : Fin k0_t8_loop.trips) (c0_i32_260 : BitVec 32) : Fin 2 → Nat :=
  let c96_261 : Index := 96#32
  let c0_i32_160 : BitVec 32 := 0#32
  let c1_i32_162 : BitVec 32 := 1#32
  let arg18 : BitVec 32 := Scf.iv c0_i32_160 c1_i32_162 k0_t8
  let c16_i32_259 : BitVec 32 := 16#32
  let v644 : BitVec 32 := Scalar.muli arg18 c16_i32_259
  let v645 : BitVec 32 := Scalar.addi v644 c0_i32_260
  let c256_i32 : BitVec 32 := 256#32
  let v646 : BitVec 32 := Scalar.muli v645 c256_i32
  let v647 : BitVec 32 := v646
  let v648 : Index := Scalar.indexCast v647
  ![96, v648.toNat]
def k0_mult114 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_265 : BitVec 32 := 16#32
  let v661 : BitVec 32 := Scalar.muli arg18 c16_i32_265
  let c1_i32_266 : BitVec 32 := 1#32
  let v662 : BitVec 32 := Scalar.addi v661 c1_i32_266
  let c256_i32_267 : BitVec 32 := 256#32
  let v663 : BitVec 32 := Scalar.muli v662 c256_i32_267
  v663
def k0_mult115 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_272 : BitVec 32 := 16#32
  let v678 : BitVec 32 := Scalar.muli arg18 c16_i32_272
  let c2_i32_273 : BitVec 32 := 2#32
  let v679 : BitVec 32 := Scalar.addi v678 c2_i32_273
  let c256_i32_274 : BitVec 32 := 256#32
  let v680 : BitVec 32 := Scalar.muli v679 c256_i32_274
  v680
def k0_mult116 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_279 : BitVec 32 := 16#32
  let v695 : BitVec 32 := Scalar.muli arg18 c16_i32_279
  let c3_i32 : BitVec 32 := 3#32
  let v696 : BitVec 32 := Scalar.addi v695 c3_i32
  let c256_i32_280 : BitVec 32 := 256#32
  let v697 : BitVec 32 := Scalar.muli v696 c256_i32_280
  v697
def k0_mult117 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_285 : BitVec 32 := 16#32
  let v712 : BitVec 32 := Scalar.muli arg18 c16_i32_285
  let c4_i32_286 : BitVec 32 := 4#32
  let v713 : BitVec 32 := Scalar.addi v712 c4_i32_286
  let c256_i32_287 : BitVec 32 := 256#32
  let v714 : BitVec 32 := Scalar.muli v713 c256_i32_287
  v714
def k0_mult118 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_292 : BitVec 32 := 16#32
  let v729 : BitVec 32 := Scalar.muli arg18 c16_i32_292
  let c5_i32 : BitVec 32 := 5#32
  let v730 : BitVec 32 := Scalar.addi v729 c5_i32
  let c256_i32_293 : BitVec 32 := 256#32
  let v731 : BitVec 32 := Scalar.muli v730 c256_i32_293
  v731
def k0_mult119 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_298 : BitVec 32 := 16#32
  let v746 : BitVec 32 := Scalar.muli arg18 c16_i32_298
  let c6_i32 : BitVec 32 := 6#32
  let v747 : BitVec 32 := Scalar.addi v746 c6_i32
  let c256_i32_299 : BitVec 32 := 256#32
  let v748 : BitVec 32 := Scalar.muli v747 c256_i32_299
  v748
def k0_mult120 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_304 : BitVec 32 := 16#32
  let v763 : BitVec 32 := Scalar.muli arg18 c16_i32_304
  let c7_i32 : BitVec 32 := 7#32
  let v764 : BitVec 32 := Scalar.addi v763 c7_i32
  let c256_i32_305 : BitVec 32 := 256#32
  let v765 : BitVec 32 := Scalar.muli v764 c256_i32_305
  v765
def k0_mult121 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_310 : BitVec 32 := 16#32
  let v780 : BitVec 32 := Scalar.muli arg18 c16_i32_310
  let c8_i32_311 : BitVec 32 := 8#32
  let v781 : BitVec 32 := Scalar.addi v780 c8_i32_311
  let c256_i32_312 : BitVec 32 := 256#32
  let v782 : BitVec 32 := Scalar.muli v781 c256_i32_312
  v782
def k0_mult122 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_317 : BitVec 32 := 16#32
  let v797 : BitVec 32 := Scalar.muli arg18 c16_i32_317
  let c9_i32 : BitVec 32 := 9#32
  let v798 : BitVec 32 := Scalar.addi v797 c9_i32
  let c256_i32_318 : BitVec 32 := 256#32
  let v799 : BitVec 32 := Scalar.muli v798 c256_i32_318
  v799
def k0_mult123 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_323 : BitVec 32 := 16#32
  let v814 : BitVec 32 := Scalar.muli arg18 c16_i32_323
  let c10_i32 : BitVec 32 := 10#32
  let v815 : BitVec 32 := Scalar.addi v814 c10_i32
  let c256_i32_324 : BitVec 32 := 256#32
  let v816 : BitVec 32 := Scalar.muli v815 c256_i32_324
  v816
def k0_mult124 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_329 : BitVec 32 := 16#32
  let v831 : BitVec 32 := Scalar.muli arg18 c16_i32_329
  let c11_i32 : BitVec 32 := 11#32
  let v832 : BitVec 32 := Scalar.addi v831 c11_i32
  let c256_i32_330 : BitVec 32 := 256#32
  let v833 : BitVec 32 := Scalar.muli v832 c256_i32_330
  v833
def k0_mult125 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_335 : BitVec 32 := 16#32
  let v848 : BitVec 32 := Scalar.muli arg18 c16_i32_335
  let c12_i32 : BitVec 32 := 12#32
  let v849 : BitVec 32 := Scalar.addi v848 c12_i32
  let c256_i32_336 : BitVec 32 := 256#32
  let v850 : BitVec 32 := Scalar.muli v849 c256_i32_336
  v850
def k0_mult126 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_341 : BitVec 32 := 16#32
  let v865 : BitVec 32 := Scalar.muli arg18 c16_i32_341
  let c13_i32 : BitVec 32 := 13#32
  let v866 : BitVec 32 := Scalar.addi v865 c13_i32
  let c256_i32_342 : BitVec 32 := 256#32
  let v867 : BitVec 32 := Scalar.muli v866 c256_i32_342
  v867
def k0_mult127 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_347 : BitVec 32 := 16#32
  let v882 : BitVec 32 := Scalar.muli arg18 c16_i32_347
  let c14_i32 : BitVec 32 := 14#32
  let v883 : BitVec 32 := Scalar.addi v882 c14_i32
  let c256_i32_348 : BitVec 32 := 256#32
  let v884 : BitVec 32 := Scalar.muli v883 c256_i32_348
  v884
def k0_mult128 (k0_t8 : Fin k0_t8_loop.trips) : BitVec 32 :=
  let c0_i32_160 : BitVec 32 := 0#32
  let c1_i32_162 : BitVec 32 := 1#32
  let arg18 : BitVec 32 := Scf.iv c0_i32_160 c1_i32_162 k0_t8
  let c16_i32_353 : BitVec 32 := 16#32
  let v899 : BitVec 32 := Scalar.muli arg18 c16_i32_353
  let c15_i32 : BitVec 32 := 15#32
  let v900 : BitVec 32 := Scalar.addi v899 c15_i32
  let c256_i32_354 : BitVec 32 := 256#32
  let v901 : BitVec 32 := Scalar.muli v900 c256_i32_354
  v901
def k0_off9 (i : grid0.Coords) : Fin 2 → Nat :=
  let arg0 : BitVec 32 := BitVec.ofNat 32 (i 0).val
  let v427 : Index := Scalar.indexCast arg0
  let c0_166 : Index := 0#32
  ![v427.toNat, 0]
@[reducible] def k0_t9_loop : Scf.Loop 32 :=
  let c0_i32_168 : BitVec 32 := 0#32
  let c8_i32_169 : BitVec 32 := 8#32
  let v430 : BitVec 32 := Scalar.addi c0_i32_168 c8_i32_169
  let c1_i32_170 : BitVec 32 := 1#32
  ⟨c0_i32_168, v430, c1_i32_170⟩
def k0_mult129 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_259 : BitVec 32 := 16#32
  let v644 : BitVec 32 := Scalar.muli arg18 c16_i32_259
  let c0_i32_260 : BitVec 32 := 0#32
  let v645 : BitVec 32 := Scalar.addi v644 c0_i32_260
  let c128_i32 : BitVec 32 := 128#32
  let v646 : BitVec 32 := Scalar.muli v645 c128_i32
  v646
def k0_off10 (k0_t9 : Fin k0_t9_loop.trips) (c0_i32_260 : BitVec 32) : Fin 3 → Nat :=
  let c0_i32_168 : BitVec 32 := 0#32
  let c1_i32_170 : BitVec 32 := 1#32
  let arg18 : BitVec 32 := Scf.iv c0_i32_168 c1_i32_170 k0_t9
  let c16_i32_259 : BitVec 32 := 16#32
  let v644 : BitVec 32 := Scalar.muli arg18 c16_i32_259
  let v645 : BitVec 32 := Scalar.addi v644 c0_i32_260
  let v648 : Index := Scalar.indexCast v645
  let c0_261 : Index := 0#32
  let c0_262 : Index := 0#32
  ![v648.toNat, 0, 0]
def k0_off11 (k0_t9 : Fin k0_t9_loop.trips) (c0_i32_260 : BitVec 32) : Fin 2 → Nat :=
  let c0_263 : Index := 0#32
  let c0_i32_168 : BitVec 32 := 0#32
  let c1_i32_170 : BitVec 32 := 1#32
  let arg18 : BitVec 32 := Scf.iv c0_i32_168 c1_i32_170 k0_t9
  let c16_i32_259 : BitVec 32 := 16#32
  let v644 : BitVec 32 := Scalar.muli arg18 c16_i32_259
  let v645 : BitVec 32 := Scalar.addi v644 c0_i32_260
  let c128_i32 : BitVec 32 := 128#32
  let v646 : BitVec 32 := Scalar.muli v645 c128_i32
  let v647 : BitVec 32 := v646
  let v651 : Index := Scalar.indexCast v647
  ![0, v651.toNat]
def k0_off12 (k0_t9 : Fin k0_t9_loop.trips) (c0_i32_260 : BitVec 32) : Fin 2 → Nat :=
  let c0_i32_168 : BitVec 32 := 0#32
  let c1_i32_170 : BitVec 32 := 1#32
  let arg18 : BitVec 32 := Scf.iv c0_i32_168 c1_i32_170 k0_t9
  let c16_i32_259 : BitVec 32 := 16#32
  let v644 : BitVec 32 := Scalar.muli arg18 c16_i32_259
  let v645 : BitVec 32 := Scalar.addi v644 c0_i32_260
  let c132_i32 : BitVec 32 := 132#32
  let v655 : BitVec 32 := Scalar.muli v645 c132_i32
  let v656 : Index := Scalar.indexCast v655
  let c0_265 : Index := 0#32
  ![v656.toNat, 0]
def k0_off13 (k0_t9 : Fin k0_t9_loop.trips) (c0_i32_260 : BitVec 32) : Fin 1 → Nat :=
  let c0_i32_168 : BitVec 32 := 0#32
  let c1_i32_170 : BitVec 32 := 1#32
  let arg18 : BitVec 32 := Scf.iv c0_i32_168 c1_i32_170 k0_t9
  let c16_i32_259 : BitVec 32 := 16#32
  let v644 : BitVec 32 := Scalar.muli arg18 c16_i32_259
  let v645 : BitVec 32 := Scalar.addi v644 c0_i32_260
  let v707 : Index := Scalar.indexCast v645
  ![v707.toNat]
def k0_mult130 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_266 : BitVec 32 := 16#32
  let v713 : BitVec 32 := Scalar.muli arg18 c16_i32_266
  let c1_i32_267 : BitVec 32 := 1#32
  let v714 : BitVec 32 := Scalar.addi v713 c1_i32_267
  let c128_i32_268 : BitVec 32 := 128#32
  let v715 : BitVec 32 := Scalar.muli v714 c128_i32_268
  v715
def k0_mult131 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_275 : BitVec 32 := 16#32
  let v782 : BitVec 32 := Scalar.muli arg18 c16_i32_275
  let c2_i32_276 : BitVec 32 := 2#32
  let v783 : BitVec 32 := Scalar.addi v782 c2_i32_276
  let c128_i32_277 : BitVec 32 := 128#32
  let v784 : BitVec 32 := Scalar.muli v783 c128_i32_277
  v784
def k0_mult132 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_284 : BitVec 32 := 16#32
  let v851 : BitVec 32 := Scalar.muli arg18 c16_i32_284
  let c3_i32 : BitVec 32 := 3#32
  let v852 : BitVec 32 := Scalar.addi v851 c3_i32
  let c128_i32_285 : BitVec 32 := 128#32
  let v853 : BitVec 32 := Scalar.muli v852 c128_i32_285
  v853
def k0_mult133 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_292 : BitVec 32 := 16#32
  let v920 : BitVec 32 := Scalar.muli arg18 c16_i32_292
  let c4_i32_293 : BitVec 32 := 4#32
  let v921 : BitVec 32 := Scalar.addi v920 c4_i32_293
  let c128_i32_294 : BitVec 32 := 128#32
  let v922 : BitVec 32 := Scalar.muli v921 c128_i32_294
  v922
def k0_mult134 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_301 : BitVec 32 := 16#32
  let v989 : BitVec 32 := Scalar.muli arg18 c16_i32_301
  let c5_i32 : BitVec 32 := 5#32
  let v990 : BitVec 32 := Scalar.addi v989 c5_i32
  let c128_i32_302 : BitVec 32 := 128#32
  let v991 : BitVec 32 := Scalar.muli v990 c128_i32_302
  v991
def k0_mult135 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_309 : BitVec 32 := 16#32
  let v1058 : BitVec 32 := Scalar.muli arg18 c16_i32_309
  let c6_i32 : BitVec 32 := 6#32
  let v1059 : BitVec 32 := Scalar.addi v1058 c6_i32
  let c128_i32_310 : BitVec 32 := 128#32
  let v1060 : BitVec 32 := Scalar.muli v1059 c128_i32_310
  v1060
def k0_mult136 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_317 : BitVec 32 := 16#32
  let v1127 : BitVec 32 := Scalar.muli arg18 c16_i32_317
  let c7_i32 : BitVec 32 := 7#32
  let v1128 : BitVec 32 := Scalar.addi v1127 c7_i32
  let c128_i32_318 : BitVec 32 := 128#32
  let v1129 : BitVec 32 := Scalar.muli v1128 c128_i32_318
  v1129
def k0_mult137 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_325 : BitVec 32 := 16#32
  let v1196 : BitVec 32 := Scalar.muli arg18 c16_i32_325
  let c8_i32_326 : BitVec 32 := 8#32
  let v1197 : BitVec 32 := Scalar.addi v1196 c8_i32_326
  let c128_i32_327 : BitVec 32 := 128#32
  let v1198 : BitVec 32 := Scalar.muli v1197 c128_i32_327
  v1198
def k0_mult138 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_334 : BitVec 32 := 16#32
  let v1265 : BitVec 32 := Scalar.muli arg18 c16_i32_334
  let c9_i32 : BitVec 32 := 9#32
  let v1266 : BitVec 32 := Scalar.addi v1265 c9_i32
  let c128_i32_335 : BitVec 32 := 128#32
  let v1267 : BitVec 32 := Scalar.muli v1266 c128_i32_335
  v1267
def k0_mult139 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_342 : BitVec 32 := 16#32
  let v1334 : BitVec 32 := Scalar.muli arg18 c16_i32_342
  let c10_i32 : BitVec 32 := 10#32
  let v1335 : BitVec 32 := Scalar.addi v1334 c10_i32
  let c128_i32_343 : BitVec 32 := 128#32
  let v1336 : BitVec 32 := Scalar.muli v1335 c128_i32_343
  v1336
def k0_mult140 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_350 : BitVec 32 := 16#32
  let v1403 : BitVec 32 := Scalar.muli arg18 c16_i32_350
  let c11_i32 : BitVec 32 := 11#32
  let v1404 : BitVec 32 := Scalar.addi v1403 c11_i32
  let c128_i32_351 : BitVec 32 := 128#32
  let v1405 : BitVec 32 := Scalar.muli v1404 c128_i32_351
  v1405
def k0_mult141 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_358 : BitVec 32 := 16#32
  let v1472 : BitVec 32 := Scalar.muli arg18 c16_i32_358
  let c12_i32 : BitVec 32 := 12#32
  let v1473 : BitVec 32 := Scalar.addi v1472 c12_i32
  let c128_i32_359 : BitVec 32 := 128#32
  let v1474 : BitVec 32 := Scalar.muli v1473 c128_i32_359
  v1474
def k0_mult142 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_366 : BitVec 32 := 16#32
  let v1541 : BitVec 32 := Scalar.muli arg18 c16_i32_366
  let c13_i32 : BitVec 32 := 13#32
  let v1542 : BitVec 32 := Scalar.addi v1541 c13_i32
  let c128_i32_367 : BitVec 32 := 128#32
  let v1543 : BitVec 32 := Scalar.muli v1542 c128_i32_367
  v1543
def k0_mult143 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_374 : BitVec 32 := 16#32
  let v1610 : BitVec 32 := Scalar.muli arg18 c16_i32_374
  let c14_i32 : BitVec 32 := 14#32
  let v1611 : BitVec 32 := Scalar.addi v1610 c14_i32
  let c128_i32_375 : BitVec 32 := 128#32
  let v1612 : BitVec 32 := Scalar.muli v1611 c128_i32_375
  v1612
def k0_mult144 (k0_t9 : Fin k0_t9_loop.trips) : BitVec 32 :=
  let c0_i32_168 : BitVec 32 := 0#32
  let c1_i32_170 : BitVec 32 := 1#32
  let arg18 : BitVec 32 := Scf.iv c0_i32_168 c1_i32_170 k0_t9
  let c16_i32_382 : BitVec 32 := 16#32
  let v1679 : BitVec 32 := Scalar.muli arg18 c16_i32_382
  let c15_i32 : BitVec 32 := 15#32
  let v1680 : BitVec 32 := Scalar.addi v1679 c15_i32
  let c128_i32_383 : BitVec 32 := 128#32
  let v1681 : BitVec 32 := Scalar.muli v1680 c128_i32_383
  v1681
@[reducible] def k0_t10_loop : Scf.Loop 32 :=
  let c0_i32_212 : BitVec 32 := 0#32
  let c8_i32_213 : BitVec 32 := 8#32
  let v537 : BitVec 32 := Scalar.addi c0_i32_212 c8_i32_213
  let c1_i32_214 : BitVec 32 := 1#32
  ⟨c0_i32_212, v537, c1_i32_214⟩
def k0_mult145 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_259 : BitVec 32 := 16#32
  let v644 : BitVec 32 := Scalar.muli arg18 c16_i32_259
  let c0_i32_260 : BitVec 32 := 0#32
  let v645 : BitVec 32 := Scalar.addi v644 c0_i32_260
  let c128_i32 : BitVec 32 := 128#32
  let v646 : BitVec 32 := Scalar.muli v645 c128_i32
  v646
def k0_off14 (k0_t10 : Fin k0_t10_loop.trips) (c0_i32_260 : BitVec 32) : Fin 2 → Nat :=
  let c0_i32_212 : BitVec 32 := 0#32
  let c1_i32_214 : BitVec 32 := 1#32
  let arg18 : BitVec 32 := Scf.iv c0_i32_212 c1_i32_214 k0_t10
  let c16_i32_259 : BitVec 32 := 16#32
  let v644 : BitVec 32 := Scalar.muli arg18 c16_i32_259
  let v645 : BitVec 32 := Scalar.addi v644 c0_i32_260
  let v648 : Index := Scalar.indexCast v645
  let c0_261 : Index := 0#32
  ![v648.toNat, 0]
def k0_off15 (k0_t10 : Fin k0_t10_loop.trips) (c0_i32_260 : BitVec 32) : Fin 2 → Nat :=
  let c0_266 : Index := 0#32
  let c0_i32_212 : BitVec 32 := 0#32
  let c1_i32_214 : BitVec 32 := 1#32
  let arg18 : BitVec 32 := Scf.iv c0_i32_212 c1_i32_214 k0_t10
  let c16_i32_259 : BitVec 32 := 16#32
  let v644 : BitVec 32 := Scalar.muli arg18 c16_i32_259
  let v645 : BitVec 32 := Scalar.addi v644 c0_i32_260
  let c128_i32 : BitVec 32 := 128#32
  let v646 : BitVec 32 := Scalar.muli v645 c128_i32
  let v647 : BitVec 32 := v646
  let v658 : Index := Scalar.indexCast v647
  ![0, v658.toNat]
def k0_off16 (k0_t10 : Fin k0_t10_loop.trips) (c0_i32_260 : BitVec 32) : Fin 3 → Nat :=
  let c0_i32_212 : BitVec 32 := 0#32
  let c1_i32_214 : BitVec 32 := 1#32
  let arg18 : BitVec 32 := Scf.iv c0_i32_212 c1_i32_214 k0_t10
  let c16_i32_259 : BitVec 32 := 16#32
  let v644 : BitVec 32 := Scalar.muli arg18 c16_i32_259
  let v645 : BitVec 32 := Scalar.addi v644 c0_i32_260
  let v660 : Index := Scalar.indexCast v645
  let c0_267 : Index := 0#32
  let c0_268 : Index := 0#32
  ![v660.toNat, 0, 0]
def k0_off17 (k0_t10 : Fin k0_t10_loop.trips) (c0_i32_260 : BitVec 32) : Fin 2 → Nat :=
  let c0_i32_212 : BitVec 32 := 0#32
  let c1_i32_214 : BitVec 32 := 1#32
  let arg18 : BitVec 32 := Scf.iv c0_i32_212 c1_i32_214 k0_t10
  let c16_i32_259 : BitVec 32 := 16#32
  let v644 : BitVec 32 := Scalar.muli arg18 c16_i32_259
  let v645 : BitVec 32 := Scalar.addi v644 c0_i32_260
  let c132_i32 : BitVec 32 := 132#32
  let v664 : BitVec 32 := Scalar.muli v645 c132_i32
  let v665 : Index := Scalar.indexCast v664
  let c0_270 : Index := 0#32
  ![v665.toNat, 0]
def k0_off18 (k0_t10 : Fin k0_t10_loop.trips) (c0_i32_260 : BitVec 32) : Fin 1 → Nat :=
  let c0_i32_212 : BitVec 32 := 0#32
  let c1_i32_214 : BitVec 32 := 1#32
  let arg18 : BitVec 32 := Scf.iv c0_i32_212 c1_i32_214 k0_t10
  let c16_i32_259 : BitVec 32 := 16#32
  let v644 : BitVec 32 := Scalar.muli arg18 c16_i32_259
  let v645 : BitVec 32 := Scalar.addi v644 c0_i32_260
  let v716 : Index := Scalar.indexCast v645
  ![v716.toNat]
def k0_mult146 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_271 : BitVec 32 := 16#32
  let v722 : BitVec 32 := Scalar.muli arg18 c16_i32_271
  let c1_i32_272 : BitVec 32 := 1#32
  let v723 : BitVec 32 := Scalar.addi v722 c1_i32_272
  let c128_i32_273 : BitVec 32 := 128#32
  let v724 : BitVec 32 := Scalar.muli v723 c128_i32_273
  v724
def k0_mult147 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_285 : BitVec 32 := 16#32
  let v800 : BitVec 32 := Scalar.muli arg18 c16_i32_285
  let c2_i32_286 : BitVec 32 := 2#32
  let v801 : BitVec 32 := Scalar.addi v800 c2_i32_286
  let c128_i32_287 : BitVec 32 := 128#32
  let v802 : BitVec 32 := Scalar.muli v801 c128_i32_287
  v802
def k0_mult148 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_299 : BitVec 32 := 16#32
  let v878 : BitVec 32 := Scalar.muli arg18 c16_i32_299
  let c3_i32 : BitVec 32 := 3#32
  let v879 : BitVec 32 := Scalar.addi v878 c3_i32
  let c128_i32_300 : BitVec 32 := 128#32
  let v880 : BitVec 32 := Scalar.muli v879 c128_i32_300
  v880
def k0_mult149 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_312 : BitVec 32 := 16#32
  let v956 : BitVec 32 := Scalar.muli arg18 c16_i32_312
  let c4_i32_313 : BitVec 32 := 4#32
  let v957 : BitVec 32 := Scalar.addi v956 c4_i32_313
  let c128_i32_314 : BitVec 32 := 128#32
  let v958 : BitVec 32 := Scalar.muli v957 c128_i32_314
  v958
def k0_mult150 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_326 : BitVec 32 := 16#32
  let v1034 : BitVec 32 := Scalar.muli arg18 c16_i32_326
  let c5_i32 : BitVec 32 := 5#32
  let v1035 : BitVec 32 := Scalar.addi v1034 c5_i32
  let c128_i32_327 : BitVec 32 := 128#32
  let v1036 : BitVec 32 := Scalar.muli v1035 c128_i32_327
  v1036
def k0_mult151 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_339 : BitVec 32 := 16#32
  let v1112 : BitVec 32 := Scalar.muli arg18 c16_i32_339
  let c6_i32 : BitVec 32 := 6#32
  let v1113 : BitVec 32 := Scalar.addi v1112 c6_i32
  let c128_i32_340 : BitVec 32 := 128#32
  let v1114 : BitVec 32 := Scalar.muli v1113 c128_i32_340
  v1114
def k0_mult152 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_352 : BitVec 32 := 16#32
  let v1190 : BitVec 32 := Scalar.muli arg18 c16_i32_352
  let c7_i32 : BitVec 32 := 7#32
  let v1191 : BitVec 32 := Scalar.addi v1190 c7_i32
  let c128_i32_353 : BitVec 32 := 128#32
  let v1192 : BitVec 32 := Scalar.muli v1191 c128_i32_353
  v1192
def k0_mult153 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_365 : BitVec 32 := 16#32
  let v1268 : BitVec 32 := Scalar.muli arg18 c16_i32_365
  let c8_i32_366 : BitVec 32 := 8#32
  let v1269 : BitVec 32 := Scalar.addi v1268 c8_i32_366
  let c128_i32_367 : BitVec 32 := 128#32
  let v1270 : BitVec 32 := Scalar.muli v1269 c128_i32_367
  v1270
def k0_mult154 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_379 : BitVec 32 := 16#32
  let v1346 : BitVec 32 := Scalar.muli arg18 c16_i32_379
  let c9_i32 : BitVec 32 := 9#32
  let v1347 : BitVec 32 := Scalar.addi v1346 c9_i32
  let c128_i32_380 : BitVec 32 := 128#32
  let v1348 : BitVec 32 := Scalar.muli v1347 c128_i32_380
  v1348
def k0_mult155 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_392 : BitVec 32 := 16#32
  let v1424 : BitVec 32 := Scalar.muli arg18 c16_i32_392
  let c10_i32 : BitVec 32 := 10#32
  let v1425 : BitVec 32 := Scalar.addi v1424 c10_i32
  let c128_i32_393 : BitVec 32 := 128#32
  let v1426 : BitVec 32 := Scalar.muli v1425 c128_i32_393
  v1426
def k0_mult156 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_405 : BitVec 32 := 16#32
  let v1502 : BitVec 32 := Scalar.muli arg18 c16_i32_405
  let c11_i32 : BitVec 32 := 11#32
  let v1503 : BitVec 32 := Scalar.addi v1502 c11_i32
  let c128_i32_406 : BitVec 32 := 128#32
  let v1504 : BitVec 32 := Scalar.muli v1503 c128_i32_406
  v1504
def k0_mult157 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_418 : BitVec 32 := 16#32
  let v1580 : BitVec 32 := Scalar.muli arg18 c16_i32_418
  let c12_i32 : BitVec 32 := 12#32
  let v1581 : BitVec 32 := Scalar.addi v1580 c12_i32
  let c128_i32_419 : BitVec 32 := 128#32
  let v1582 : BitVec 32 := Scalar.muli v1581 c128_i32_419
  v1582
def k0_mult158 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_431 : BitVec 32 := 16#32
  let v1658 : BitVec 32 := Scalar.muli arg18 c16_i32_431
  let c13_i32 : BitVec 32 := 13#32
  let v1659 : BitVec 32 := Scalar.addi v1658 c13_i32
  let c128_i32_432 : BitVec 32 := 128#32
  let v1660 : BitVec 32 := Scalar.muli v1659 c128_i32_432
  v1660
def k0_mult159 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_444 : BitVec 32 := 16#32
  let v1736 : BitVec 32 := Scalar.muli arg18 c16_i32_444
  let c14_i32 : BitVec 32 := 14#32
  let v1737 : BitVec 32 := Scalar.addi v1736 c14_i32
  let c128_i32_445 : BitVec 32 := 128#32
  let v1738 : BitVec 32 := Scalar.muli v1737 c128_i32_445
  v1738
def k0_mult160 (k0_t10 : Fin k0_t10_loop.trips) : BitVec 32 :=
  let c0_i32_212 : BitVec 32 := 0#32
  let c1_i32_214 : BitVec 32 := 1#32
  let arg18 : BitVec 32 := Scf.iv c0_i32_212 c1_i32_214 k0_t10
  let c16_i32_457 : BitVec 32 := 16#32
  let v1814 : BitVec 32 := Scalar.muli arg18 c16_i32_457
  let c15_i32 : BitVec 32 := 15#32
  let v1815 : BitVec 32 := Scalar.addi v1814 c15_i32
  let c128_i32_458 : BitVec 32 := 128#32
  let v1816 : BitVec 32 := Scalar.muli v1815 c128_i32_458
  v1816
@[reducible] def k0_t11_loop : Scf.Loop 32 :=
  let c0_i32_255 : BitVec 32 := 0#32
  let c8_i32_256 : BitVec 32 := 8#32
  let v643 : BitVec 32 := Scalar.addi c0_i32_255 c8_i32_256
  let c1_i32_257 : BitVec 32 := 1#32
  ⟨c0_i32_255, v643, c1_i32_257⟩
def k0_mult161 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_259 : BitVec 32 := 16#32
  let v644 : BitVec 32 := Scalar.muli arg18 c16_i32_259
  let c0_i32_260 : BitVec 32 := 0#32
  let v645 : BitVec 32 := Scalar.addi v644 c0_i32_260
  let c128_i32 : BitVec 32 := 128#32
  let v646 : BitVec 32 := Scalar.muli v645 c128_i32
  v646
def k0_off19 (k0_t11 : Fin k0_t11_loop.trips) (c0_i32_260 : BitVec 32) : Fin 2 → Nat :=
  let c0_i32_255 : BitVec 32 := 0#32
  let c1_i32_257 : BitVec 32 := 1#32
  let arg18 : BitVec 32 := Scf.iv c0_i32_255 c1_i32_257 k0_t11
  let c16_i32_259 : BitVec 32 := 16#32
  let v644 : BitVec 32 := Scalar.muli arg18 c16_i32_259
  let v645 : BitVec 32 := Scalar.addi v644 c0_i32_260
  let v648 : Index := Scalar.indexCast v645
  let c0_261 : Index := 0#32
  ![v648.toNat, 0]
def k0_off20 (k0_t11 : Fin k0_t11_loop.trips) (c0_i32_260 : BitVec 32) : Fin 2 → Nat :=
  let c0_266 : Index := 0#32
  let c0_i32_255 : BitVec 32 := 0#32
  let c1_i32_257 : BitVec 32 := 1#32
  let arg18 : BitVec 32 := Scf.iv c0_i32_255 c1_i32_257 k0_t11
  let c16_i32_259 : BitVec 32 := 16#32
  let v644 : BitVec 32 := Scalar.muli arg18 c16_i32_259
  let v645 : BitVec 32 := Scalar.addi v644 c0_i32_260
  let c128_i32 : BitVec 32 := 128#32
  let v646 : BitVec 32 := Scalar.muli v645 c128_i32
  let v647 : BitVec 32 := v646
  let v658 : Index := Scalar.indexCast v647
  ![0, v658.toNat]
def k0_mult162 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_267 : BitVec 32 := 16#32
  let v660 : BitVec 32 := Scalar.muli arg18 c16_i32_267
  let c1_i32_268 : BitVec 32 := 1#32
  let v661 : BitVec 32 := Scalar.addi v660 c1_i32_268
  let c128_i32_269 : BitVec 32 := 128#32
  let v662 : BitVec 32 := Scalar.muli v661 c128_i32_269
  v662
def k0_mult163 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_276 : BitVec 32 := 16#32
  let v676 : BitVec 32 := Scalar.muli arg18 c16_i32_276
  let c2_i32_277 : BitVec 32 := 2#32
  let v677 : BitVec 32 := Scalar.addi v676 c2_i32_277
  let c128_i32_278 : BitVec 32 := 128#32
  let v678 : BitVec 32 := Scalar.muli v677 c128_i32_278
  v678
def k0_mult164 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_285 : BitVec 32 := 16#32
  let v692 : BitVec 32 := Scalar.muli arg18 c16_i32_285
  let c3_i32 : BitVec 32 := 3#32
  let v693 : BitVec 32 := Scalar.addi v692 c3_i32
  let c128_i32_286 : BitVec 32 := 128#32
  let v694 : BitVec 32 := Scalar.muli v693 c128_i32_286
  v694
def k0_mult165 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_293 : BitVec 32 := 16#32
  let v708 : BitVec 32 := Scalar.muli arg18 c16_i32_293
  let c4_i32_294 : BitVec 32 := 4#32
  let v709 : BitVec 32 := Scalar.addi v708 c4_i32_294
  let c128_i32_295 : BitVec 32 := 128#32
  let v710 : BitVec 32 := Scalar.muli v709 c128_i32_295
  v710
def k0_mult166 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_302 : BitVec 32 := 16#32
  let v724 : BitVec 32 := Scalar.muli arg18 c16_i32_302
  let c5_i32 : BitVec 32 := 5#32
  let v725 : BitVec 32 := Scalar.addi v724 c5_i32
  let c128_i32_303 : BitVec 32 := 128#32
  let v726 : BitVec 32 := Scalar.muli v725 c128_i32_303
  v726
def k0_mult167 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_310 : BitVec 32 := 16#32
  let v740 : BitVec 32 := Scalar.muli arg18 c16_i32_310
  let c6_i32 : BitVec 32 := 6#32
  let v741 : BitVec 32 := Scalar.addi v740 c6_i32
  let c128_i32_311 : BitVec 32 := 128#32
  let v742 : BitVec 32 := Scalar.muli v741 c128_i32_311
  v742
def k0_mult168 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_318 : BitVec 32 := 16#32
  let v756 : BitVec 32 := Scalar.muli arg18 c16_i32_318
  let c7_i32 : BitVec 32 := 7#32
  let v757 : BitVec 32 := Scalar.addi v756 c7_i32
  let c128_i32_319 : BitVec 32 := 128#32
  let v758 : BitVec 32 := Scalar.muli v757 c128_i32_319
  v758
def k0_mult169 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_326 : BitVec 32 := 16#32
  let v772 : BitVec 32 := Scalar.muli arg18 c16_i32_326
  let c8_i32_327 : BitVec 32 := 8#32
  let v773 : BitVec 32 := Scalar.addi v772 c8_i32_327
  let c128_i32_328 : BitVec 32 := 128#32
  let v774 : BitVec 32 := Scalar.muli v773 c128_i32_328
  v774
def k0_mult170 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_335 : BitVec 32 := 16#32
  let v788 : BitVec 32 := Scalar.muli arg18 c16_i32_335
  let c9_i32 : BitVec 32 := 9#32
  let v789 : BitVec 32 := Scalar.addi v788 c9_i32
  let c128_i32_336 : BitVec 32 := 128#32
  let v790 : BitVec 32 := Scalar.muli v789 c128_i32_336
  v790
def k0_mult171 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_343 : BitVec 32 := 16#32
  let v804 : BitVec 32 := Scalar.muli arg18 c16_i32_343
  let c10_i32 : BitVec 32 := 10#32
  let v805 : BitVec 32 := Scalar.addi v804 c10_i32
  let c128_i32_344 : BitVec 32 := 128#32
  let v806 : BitVec 32 := Scalar.muli v805 c128_i32_344
  v806
def k0_mult172 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_351 : BitVec 32 := 16#32
  let v820 : BitVec 32 := Scalar.muli arg18 c16_i32_351
  let c11_i32 : BitVec 32 := 11#32
  let v821 : BitVec 32 := Scalar.addi v820 c11_i32
  let c128_i32_352 : BitVec 32 := 128#32
  let v822 : BitVec 32 := Scalar.muli v821 c128_i32_352
  v822
def k0_mult173 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_359 : BitVec 32 := 16#32
  let v836 : BitVec 32 := Scalar.muli arg18 c16_i32_359
  let c12_i32 : BitVec 32 := 12#32
  let v837 : BitVec 32 := Scalar.addi v836 c12_i32
  let c128_i32_360 : BitVec 32 := 128#32
  let v838 : BitVec 32 := Scalar.muli v837 c128_i32_360
  v838
def k0_mult174 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_367 : BitVec 32 := 16#32
  let v852 : BitVec 32 := Scalar.muli arg18 c16_i32_367
  let c13_i32 : BitVec 32 := 13#32
  let v853 : BitVec 32 := Scalar.addi v852 c13_i32
  let c128_i32_368 : BitVec 32 := 128#32
  let v854 : BitVec 32 := Scalar.muli v853 c128_i32_368
  v854
def k0_mult175 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_375 : BitVec 32 := 16#32
  let v868 : BitVec 32 := Scalar.muli arg18 c16_i32_375
  let c14_i32 : BitVec 32 := 14#32
  let v869 : BitVec 32 := Scalar.addi v868 c14_i32
  let c128_i32_376 : BitVec 32 := 128#32
  let v870 : BitVec 32 := Scalar.muli v869 c128_i32_376
  v870
def k0_mult176 (k0_t11 : Fin k0_t11_loop.trips) : BitVec 32 :=
  let c0_i32_255 : BitVec 32 := 0#32
  let c1_i32_257 : BitVec 32 := 1#32
  let arg18 : BitVec 32 := Scf.iv c0_i32_255 c1_i32_257 k0_t11
  let c16_i32_383 : BitVec 32 := 16#32
  let v884 : BitVec 32 := Scalar.muli arg18 c16_i32_383
  let c15_i32 : BitVec 32 := 15#32
  let v885 : BitVec 32 := Scalar.addi v884 c15_i32
  let c128_i32_384 : BitVec 32 := 128#32
  let v886 : BitVec 32 := Scalar.muli v885 c128_i32_384
  v886
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x16384 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x16384 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x16384 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S2x4096x16384 : Shape := ⟨3, ![2, 4096, 16384]⟩
abbrev S128x128x128 : Shape := ⟨3, ![128, 128, 128]⟩
abbrev S128 : Shape := ⟨1, ![128]⟩
abbrev S8192x16384 : Shape := ⟨2, ![8192, 16384]⟩
abbrev S64x128 : Shape := ⟨2, ![64, 128]⟩
abbrev S8192x128x128 : Shape := ⟨3, ![8192, 128, 128]⟩
abbrev S8192 : Shape := ⟨1, ![8192]⟩
abbrev S8192x1x1 : Shape := ⟨3, ![8192, 1, 1]⟩
abbrev S128x8192x128 : Shape := ⟨3, ![128, 8192, 128]⟩
abbrev S1x8192x1 : Shape := ⟨3, ![1, 8192, 1]⟩
abbrev S128x1x1 : Shape := ⟨3, ![128, 1, 1]⟩

abbrev nBuf : Space → Nat
  | .hbm => 11
  | .vmem => 11
  | .smem => 0
  | _ => 0

abbrev bufTy : (tb : Table) → Fin (tcTables nBuf tb) → BufTy
  | .hbm, ⟨0, _⟩ => ⟨S2x4096x16384, .bf16⟩
  | .hbm, ⟨1, _⟩ => ⟨S128x128x128, .fp8e4m3⟩
  | .hbm, ⟨2, _⟩ => ⟨S128, .f32⟩
  | .hbm, ⟨3, _⟩ => ⟨S128x128x128, .fp8e4m3⟩
  | .hbm, ⟨4, _⟩ => ⟨S128, .f32⟩
  | .hbm, ⟨5, _⟩ => ⟨S8192x16384, .fp8e4m3⟩
  | .hbm, ⟨6, _⟩ => ⟨S64x128, .f32⟩
  | .hbm, ⟨7, _⟩ => ⟨S8192x16384, .fp8e4m3⟩
  | .hbm, ⟨8, _⟩ => ⟨S64x128, .f32⟩
  | .hbm, ⟨9, _⟩ => ⟨S8192x16384, .fp8e4m3⟩
  | .hbm, ⟨10, _⟩ => ⟨S64x128, .f32⟩
  | .local _ .vmem, ⟨0, _⟩ => ⟨S2x4096x16384, .bf16⟩
  | .local _ .vmem, ⟨1, _⟩ => ⟨S128x128x128, .fp8e4m3⟩
  | .local _ .vmem, ⟨2, _⟩ => ⟨S128, .f32⟩
  | .local _ .vmem, ⟨3, _⟩ => ⟨S128x128x128, .fp8e4m3⟩
  | .local _ .vmem, ⟨4, _⟩ => ⟨S128, .f32⟩
  | .local _ .vmem, ⟨5, _⟩ => ⟨S8192x16384, .fp8e4m3⟩
  | .local _ .vmem, ⟨6, _⟩ => ⟨S64x128, .f32⟩
  | .local _ .vmem, ⟨7, _⟩ => ⟨S8192x16384, .fp8e4m3⟩
  | .local _ .vmem, ⟨8, _⟩ => ⟨S64x128, .f32⟩
  | .local _ .vmem, ⟨9, _⟩ => ⟨S8192x16384, .fp8e4m3⟩
  | .local _ .vmem, ⟨10, _⟩ => ⟨S64x128, .f32⟩
  | _, _ => ⟨S2x4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x4096x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x16384 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x16384 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x16384 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelFrame.lean ====
/-
  Kernel runs: from any memory with zero counters every execution terminates, the argument arrays end as they
  began and every semaphore counter ends at zero. Nothing is said here of what the kernel leaves in its results.
  The body is run once, on arbitrary buffers, by the executor through the generated loop invariants; the pipeline's
  relational proof data (`rdat`) keeps the inputs and forgets the outputs.
-/
module

public import proofs.«01_k».proof.Proof.Gen.Kernel.Frame
public import proofs.«01_k».proof.Proof.Gen.Kernel.Loops
public import Idealize.ShloMosaic.Lib.Pipeline.FrameBody
public import Idealize.ShloMosaic.Lib.Tactic

@[expose] public section

noncomputable section

namespace Cert.Proof.KernelFrame

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable (m : (ℓ : Loc nD τ sig) → Buf (Elt F) ℓ) (ρ : Dev nD → PrngReg)

/-- Core `c` holds the whole of memref `M` at contents `f`. -/
abbrev Held (c : Dev nD) {sp : Space} {S : Shape} {e : EltTy} (M : Memref sig .tc sp S e)
    (f : BufTy.Contents (Elt F) M.view.ty) : sProp (MT nD τ sig Unit (Elt F) ℕ (UR sig nD τ) ℕ) :=
  M.view.loc (c : Thread nD τ) ↦[M.view.set]{fullShare} f

/-- Holding the whole of a whole-buffer memref is holding the buffer. -/
theorem held_whole (c : Dev nD) (b : Ref sig .tc) (f : Buf (Elt F) ((c : Thread nD τ).loc b)) :
    (Held c (Memref.whole b) f : sProp (MT nD τ sig Unit (Elt F) ℕ (UR sig nD τ) ℕ)) = ((c : Thread nD τ).loc b ↦{fullShare} f) := by
  unfold Held; simp only [Memref.view_whole, View.set_whole]

theorem held_of (c : Dev nD) (b : Ref sig .tc) (f : Buf (Elt F) ((c : Thread nD τ).loc b)) :
    ((c : Thread nD τ).loc b ↦{fullShare} f : sProp (MT nD τ sig Unit (Elt F) ℕ (UR sig nD τ) ℕ)) ⊢ Held c (Memref.whole b) f := by rw [held_whole]

theorem of_held (c : Dev nD) (b : Ref sig .tc) (f : Buf (Elt F) ((c : Thread nD τ).loc b)) :
    Held c (Memref.whole b) f ⊢ ((c : Thread nD τ).loc b ↦{fullShare} f : sProp (MT nD τ sig Unit (Elt F) ℕ (UR sig nD τ) ℕ)) := by rw [held_whole]

/-- The body runs, on any buffers, to its return: the seven inputs come back as they were, the six outputs and the
    four scratch buffers at some contents. -/
theorem kernelRun (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (K : PUnit → sProp (MT nD τ sig Unit (Elt F) ℕ (UR sig nD τ) ℕ)) :
    iprop(Held c arg1 f1 ∗ Held c arg2 f2 ∗ Held c arg3 f3 ∗ Held c arg4 f4 ∗ Held c arg5 f5 ∗ Held c arg6 f6 ∗ Held c arg7 f7 ∗ Held c arg8 f8 ∗ Held c arg9 f9 ∗ Held c arg10 f10 ∗ Held c arg11 f11 ∗ Held c arg12 f12 ∗ Held c arg13 f13 ∗ Held c arg14 f14 ∗ Held c arg15 f15 ∗ Held c arg16 f16 ∗ Held c arg17 f17
      ∗ (iprop(Held c arg1 f1 ∗ Held c arg2 f2 ∗ Held c arg3 f3 ∗ Held c arg4 f4 ∗ Held c arg5 f5 ∗ Held c arg6 f6 ∗ Held c arg7 f7 ∗ (∃ f, Held c arg8 f) ∗ (∃ f, Held c arg9 f) ∗ (∃ f, Held c arg10 f) ∗ (∃ f, Held c arg11 f) ∗ (∃ f, Held c arg12 f) ∗ (∃ f, Held c arg13 f) ∗ (∃ f, Held c arg14 f) ∗ (∃ f, Held c arg15 f) ∗ (∃ f, Held c arg16 f) ∗ (∃ f, Held c arg17 f)) -∗ K ⟨⟩))
      ⊢ wp frame (wpE (defs₀ (F := F)) Variants.none c none) Set.univ (cc0_monarch i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H1, H2, H3, H4, H5, H6, H7, H8, H9, H10, H11, H12, H13, H14, H15, H16, H17, Hk⟩
  simp only [cc0_monarch_eq_skeleton]; unfold cc0_monarch_skel
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

/-- The proof data: the arrays as the region finds them; the body leaves each input's buffer as it found it and each
    output's at anything; nothing owed; full shares. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => True
    | ⟨8, _⟩ => True
    | ⟨9, _⟩ => True
    | ⟨10, _⟩ => True
    | ⟨11, _⟩ => True
    | ⟨12, _⟩ => True
  Φ _ := Pipeline.ΦA spec0 c
  q _ := fullShare
  owed _ := 0

theorem A_eq (c : Dev nD) (w : Fin cfg0.W) : (rdat m c).A w = V m c (Pipeline.arrRef spec0 w) := by dsimp only [rdat]

set_option maxHeartbeats 2000000 in
/-- The body at any point, from the buffers it is handed to the buffers it returns. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12))
    ⊢ wp frame (wpE (defs₀ (F := F)) Variants.none c none) Set.univ (bodyAt0 t) (fun _ =>
      iprop((rdat m c).Φ t.succ ∗ (rdat m c).owesAt () t.succ ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X) ∗ (∃ X, ⌜(rdat m c).after 9 t (Y 9) X⌝ ∗ owns (c : Thread nD τ) (st0_9 t) fullShare X) ∗ (∃ X, ⌜(rdat m c).after 10 t (Y 10) X⌝ ∗ owns (c : Thread nD τ) (st0_10 t) fullShare X) ∗ (∃ X, ⌜(rdat m c).after 11 t (Y 11) X⌝ ∗ owns (c : Thread nD τ) (st0_11 t) fullShare X) ∗ (∃ X, ⌜(rdat m c).after 12 t (Y 12) X⌝ ∗ owns (c : Thread nD τ) (st0_12 t) fullShare X))) := by
  unfold bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl]
  unfold Pipeline.ΦA owns
  rw [scopedRest0_eq]
  iintro ⟨⟨⟨⟨%f14, H14⟩, ⟨%f15, H15⟩, ⟨%f16, H16⟩, ⟨%f17, H17⟩⟩, Hg⟩, Ho, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  iapply (kernelRun c _ _ _ _ _ _ _ _ _ _ _ _ _ _ _ _ _ _ _ _ _ _ _ _ _ _ _ _ _ _ _ _ _ _ _ f1 f2 f3 f4 f5 f6 f7 f8 f9 f10 f11 f12 f13 f14 f15 f16 f17 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (held_of c _ _); iexact H14
  isplitl [H15]; · iapply (held_of c _ _); iexact H15
  isplitl [H16]; · iapply (held_of c _ _); iexact H16
  isplitl [H17]; · iapply (held_of c _ _); iexact H17
  iintro ⟨H1, H2, H3, H4, H5, H6, H7, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩⟩
  isplitl [H14 H15 H16 H17 Hg]
  · isplitl [H14 H15 H16 H17]
    · isplitl [H14]; · iexists _; iapply (of_held c _ _); iexact H14
      isplitl [H15]; · iexists _; iapply (of_held c _ _); iexact H15
      isplitl [H16]; · iexists _; iapply (of_held c _ _); iexact H16
      iexists _; iapply (of_held c _ _); iexact H17
    iexact Hg
  isplitl [Ho]; · iexact Ho
  isplitl [H1]
  · iexists (Y 0); isplitr; · ipureintro; rfl
    iexists f1; isplitr; · ipureintro; exact hf1
    iexact H1
  isplitl [H2]
  · iexists (Y 1); isplitr; · ipureintro; rfl
    iexists f2; isplitr; · ipureintro; exact hf2
    iexact H2
  isplitl [H3]
  · iexists (Y 2); isplitr; · ipureintro; rfl
    iexists f3; isplitr; · ipureintro; exact hf3
    iexact H3
  isplitl [H4]
  · iexists (Y 3); isplitr; · ipureintro; rfl
    iexists f4; isplitr; · ipureintro; exact hf4
    iexact H4
  isplitl [H5]
  · iexists (Y 4); isplitr; · ipureintro; rfl
    iexists f5; isplitr; · ipureintro; exact hf5
    iexact H5
  isplitl [H6]
  · iexists (Y 5); isplitr; · ipureintro; rfl
    iexists f6; isplitr; · ipureintro; exact hf6
    iexact H6
  isplitl [H7]
  · iexists (Y 6); isplitr; · ipureintro; rfl
    iexists f7; isplitr; · ipureintro; exact hf7
    iexact H7
  isplitl [H8]
  · iexists _; isplitr; swap
    · iexists _; isplitr; swap; · iexact H8
      ipureintro; rfl
    ipureintro; trivial
  isplitl [H9]
  · iexists _; isplitr; swap
    · iexists _; isplitr; swap; · iexact H9
      ipureintro; rfl
    ipureintro; trivial
  isplitl [H10]
  · iexists _; isplitr; swap
    · iexists _; isplitr; swap; · iexact H10
      ipureintro; rfl
    ipureintro; trivial
  isplitl [H11]
  · iexists _; isplitr; swap
    · iexists _; isplitr; swap; · iexact H11
      ipureintro; rfl
    ipureintro; trivial
  isplitl [H12]
  · iexists _; isplitr; swap
    · iexists _; isplitr; swap; · iexact H12
      ipureintro; rfl
    ipureintro; trivial
  iexists _; isplitr; swap
  · iexists _; isplitr; swap; · iexact H13
    ipureintro; rfl
  ipureintro; trivial

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : (rdat (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- Every execution terminates, with the inputs as the region found them and every counter at zero. -/
theorem run_main :
    θ_run defs (onTc (τ := τ) (main (F := F))) (s₀ m ρ)
      (fun r => RDat.FramePost (cfgs 0) (rdat m) (V m) r ∧ r.2.sem = fun _ => 0) :=
  RDat.θ_run_frame (Q' := _) cfgs (0 : Fin 1) launch0 defs₀ Variants.none (rdat m) m ρ main
    (hbody := body_obligation m) (hshare := fun c w => by dsimp only [RDat.share, rdat]; exact ite_self _)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
     ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 3 rfl).trans ((A_eq m c 3).trans (V_main_arg2 m c)),
      ((h.1 c).2 main_arg3 (Pipeline.mem_restRefs_of main_arg3 (by decide) (by decide))).trans (V_main_arg3 m c),
      (h.1.arr_in c 6 rfl).trans ((A_eq m c 6).trans (V_main_arg4 m c))⟩, h.2⟩) (run_main m ρ)

end Cert.Proof.KernelFrame

end
-- ==== Proof.KernelIdealFrame.lean ====
/-
  KernelIdeal runs: from any memory with zero counters every execution terminates, the argument arrays end as they
  began and every semaphore counter ends at zero. Nothing is said here of what the kernel leaves in its results.
  The body is run once, on arbitrary buffers, by the executor through the generated loop invariants; the pipeline's
  relational proof data (`rdat`) keeps the inputs and forgets the outputs.
-/
module

public import proofs.«01_k».proof.Proof.Gen.KernelIdeal.Frame
public import proofs.«01_k».proof.Proof.Gen.KernelIdeal.Loops
public import Idealize.ShloMosaic.Lib.Pipeline.FrameBody
public import Idealize.ShloMosaic.Lib.Tactic

@[expose] public section

noncomputable section

namespace Cert.Proof.KernelIdealFrame

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable (m : (ℓ : Loc nD τ sig) → Buf (Elt F) ℓ) (ρ : Dev nD → PrngReg)

/-- Core `c` holds the whole of memref `M` at contents `f`. -/
abbrev Held (c : Dev nD) {sp : Space} {S : Shape} {e : EltTy} (M : Memref sig .tc sp S e)
    (f : BufTy.Contents (Elt F) M.view.ty) : sProp (MT nD τ sig Unit (Elt F) ℕ (UR sig nD τ) ℕ) :=
  M.view.loc (c : Thread nD τ) ↦[M.view.set]{fullShare} f

/-- Holding the whole of a whole-buffer memref is holding the buffer. -/
theorem held_whole (c : Dev nD) (b : Ref sig .tc) (f : Buf (Elt F) ((c : Thread nD τ).loc b)) :
    (Held c (Memref.whole b) f : sProp (MT nD τ sig Unit (Elt F) ℕ (UR sig nD τ) ℕ)) = ((c : Thread nD τ).loc b ↦{fullShare} f) := by
  unfold Held; simp only [Memref.view_whole, View.set_whole]

theorem held_of (c : Dev nD) (b : Ref sig .tc) (f : Buf (Elt F) ((c : Thread nD τ).loc b)) :
    ((c : Thread nD τ).loc b ↦{fullShare} f : sProp (MT nD τ sig Unit (Elt F) ℕ (UR sig nD τ) ℕ)) ⊢ Held c (Memref.whole b) f := by rw [held_whole]

theorem of_held (c : Dev nD) (b : Ref sig .tc) (f : Buf (Elt F) ((c : Thread nD τ).loc b)) :
    Held c (Memref.whole b) f ⊢ ((c : Thread nD τ).loc b ↦{fullShare} f : sProp (MT nD τ sig Unit (Elt F) ℕ (UR sig nD τ) ℕ)) := by rw [held_whole]

/-- The body runs, on any buffers, to its return: the seven inputs come back as they were, the six outputs and the
    four scratch buffers at some contents. -/
theorem kernelRun (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (K : PUnit → sProp (MT nD τ sig Unit (Elt F) ℕ (UR sig nD τ) ℕ)) :
    iprop(Held c arg1 f1 ∗ Held c arg2 f2 ∗ Held c arg3 f3 ∗ Held c arg4 f4 ∗ Held c arg5 f5 ∗ Held c arg6 f6 ∗ Held c arg7 f7 ∗ Held c arg8 f8 ∗ Held c arg9 f9 ∗ Held c arg10 f10 ∗ Held c arg11 f11 ∗ Held c arg12 f12 ∗ Held c arg13 f13 ∗ Held c arg14 f14 ∗ Held c arg15 f15 ∗ Held c arg16 f16 ∗ Held c arg17 f17
      ∗ (iprop(Held c arg1 f1 ∗ Held c arg2 f2 ∗ Held c arg3 f3 ∗ Held c arg4 f4 ∗ Held c arg5 f5 ∗ Held c arg6 f6 ∗ Held c arg7 f7 ∗ (∃ f, Held c arg8 f) ∗ (∃ f, Held c arg9 f) ∗ (∃ f, Held c arg10 f) ∗ (∃ f, Held c arg11 f) ∗ (∃ f, Held c arg12 f) ∗ (∃ f, Held c arg13 f) ∗ (∃ f, Held c arg14 f) ∗ (∃ f, Held c arg15 f) ∗ (∃ f, Held c arg16 f) ∗ (∃ f, Held c arg17 f)) -∗ K ⟨⟩))
      ⊢ wp frame (wpE (defs₀ (F := F)) Variants.none c none) Set.univ (cc0_monarch i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H1, H2, H3, H4, H5, H6, H7, H8, H9, H10, H11, H12, H13, H14, H15, H16, H17, Hk⟩
  simp only [cc0_monarch_eq_skeleton]; unfold cc0_monarch_skel
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

/-- The proof data: the arrays as the region finds them; the body leaves each input's buffer as it found it and each
    output's at anything; nothing owed; full shares. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => True
    | ⟨8, _⟩ => True
    | ⟨9, _⟩ => True
    | ⟨10, _⟩ => True
    | ⟨11, _⟩ => True
    | ⟨12, _⟩ => True
  Φ _ := Pipeline.ΦA spec0 c
  q _ := fullShare
  owed _ := 0

theorem A_eq (c : Dev nD) (w : Fin cfg0.W) : (rdat m c).A w = V m c (Pipeline.arrRef spec0 w) := by dsimp only [rdat]

set_option maxHeartbeats 2000000 in
/-- The body at any point, from the buffers it is handed to the buffers it returns. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12))
    ⊢ wp frame (wpE (defs₀ (F := F)) Variants.none c none) Set.univ (bodyAt0 t) (fun _ =>
      iprop((rdat m c).Φ t.succ ∗ (rdat m c).owesAt () t.succ ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X) ∗ (∃ X, ⌜(rdat m c).after 9 t (Y 9) X⌝ ∗ owns (c : Thread nD τ) (st0_9 t) fullShare X) ∗ (∃ X, ⌜(rdat m c).after 10 t (Y 10) X⌝ ∗ owns (c : Thread nD τ) (st0_10 t) fullShare X) ∗ (∃ X, ⌜(rdat m c).after 11 t (Y 11) X⌝ ∗ owns (c : Thread nD τ) (st0_11 t) fullShare X) ∗ (∃ X, ⌜(rdat m c).after 12 t (Y 12) X⌝ ∗ owns (c : Thread nD τ) (st0_12 t) fullShare X))) := by
  unfold bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl]
  unfold Pipeline.ΦA owns
  rw [scopedRest0_eq]
  iintro ⟨⟨⟨⟨%f14, H14⟩, ⟨%f15, H15⟩, ⟨%f16, H16⟩, ⟨%f17, H17⟩⟩, Hg⟩, Ho, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  iapply (kernelRun c _ _ _ _ _ _ _ _ _ _ _ _ _ _ _ _ _ _ _ _ _ _ _ _ _ _ _ _ _ _ _ _ _ _ _ f1 f2 f3 f4 f5 f6 f7 f8 f9 f10 f11 f12 f13 f14 f15 f16 f17 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (held_of c _ _); iexact H14
  isplitl [H15]; · iapply (held_of c _ _); iexact H15
  isplitl [H16]; · iapply (held_of c _ _); iexact H16
  isplitl [H17]; · iapply (held_of c _ _); iexact H17
  iintro ⟨H1, H2, H3, H4, H5, H6, H7, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩⟩
  isplitl [H14 H15 H16 H17 Hg]
  · isplitl [H14 H15 H16 H17]
    · isplitl [H14]; · iexists _; iapply (of_held c _ _); iexact H14
      isplitl [H15]; · iexists _; iapply (of_held c _ _); iexact H15
      isplitl [H16]; · iexists _; iapply (of_held c _ _); iexact H16
      iexists _; iapply (of_held c _ _); iexact H17
    iexact Hg
  isplitl [Ho]; · iexact Ho
  isplitl [H1]
  · iexists (Y 0); isplitr; · ipureintro; rfl
    iexists f1; isplitr; · ipureintro; exact hf1
    iexact H1
  isplitl [H2]
  · iexists (Y 1); isplitr; · ipureintro; rfl
    iexists f2; isplitr; · ipureintro; exact hf2
    iexact H2
  isplitl [H3]
  · iexists (Y 2); isplitr; · ipureintro; rfl
    iexists f3; isplitr; · ipureintro; exact hf3
    iexact H3
  isplitl [H4]
  · iexists (Y 3); isplitr; · ipureintro; rfl
    iexists f4; isplitr; · ipureintro; exact hf4
    iexact H4
  isplitl [H5]
  · iexists (Y 4); isplitr; · ipureintro; rfl
    iexists f5; isplitr; · ipureintro; exact hf5
    iexact H5
  isplitl [H6]
  · iexists (Y 5); isplitr; · ipureintro; rfl
    iexists f6; isplitr; · ipureintro; exact hf6
    iexact H6
  isplitl [H7]
  · iexists (Y 6); isplitr; · ipureintro; rfl
    iexists f7; isplitr; · ipureintro; exact hf7
    iexact H7
  isplitl [H8]
  · iexists _; isplitr; swap
    · iexists _; isplitr; swap; · iexact H8
      ipureintro; rfl
    ipureintro; trivial
  isplitl [H9]
  · iexists _; isplitr; swap
    · iexists _; isplitr; swap; · iexact H9
      ipureintro; rfl
    ipureintro; trivial
  isplitl [H10]
  · iexists _; isplitr; swap
    · iexists _; isplitr; swap; · iexact H10
      ipureintro; rfl
    ipureintro; trivial
  isplitl [H11]
  · iexists _; isplitr; swap
    · iexists _; isplitr; swap; · iexact H11
      ipureintro; rfl
    ipureintro; trivial
  isplitl [H12]
  · iexists _; isplitr; swap
    · iexists _; isplitr; swap; · iexact H12
      ipureintro; rfl
    ipureintro; trivial
  iexists _; isplitr; swap
  · iexists _; isplitr; swap; · iexact H13
    ipureintro; rfl
  ipureintro; trivial

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : (rdat (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- Every execution terminates, with the inputs as the region found them and every counter at zero. -/
theorem run_main :
    θ_run defs (onTc (τ := τ) (main (F := F))) (s₀ m ρ)
      (fun r => RDat.FramePost (cfgs 0) (rdat m) (V m) r ∧ r.2.sem = fun _ => 0) :=
  RDat.θ_run_frame (Q' := _) cfgs (0 : Fin 1) launch0 defs₀ Variants.none (rdat m) m ρ main
    (hbody := body_obligation m) (hshare := fun c w => by dsimp only [RDat.share, rdat]; exact ite_self _)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
     ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 3 rfl).trans ((A_eq m c 3).trans (V_main_arg2 m c)),
      ((h.1 c).2 main_arg3 (Pipeline.mem_restRefs_of main_arg3 (by decide) (by decide))).trans (V_main_arg3 m c),
      (h.1.arr_in c 6 rfl).trans ((A_eq m c 6).trans (V_main_arg4 m c))⟩, h.2⟩) (run_main m ρ)

end Cert.Proof.KernelIdealFrame

end
-- ==== Proof.Run.lean ====
/-
  The kernel's body, run once on arbitrary buffers: what it leaves in each, as the executor finds it.
-/
module

public import proofs.«01_k».proof.Proof.KernelIdealFrame
public import Idealize.ShloMosaic.Lib.Pointwise

@[expose] public section

noncomputable section

namespace Cert.Proof.Value

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.KernelIdealFrame (Held held_of of_held)

set_option maxHeartbeats 4000000 in
/-- The contents the body leaves in its six outputs and four scratch buffers, and the run that leaves them. -/
@[irreducible] def kernelRun (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) :
    Σ' (Y8 : BufTy.Contents (Elt Ideal) arg8.view.ty), Σ' (Y9 : BufTy.Contents (Elt Ideal) arg9.view.ty), Σ' (Y10 : BufTy.Contents (Elt Ideal) arg10.view.ty), Σ' (Y11 : BufTy.Contents (Elt Ideal) arg11.view.ty), Σ' (Y12 : BufTy.Contents (Elt Ideal) arg12.view.ty), Σ' (Y13 : BufTy.Contents (Elt Ideal) arg13.view.ty), Σ' (Y14 : BufTy.Contents (Elt Ideal) arg14.view.ty), Σ' (Y15 : BufTy.Contents (Elt Ideal) arg15.view.ty), Σ' (Y16 : BufTy.Contents (Elt Ideal) arg16.view.ty), { Y17 : BufTy.Contents (Elt Ideal) arg17.view.ty // ∀ K : PUnit → sProp (MT nD τ sig Unit (Elt Ideal) ℕ (UR sig nD τ) ℕ),
    iprop(Held c arg1 f1 ∗ Held c arg2 f2 ∗ Held c arg3 f3 ∗ Held c arg4 f4 ∗ Held c arg5 f5 ∗ Held c arg6 f6 ∗ Held c arg7 f7 ∗ Held c arg8 f8 ∗ Held c arg9 f9 ∗ Held c arg10 f10 ∗ Held c arg11 f11 ∗ Held c arg12 f12 ∗ Held c arg13 f13 ∗ Held c arg14 f14 ∗ Held c arg15 f15 ∗ Held c arg16 f16 ∗ Held c arg17 f17
      ∗ (iprop(Held c arg1 f1 ∗ Held c arg2 f2 ∗ Held c arg3 f3 ∗ Held c arg4 f4 ∗ Held c arg5 f5 ∗ Held c arg6 f6 ∗ Held c arg7 f7 ∗ Held c arg8 Y8 ∗ Held c arg9 Y9 ∗ Held c arg10 Y10 ∗ Held c arg11 Y11 ∗ Held c arg12 Y12 ∗ Held c arg13 Y13 ∗ Held c arg14 Y14 ∗ Held c arg15 Y15 ∗ Held c arg16 Y16 ∗ Held c arg17 Y17) -∗ K ⟨⟩))
      ⊢ wp frame (wpE (defs₀ (F := Ideal)) Variants.none c none) Set.univ (cc0_monarch i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, ?_, fun K => ?run⟩
  case run =>
    iintro ⟨H1, H2, H3, H4, H5, H6, H7, H8, H9, H10, H11, H12, H13, H14, H15, H16, H17, Hk⟩
    simp only [cc0_monarch_eq_skeleton]; unfold cc0_monarch_skel
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.Proof.Value
end
-- ==== Proof.Trips.lean ====
/-
  One trip of each counted loop, written as one formula in the sixteen unrolled steps.
-/
module

public import proofs.«01_k».proof.Proof.Gen.KernelIdeal.Loops
public import Idealize.ShloMosaic.Lib.Tactic
public import Idealize.ShloMosaic.Lib.Pointwise

@[expose] public section

noncomputable section

namespace Cert.Proof.Value

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The sixteen unrolled steps, last first: the order in which their stores are listed. -/
abbrev steps : List (Fin 16) := (List.finRange 16).reverse

set_option maxHeartbeats 1000000

/-- Load `S128x128` of a memref, whole. -/
abbrev whole128 : LoadRect S128x128 := (Rect.unit (s := S128x128) ![0, 0] S128x128.size inb_S128x128_S128x128_0_0).toLoadRect

/-- The running maximum over one block's sixteen groups of eight rows of its magnitudes. -/
def absmax8 (M : FVec Ideal S128x128 .f32) : FVec Ideal S8x128 .f32 :=
  (maximumf (maximumf (maximumf (maximumf (maximumf (maximumf (maximumf (maximumf (maximumf (maximumf (maximumf (maximumf (maximumf (maximumf (maximumf (absf (extractStridedSlice S8x128 ![0, 0] M slices_S128x128_o0_0_S8x128)) (absf (extractStridedSlice S8x128 ![8, 0] M slices_S128x128_o8_0_S8x128))) (absf (extractStridedSlice S8x128 ![16, 0] M slices_S128x128_o16_0_S8x128))) (absf (extractStridedSlice S8x128 ![24, 0] M slices_S128x128_o24_0_S8x128))) (absf (extractStridedSlice S8x128 ![32, 0] M slices_S128x128_o32_0_S8x128))) (absf (extractStridedSlice S8x128 ![40, 0] M slices_S128x128_o40_0_S8x128))) (absf (extractStridedSlice S8x128 ![48, 0] M slices_S128x128_o48_0_S8x128))) (absf (extractStridedSlice S8x128 ![56, 0] M slices_S128x128_o56_0_S8x128))) (absf (extractStridedSlice S8x128 ![64, 0] M slices_S128x128_o64_0_S8x128))) (absf (extractStridedSlice S8x128 ![72, 0] M slices_S128x128_o72_0_S8x128))) (absf (extractStridedSlice S8x128 ![80, 0] M slices_S128x128_o80_0_S8x128))) (absf (extractStridedSlice S8x128 ![88, 0] M slices_S128x128_o88_0_S8x128))) (absf (extractStridedSlice S8x128 ![96, 0] M slices_S128x128_o96_0_S8x128))) (absf (extractStridedSlice S8x128 ![104, 0] M slices_S128x128_o104_0_S8x128))) (absf (extractStridedSlice S8x128 ![112, 0] M slices_S128x128_o112_0_S8x128))) (absf (extractStridedSlice S8x128 ![120, 0] M slices_S128x128_o120_0_S8x128)))

/-- The magnitudes of a loaded block. -/
def absLoad (v : Vec Ideal S32x256 .bf16) : FVec Ideal S32x256 .bf16 := absf (shapeCast S32x256 v shapeCasts_S32x256_S32x256)

/-- A block times its factors, clipped to the range of the codes. -/
def codes (a b : Vec Ideal S128x128 .f32) : FVec Ideal S128x128 .fp8e4m3 :=
  truncf .fp8e4m3 (minimumf (broadcast S128x128 (Scalar.ofBits .f32 0x43E00000#32)) (maximumf (broadcast S128x128 (Scalar.ofBits .f32 0xC3E00000#32)) (mulf a b))) bitsLt_fp8e4m3_f32

/-- One step of a running maximum: the block's magnitudes times the magnitude of its scale. -/
def mstep (m : FVec Ideal S8x128 .f32) (M : FVec Ideal S128x128 .f32) (s : EReal) : FVec Ideal S8x128 .f32 :=
  maximumf m (mulf (absmax8 M) (broadcast S8x128 (Scalar.absf (F := Ideal) (φ := .f32) s)))

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X1 : BufTy.Contents (Elt Ideal) arg1.view.ty)

/-- Row group 0: the block of columns step `u` of trip `k` of the maximum loop loads. -/
def xb1 (k : Fin k0_t1_loop.trips) (u : Fin 16) : Vec Ideal S32x256 .bf16 :=
  View.readAt (Elt Ideal) arg1.view
    (Rect.unit (s := S128x16384) (k0_off1 k (BitVec.ofNat 32 u.val)) S32x256.size (k0_off1_inb k u)).toLoadRect X1

/-- Row group 0: a trip of the maximum loop takes the maximum with sixteen column blocks' magnitudes. -/
theorem trip1  (k : Fin k0_t1_loop.trips) (acc : FVec Ideal S32x256 .bf16) :
    tripR_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X1 k acc =
      (List.finRange 16).foldl (fun m u => maximumf m (absLoad (xb1 arg1 X1 k u))) acc := by
  unfold tripR_k0_t1 trip_k0_t1
  rfl

/-- Row group 0: a trip of the code loop stores sixteen column blocks' codes. -/
theorem trip2 (w0 : IVec S32x1 1) (w1 : IVec S32x1 32) (k : Fin k0_t2_loop.trips) :
    tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 X1 k =
      steps.map fun u => ⟨Rect.unit (s := S128x16384) (k0_off2 k (BitVec.ofNat 32 u.val)) S32x256.size (k0_off2_inb k u),
        k0_pay6 (k0_pay286 w0 w1) (View.readAt (Elt Ideal) arg1.view
          (Rect.unit (s := S128x16384) (k0_off2 k (BitVec.ofNat 32 u.val)) S32x256.size (k0_off2_inb k u)).toLoadRect X1)⟩ := by
  unfold tripL_k0_t2 trip_k0_t2
  rfl
end

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X1 : BufTy.Contents (Elt Ideal) arg1.view.ty)

/-- Row group 1: the block of columns step `u` of trip `k` of the maximum loop loads. -/
def xb3 (k : Fin k0_t3_loop.trips) (u : Fin 16) : Vec Ideal S32x256 .bf16 :=
  View.readAt (Elt Ideal) arg1.view
    (Rect.unit (s := S128x16384) (k0_off3 k (BitVec.ofNat 32 u.val)) S32x256.size (k0_off3_inb k u)).toLoadRect X1

/-- Row group 1: a trip of the maximum loop takes the maximum with sixteen column blocks' magnitudes. -/
theorem trip3 (w0 : IVec S32x1 1) (w1 : IVec S32x1 32) (k : Fin k0_t3_loop.trips) (acc : FVec Ideal S32x256 .bf16) :
    tripR_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 X1 k acc =
      (List.finRange 16).foldl (fun m u => maximumf m (absLoad (xb3 arg1 X1 k u))) acc := by
  unfold tripR_k0_t3 trip_k0_t3
  rfl

/-- Row group 1: a trip of the code loop stores sixteen column blocks' codes. -/
theorem trip4 (w0 : FVec Ideal S32x256 .f32) (k : Fin k0_t4_loop.trips) :
    tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k =
      steps.map fun u => ⟨Rect.unit (s := S128x16384) (k0_off4 k (BitVec.ofNat 32 u.val)) S32x256.size (k0_off4_inb k u),
        k0_pay6 (k0_pay299 w0) (View.readAt (Elt Ideal) arg1.view
          (Rect.unit (s := S128x16384) (k0_off4 k (BitVec.ofNat 32 u.val)) S32x256.size (k0_off4_inb k u)).toLoadRect X1)⟩ := by
  unfold tripL_k0_t4 trip_k0_t4
  rfl
end

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X1 : BufTy.Contents (Elt Ideal) arg1.view.ty)

/-- Row group 2: the block of columns step `u` of trip `k` of the maximum loop loads. -/
def xb5 (k : Fin k0_t5_loop.trips) (u : Fin 16) : Vec Ideal S32x256 .bf16 :=
  View.readAt (Elt Ideal) arg1.view
    (Rect.unit (s := S128x16384) (k0_off5 k (BitVec.ofNat 32 u.val)) S32x256.size (k0_off5_inb k u)).toLoadRect X1

/-- Row group 2: a trip of the maximum loop takes the maximum with sixteen column blocks' magnitudes. -/
theorem trip5 (w0 : FVec Ideal S32x256 .f32) (k : Fin k0_t5_loop.trips) (acc : FVec Ideal S32x256 .bf16) :
    tripR_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k acc =
      (List.finRange 16).foldl (fun m u => maximumf m (absLoad (xb5 arg1 X1 k u))) acc := by
  unfold tripR_k0_t5 trip_k0_t5
  rfl

/-- Row group 2: a trip of the code loop stores sixteen column blocks' codes. -/
theorem trip6 (w0 : IVec S32x1 32) (k : Fin k0_t6_loop.trips) :
    tripL_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k =
      steps.map fun u => ⟨Rect.unit (s := S128x16384) (k0_off6 k (BitVec.ofNat 32 u.val)) S32x256.size (k0_off6_inb k u),
        k0_pay6 (k0_pay309 w0) (View.readAt (Elt Ideal) arg1.view
          (Rect.unit (s := S128x16384) (k0_off6 k (BitVec.ofNat 32 u.val)) S32x256.size (k0_off6_inb k u)).toLoadRect X1)⟩ := by
  unfold tripL_k0_t6 trip_k0_t6
  rfl
end

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X1 : BufTy.Contents (Elt Ideal) arg1.view.ty)

/-- Row group 3: the block of columns step `u` of trip `k` of the maximum loop loads. -/
def xb7 (k : Fin k0_t7_loop.trips) (u : Fin 16) : Vec Ideal S32x256 .bf16 :=
  View.readAt (Elt Ideal) arg1.view
    (Rect.unit (s := S128x16384) (k0_off7 k (BitVec.ofNat 32 u.val)) S32x256.size (k0_off7_inb k u)).toLoadRect X1

/-- Row group 3: a trip of the maximum loop takes the maximum with sixteen column blocks' magnitudes. -/
theorem trip7 (w0 : IVec S32x1 32) (k : Fin k0_t7_loop.trips) (acc : FVec Ideal S32x256 .bf16) :
    tripR_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k acc =
      (List.finRange 16).foldl (fun m u => maximumf m (absLoad (xb7 arg1 X1 k u))) acc := by
  unfold tripR_k0_t7 trip_k0_t7
  rfl

/-- Row group 3: a trip of the code loop stores sixteen column blocks' codes. -/
theorem trip8 (a0 : BitVec 32) (w0 : FVec Ideal S32x1 .f32) (w1 : FVec Ideal S32x128 .f32) (k : Fin k0_t8_loop.trips) :
    tripL_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X1 k =
      steps.map fun u => ⟨Rect.unit (s := S128x16384) (k0_off8 k (BitVec.ofNat 32 u.val)) S32x256.size (k0_off8_inb k u),
        k0_pay6 (k0_pay323 w0) (View.readAt (Elt Ideal) arg1.view
          (Rect.unit (s := S128x16384) (k0_off8 k (BitVec.ofNat 32 u.val)) S32x256.size (k0_off8_inb k u)).toLoadRect X1)⟩ := by
  unfold tripL_k0_t8 trip_k0_t8
  rfl
end

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X2 : BufTy.Contents (Elt Ideal) arg2.view.ty) (X4 : BufTy.Contents (Elt Ideal) arg4.view.ty) (X10 : BufTy.Contents (Elt Ideal) arg10.view.ty)

/-- The block product of step `u` of trip `k` of the first contraction. -/
def acc9 (k : Fin k0_t9_loop.trips) (u : Fin 16) : FVec Ideal S128x128 .f32 :=
  k0_pay88 (View.readAt (Elt Ideal) arg2.view (Rect.unit (s := S128x128x128) (k0_off10 k (BitVec.ofNat 32 u.val)) S1x128x128.size (k0_off10_inb k u)).toLoadRect X2)
    (View.readAt (Elt Ideal) arg10.view (Rect.unit (s := S128x16384) (k0_off11 k (BitVec.ofNat 32 u.val)) S128x128.size (k0_off11_inb k u)).toLoadRect X10)

/-- The weight scale of step `u` of trip `k` of the first contraction. -/
def sc9 (k : Fin k0_t9_loop.trips) (u : Fin 16) : EReal :=
  View.readAt (Elt Ideal) arg4.view (Rect.unit (s := S128) (k0_off13 k (BitVec.ofNat 32 u.val)) S1.size (k0_off13_inb k u)).toLoadRect X4
        (Shape.Idx.first (s := S1) (by decide))

/-- The first contraction: the running maximum over a trip. -/
theorem trip9R (a0 : BitVec 32) (w0 : FVec Ideal S32x1 .f32) (w1 : FVec Ideal S32x128 .f32) (k : Fin k0_t9_loop.trips) (acc : FVec Ideal S8x128 .f32) :
    tripR_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X2 X4 X10 k acc =
      (List.finRange 16).foldl (fun m u => mstep m (acc9 arg2 arg10 X2 X10 k u) (sc9 arg4 X4 k u)) acc := by
  unfold tripR_k0_t9 trip_k0_t9
  rfl

/-- The first contraction: the blocks a trip stores. -/
theorem trip9L (a0 : BitVec 32) (w0 : FVec Ideal S32x1 .f32) (w1 : FVec Ideal S32x128 .f32) (k : Fin k0_t9_loop.trips) (acc : FVec Ideal S8x128 .f32) :
    tripL_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X2 X4 X10 k acc =
      steps.map fun u => ⟨Rect.unit (s := S16896x128) (k0_off12 k (BitVec.ofNat 32 u.val)) S128x128.size (k0_off12_inb k u),
        shapeCast S128x128 (acc9 arg2 arg10 X2 X10 k u) shapeCasts_S128x128_S128x128⟩ := by
  unfold tripL_k0_t9 trip_k0_t9
  rfl
end

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X5 : BufTy.Contents (Elt Ideal) arg5.view.ty) (X7 : BufTy.Contents (Elt Ideal) arg7.view.ty) (X14 : BufTy.Contents (Elt Ideal) arg14.view.ty) (X16 : BufTy.Contents (Elt Ideal) arg16.view.ty)

/-- The scaled, clipped strided rows of step `u` of trip `k` of the second contraction. -/
def v10 (k : Fin k0_t10_loop.trips) (u : Fin 16) : FVec Ideal S128x128 .fp8e4m3 :=
  codes (View.readAt (Elt Ideal) arg14.view (LoadRect.mk (s := S16896x128) (k0_off14 k (BitVec.ofNat 32 u.val)) ![128, 128] ![132, 1] (k0_off14_inb k u)) X14)
      (View.readAt (Elt Ideal) arg16.view whole128 X16)

/-- The block product of step `u` of trip `k` of the second contraction. -/
def acc10 (k : Fin k0_t10_loop.trips) (u : Fin 16) : FVec Ideal S128x128 .f32 :=
  matmul (φ₁ := .fp8e4m3) (φ₂ := .fp8e4m3) dot_S128x128_S128x128_S128x128_1_0_0_1_n_n none
    (shapeCast (s := S1x128x128) (α := Ideal .fp8e4m3) S128x128 (View.readAt (Elt Ideal) arg5.view (Rect.unit (s := S128x128x128) (k0_off16 k (BitVec.ofNat 32 u.val)) S1x128x128.size (k0_off16_inb k u)).toLoadRect X5) shapeCasts_S1x128x128_S128x128)
    (v10 arg14 arg16 X14 X16 k u) (constant S128x128 .f32 0x00000000#32)

/-- The weight scale of step `u` of trip `k` of the second contraction. -/
def sc10 (k : Fin k0_t10_loop.trips) (u : Fin 16) : EReal :=
  View.readAt (Elt Ideal) arg7.view (Rect.unit (s := S128) (k0_off18 k (BitVec.ofNat 32 u.val)) S1.size (k0_off18_inb k u)).toLoadRect X7
        (Shape.Idx.first (s := S1) (by decide))

/-- The second contraction: the running maximum over a trip. -/
theorem trip10R (w0 : FVec Ideal S1x128 .f32) (w1 : FVec Ideal S8x128 .f32) (w2 : BitVec 32) (k : Fin k0_t10_loop.trips) (acc : FVec Ideal S8x128 .f32) :
    tripR_k0_t10 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 k acc =
      (List.finRange 16).foldl (fun m u => mstep m (acc10 arg5 arg14 arg16 X5 X14 X16 k u) (sc10 arg7 X7 k u)) acc := by
  unfold tripR_k0_t10 trip_k0_t10
  rfl

/-- The second contraction: the code blocks and the product blocks a trip stores. -/
theorem trip10L (w0 : FVec Ideal S1x128 .f32) (w1 : FVec Ideal S8x128 .f32) (w2 : BitVec 32) (k : Fin k0_t10_loop.trips) (acc : FVec Ideal S8x128 .f32) :
    tripL_k0_t10 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 k acc =
      (steps.map fun u => ⟨Rect.unit (s := S128x16384) (k0_off15 k (BitVec.ofNat 32 u.val)) S128x128.size (k0_off15_inb k u),
        transpose S128x128 [1, 0] (v10 arg14 arg16 X14 X16 k u) transposes_S128x128_p1_0_S128x128⟩,
       steps.map fun u => ⟨Rect.unit (s := S16896x128) (k0_off17 k (BitVec.ofNat 32 u.val)) S128x128.size (k0_off17_inb k u),
        shapeCast S128x128 (acc10 arg5 arg14 arg16 X5 X14 X16 k u) shapeCasts_S128x128_S128x128⟩) := by
  unfold tripL_k0_t10 trip_k0_t10
  rfl
end

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X15 : BufTy.Contents (Elt Ideal) arg15.view.ty) (X16 : BufTy.Contents (Elt Ideal) arg16.view.ty)

/-- The last loop: the code blocks a trip stores. -/
theorem trip11 (k : Fin k0_t11_loop.trips) :
    tripL_k0_t11 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 X16 k =
      steps.map fun u => ⟨Rect.unit (s := S128x16384) (k0_off20 k (BitVec.ofNat 32 u.val)) S128x128.size (k0_off20_inb k u),
        transpose S128x128 [1, 0] (codes (View.readAt (Elt Ideal) arg15.view (LoadRect.mk (s := S16896x128) (k0_off19 k (BitVec.ofNat 32 u.val)) ![128, 128] ![132, 1] (k0_off19_inb k u)) X15)
          (View.readAt (Elt Ideal) arg16.view whole128 X16)) transposes_S128x128_p1_0_S128x128⟩ := by
  unfold tripL_k0_t11 trip_k0_t11
  rfl
end

end Cert.Proof.Value
end
-- ==== Proof.Scale.lean ====
/-
  The power-of-two scale of one magnitude: the bitwise search for the exponent agrees with the logarithm.
-/
module

public import Idealize.ShloMosaic.Lib.Pointwise

@[expose] public section

noncomputable section

namespace Cert.Proof.Value

open Idealize.ShloMosaic

/-- The number whose bits are `b` moved up to the exponent field. -/
def pow32 (b : BitVec 32) : EReal := Ideal.ofBits .f32 (IntOp.shli .vector b 23#32)

/-- One step of the search: add `s` to the exponent if the power it names is at most `t`. -/
def sstep (t : EReal) (b s : BitVec 32) : BitVec 32 := if t < pow32 (IntOp.addi b s) then b else IntOp.addi b s

/-- The exponent the eight steps find. -/
def sexp (t : EReal) : BitVec 32 :=
  sstep t (sstep t (sstep t (sstep t (sstep t (sstep t (sstep t (sstep t 0#32 126#32) 63#32) 32#32) 16#32) 8#32) 4#32) 2#32) 1#32

/-- The exponent of the scale: zero where the search found nothing. -/
def sadj (b : BitVec 32) : BitVec 32 := Scalar.select (IntOp.cmpi CmpIPredicate.eq b 0#32) 0#32 (IntOp.subi b 126#32)

/-- The factor a magnitude is divided by: the largest code, as a number to multiply with. -/
abbrev cmul : EReal := Ideal.ofBits .f32 0x3B124925#32

/-- The scale of the magnitude `a`, as the search builds it. -/
def kS (a : EReal) : EReal := pow32 (IntOp.addi 127#32 (sadj (sexp (a * cmul))))

/-- The inverse scale of the magnitude `a`, as the search builds it. -/
def kI (a : EReal) : EReal := pow32 (IntOp.subi 127#32 (sadj (sexp (a * cmul))))

/-- The exponent of the scale, by the logarithm. -/
def refE (t : EReal) : EReal :=
  if t < Ideal.ofBits .f32 0x00800000#32 then (((0#32).toInt : ℝ) : EReal)
  else min (Ideal.liftRound Int.floor (Ideal.div (Ideal.log t) (Ideal.log (Ideal.ofBits .f32 0x40000000#32))) + 1)
    (Ideal.ofBits .f32 0x42FC0000#32)

/-- Two to the power `n - 127`. -/
def pw (n : ℕ) : ℝ := (2 : ℝ) ^ ((n : ℤ) - 127)

theorem pw_pos (n : ℕ) : 0 < pw n := by unfold pw; positivity

theorem pw_mono {a b : ℕ} (h : a ≤ b) : pw a ≤ pw b := by
  unfold pw; exact zpow_le_zpow_right₀ (by norm_num) (by omega)

/-- A number whose sign bit is clear and whose exponent field is neither end. -/
theorem normal_bits (b : BitVec 32) (n f : ℕ) (ha : (b.extractLsb' 31 1 == 1#1) = false) (hb : (b.extractLsb' 23 8).toNat = n)
    (hc : (b.extractLsb' 0 23).toNat = f) (h1 : 1 ≤ n) (h2 : n ≤ 254) :
    Ideal.ofBits .f32 b = (((1 + f / 8388608) * (2 : ℝ) ^ ((n : ℤ) - 127) : ℝ) : EReal) := by
  have e : Ideal.ofBits .f32 b = Ideal.ieee 8 23 b := rfl
  rw [e]
  unfold Ideal.ieee
  simp only [ha, hb, hc, show (8 + 23 : ℕ) = 31 from rfl]
  rw [if_neg (show ¬ n = 2 ^ 8 - 1 by norm_num; omega), if_neg (show ¬ n = 0 by omega)]
  congr 1
  rw [show ((n : ℤ) - (2 ^ (8 - 1) - 1) - ((23 : ℕ) : ℤ)) = ((n : ℤ) - 127) - 23 by norm_num, zpow_sub₀ (by norm_num)]
  norm_num
  ring

theorem zero_bits : Ideal.ofBits .f32 0x00000000#32 = ((0 : ℝ) : EReal) := by
  have e : Ideal.ofBits .f32 0x00000000#32 = Ideal.ieee 8 23 0x00000000#32 := rfl
  rw [e]
  unfold Ideal.ieee
  have ha : ((0x00000000#32).extractLsb' 31 1 == 1#1) = false := by decide
  have hb : ((0x00000000#32).extractLsb' 23 8).toNat = 0 := by decide
  have hc : ((0x00000000#32).extractLsb' 0 23).toNat = 0 := by decide
  simp only [ha, hb, hc]
  rw [if_neg (by norm_num), if_pos trivial]
  congr 1
  norm_num

/-- A number with exponent field `n` and no fraction is a power of two. -/
theorem pow32_ofNat (n : ℕ) (h1 : 1 ≤ n) (h2 : n ≤ 254) : pow32 (BitVec.ofNat 32 n) = ((pw n : ℝ) : EReal) := by
  have key : ∀ n : Fin 255,
      ((IntOp.shli .vector (BitVec.ofNat 32 n.val) 23#32).extractLsb' 31 1 == 1#1) = false ∧
      ((IntOp.shli .vector (BitVec.ofNat 32 n.val) 23#32).extractLsb' 23 8).toNat = n.val ∧
      ((IntOp.shli .vector (BitVec.ofNat 32 n.val) 23#32).extractLsb' 0 23).toNat = 0 := by decide +kernel
  obtain ⟨ha, hb, hc⟩ := key ⟨n, by omega⟩
  unfold pow32
  rw [normal_bits _ n 0 ha hb hc h1 h2]
  unfold pw
  norm_num

/-- What the search keeps true: everything known about the exponent with `R` still to distribute. -/
def Inv (t : EReal) (b : BitVec 32) (R : ℕ) : Prop :=
  ∃ n : ℕ, b = BitVec.ofNat 32 n ∧ n + R ≤ 252 ∧ (n = 0 ∨ ((pw n : ℝ) : EReal) ≤ t) ∧
    (n + R = 252 ∨ t < ((pw (n + R + 1) : ℝ) : EReal))

/-- One step of the search keeps the invariant. -/
theorem sstep_inv (t : EReal) (b : BitVec 32) (R s : ℕ) (hs : 1 ≤ s) (hR : s ≤ R) (h2 : 2 * s ≤ R + 1) (h : Inv t b R) :
    Inv t (sstep t b (BitVec.ofNat 32 s)) (R - s) := by
  obtain ⟨n, rfl, hn, hlo, hhi⟩ := h
  have hadd : IntOp.addi (BitVec.ofNat 32 n) (BitVec.ofNat 32 s) = BitVec.ofNat 32 (n + s) := by
    show BitVec.ofNat 32 n + BitVec.ofNat 32 s = _
    rw [BitVec.ofNat_add]
  unfold sstep
  rw [hadd, pow32_ofNat (n + s) (by omega) (by omega)]
  split
  · rename_i hlt
    exact ⟨n, rfl, by omega, hlo, Or.inr (lt_of_lt_of_le hlt (EReal.coe_le_coe_iff.mpr (pw_mono (by omega))))⟩
  · rename_i hge
    refine ⟨n + s, rfl, by omega, Or.inr (not_lt.mp hge), ?_⟩
    rcases hhi with h | h
    · left; omega
    · right; rw [show n + s + (R - s) + 1 = n + R + 1 by omega]; exact h

/-- What the eight steps end with. -/
theorem sexp_inv (t : EReal) : Inv t (sexp t) 0 := by
  have h0 : Inv t 0#32 252 := ⟨0, rfl, by omega, Or.inl rfl, Or.inl rfl⟩
  have h1 := sstep_inv t _ 252 126 (by omega) (by omega) (by omega) h0
  have h2 := sstep_inv t _ 126 63 (by omega) (by omega) (by omega) h1
  have h3 := sstep_inv t _ 63 32 (by omega) (by omega) (by omega) h2
  have h4 := sstep_inv t _ 31 16 (by omega) (by omega) (by omega) h3
  have h5 := sstep_inv t _ 15 8 (by omega) (by omega) (by omega) h4
  have h6 := sstep_inv t _ 7 4 (by omega) (by omega) (by omega) h5
  have h7 := sstep_inv t _ 3 2 (by omega) (by omega) (by omega) h6
  exact sstep_inv t _ 1 1 (by omega) (by omega) (by omega) h7

theorem two_bits : Ideal.ofBits .f32 0x40000000#32 = ((2 : ℝ) : EReal) := by
  have := pow32_ofNat 128 (by omega) (by omega)
  rw [show pw 128 = 2 by unfold pw; norm_num] at this
  exact this

theorem min_bits : Ideal.ofBits .f32 0x00800000#32 = ((pw 1 : ℝ) : EReal) := pow32_ofNat 1 (by omega) (by omega)

theorem cap_bits : Ideal.ofBits .f32 0x42FC0000#32 = ((126 : ℝ) : EReal) := by
  rw [normal_bits _ 133 0x7C0000 (by decide) (by decide) (by decide) (by omega) (by omega)]
  congr 1
  norm_num

/-- The exponent by the logarithm, from the place of `t` between two powers of two. -/
theorem refE_eq (t : EReal) (n : ℕ) (hn : n ≤ 252) (hlo : n = 0 ∨ ((pw n : ℝ) : EReal) ≤ t)
    (hhi : n = 252 ∨ t < ((pw (n + 1) : ℝ) : EReal)) :
    refE t = (((if n = 0 then 0 else (n : ℤ) - 126 : ℤ) : ℝ) : EReal) := by
  unfold refE
  rw [min_bits, two_bits, cap_bits]
  have hlog2 : 0 < Real.log 2 := Real.log_pos (by norm_num)
  by_cases h0 : n = 0
  · subst h0
    rcases hhi with h | h
    · omega
    · rw [if_pos (by simpa using h), if_pos rfl]; norm_num
  · rw [if_neg h0]
    have hge : ((pw n : ℝ) : EReal) ≤ t := by rcases hlo with h | h; exact absurd h h0; exact h
    rw [if_neg (not_lt.mpr (le_trans (EReal.coe_le_coe_iff.mpr (pw_mono (by omega))) hge))]
    have hl2 : Ideal.log ((2 : ℝ) : EReal) = ((Real.log 2 : ℝ) : EReal) := by
      show (if (2:ℝ) ≤ 0 then (⊥ : EReal) else _) = _
      rw [if_neg (by norm_num)]
    rw [hl2]
    induction t with
    | bot => exact absurd hge (by simp)
    | top =>
      have hn' : n = 252 := by rcases hhi with h | h; exact h; exact absurd h (by simp)
      subst hn'
      have : Ideal.div (Ideal.log ⊤) ((Real.log 2 : ℝ) : EReal) = ⊤ := by
        show (if ((Real.log 2 : ℝ) : EReal) = 0 then _ else (⊤ : EReal) * _) = _
        rw [if_neg (by exact_mod_cast hlog2.ne'), ← EReal.coe_inv]
        exact EReal.top_mul_of_pos (by exact_mod_cast inv_pos.mpr hlog2)
      rw [this]
      show min ((⊤ : EReal) + 1) _ = _
      rw [show ((⊤ : EReal) + 1) = ⊤ by rfl]
      norm_num
    | coe r =>
      have hr : pw n ≤ r := EReal.coe_le_coe_iff.mp hge
      have hr0 : 0 < r := lt_of_lt_of_le (pw_pos n) hr
      have hlr : Ideal.log ((r : ℝ) : EReal) = ((Real.log r : ℝ) : EReal) := by
        show (if r ≤ 0 then (⊥ : EReal) else _) = _
        rw [if_neg (by linarith)]
      have hd : Ideal.div ((Real.log r : ℝ) : EReal) ((Real.log 2 : ℝ) : EReal) = ((Real.log r / Real.log 2 : ℝ) : EReal) := by
        show (if ((Real.log 2 : ℝ) : EReal) = 0 then _ else _) = _
        rw [if_neg (by exact_mod_cast hlog2.ne'), ← EReal.coe_inv, ← EReal.coe_mul, div_eq_mul_inv]
      rw [hlr, hd]
      show min ((((⌊Real.log r / Real.log 2⌋ : ℤ) : ℝ) : EReal) + 1) ((126 : ℝ) : EReal) = _
      have hq1 : ((n : ℤ) - 127 : ℤ) ≤ ⌊Real.log r / Real.log 2⌋ := by
        rw [Int.le_floor, le_div_iff₀ hlog2, ← Real.log_zpow]
        exact Real.log_le_log (pw_pos n) hr
      rw [show (1 : EReal) = ((1 : ℝ) : EReal) by rfl, ← EReal.coe_add, show ∀ a b : ℝ, min (a : EReal) (b : EReal) = ((min a b : ℝ) : EReal) from fun a b => (EReal.coe_strictMono.monotone.map_min).symm]
      congr 1
      rw [show ((⌊Real.log r / Real.log 2⌋ : ℤ) : ℝ) + 1 = ((⌊Real.log r / Real.log 2⌋ + 1 : ℤ) : ℝ) by push_cast; ring,
        show (126 : ℝ) = ((126 : ℤ) : ℝ) by norm_num, ← Int.cast_min]
      congr 1
      rcases hhi with h | h
      · subst h
        rw [min_eq_right (by push_cast at hq1; omega)]; norm_num
      · have hq2 : ⌊Real.log r / Real.log 2⌋ < (n : ℤ) - 126 := by
          rw [Int.floor_lt, div_lt_iff₀ hlog2, ← Real.log_zpow]
          refine Real.log_lt_log hr0 ?_
          have := EReal.coe_lt_coe_iff.mp h
          unfold pw at this
          rw [show ((n : ℤ) - 126) = ((n + 1 : ℕ) : ℤ) - 127 by push_cast; ring]
          exact this
        rw [min_eq_left (by omega)]; omega

theorem exp2_int (e : ℤ) : Ideal.exp2 (((e : ℤ) : ℝ) : EReal) = (((2 : ℝ) ^ e : ℝ) : EReal) := by
  show ((Real.rpow 2 (e : ℝ) : ℝ) : EReal) = _
  congr 1
  exact Real.rpow_intCast 2 e

/-- The scale and the inverse scale from the exponent the search ends with. -/
theorem scale_forms (t : EReal) :
    pow32 (IntOp.addi 127#32 (sadj (sexp t))) = Ideal.exp2 (refE t) ∧
    pow32 (IntOp.subi 127#32 (sadj (sexp t))) = Ideal.exp2 (Ideal.ofBits .f32 0x00000000#32 - refE t) ∧
    ∃ e : ℤ, refE t = (((e : ℤ) : ℝ) : EReal) := by
  obtain ⟨n, hb, hn, hlo, hhi⟩ := sexp_inv t
  rw [refE_eq t n hn hlo hhi, hb, zero_bits, exp2_int, ← EReal.coe_sub, zero_sub, ← Int.cast_neg, exp2_int]
  refine ⟨?_, ?_, ⟨_, rfl⟩⟩
  · have key : ∀ n : Fin 253, IntOp.addi 127#32 (sadj (BitVec.ofNat 32 n.val)) = BitVec.ofNat 32 (if n.val = 0 then 127 else n.val + 1) := by
      decide +kernel
    rw [key ⟨n, by omega⟩]
    simp only []
    by_cases h0 : n = 0
    · subst h0; rw [if_pos rfl, if_pos rfl, pow32_ofNat 127 (by omega) (by omega)]; unfold pw; norm_num
    · rw [if_neg h0, if_neg h0, pow32_ofNat (n + 1) (by omega) (by omega)]; unfold pw; congr 2; push_cast; ring
  · have key : ∀ n : Fin 253, IntOp.subi 127#32 (sadj (BitVec.ofNat 32 n.val)) = BitVec.ofNat 32 (if n.val = 0 then 127 else 253 - n.val) := by
      decide +kernel
    rw [key ⟨n, by omega⟩]
    simp only []
    by_cases h0 : n = 0
    · subst h0; rw [if_pos rfl, if_pos rfl, pow32_ofNat 127 (by omega) (by omega)]; unfold pw; norm_num
    · rw [if_neg h0, if_neg h0, pow32_ofNat (253 - n) (by omega) (by omega)]; unfold pw; congr 2; push_cast [Nat.cast_sub (show n ≤ 253 by omega)]; ring

/-- The scale is two to the exponent the logarithm gives. -/
theorem kS_eq (a : EReal) : kS a = Ideal.exp2 (refE (a * cmul)) := (scale_forms _).1

/-- The inverse scale is two to minus the exponent the logarithm gives. -/
theorem kI_eq (a : EReal) : kI a = Ideal.exp2 (Ideal.ofBits .f32 0x00000000#32 - refE (a * cmul)) := (scale_forms _).2.1

/-- The scale is a positive real number. -/
theorem kS_pos (a : EReal) : ∃ r : ℝ, 0 < r ∧ kS a = ((r : ℝ) : EReal) := by
  obtain ⟨e, he⟩ := (scale_forms (a * cmul)).2.2
  exact ⟨2 ^ e, by positivity, by rw [kS_eq, he, exp2_int]⟩

end Cert.Proof.Value
-- ==== Proof.Fold.lean ====
/-
  Counted loops of sixteen unrolled steps: what a running maximum bounds, and which pieces a list of stores holds.
-/
module

public import Idealize.ShloMosaic.Lib.Pointwise
public import Idealize.ShloMosaic.Lib.Writes
public import proofs.«01_k».proof.Proof.Scale

@[expose] public section

noncomputable section

namespace Cert.Proof.Value

open Idealize.ShloMosaic

/-- The magnitude of a number. -/
def absE (e : EReal) : EReal := max e (-e)

theorem absE_nonneg (e : EReal) : 0 ≤ absE e := by
  unfold absE
  rcases le_total 0 e with h | h
  · exact le_max_of_le_left h
  · exact le_max_of_le_right (by simpa using EReal.neg_le_neg_iff.mpr h)

/-- The maximum of a family, and of zero. -/
def mx {ι : Type} [Fintype ι] (f : ι → EReal) : EReal := max 0 (Finset.univ.sup f)

theorem mx_le {ι : Type} [Fintype ι] (f : ι → EReal) (b : EReal) : mx f ≤ b ↔ 0 ≤ b ∧ ∀ i, f i ≤ b := by
  unfold mx; rw [max_le_iff, Finset.sup_le_iff]; simp

theorem mx_nonneg {ι : Type} [Fintype ι] (f : ι → EReal) : 0 ≤ mx f := le_max_left _ _

theorem eq_mx {ι : Type} [Fintype ι] (f : ι → EReal) (a : EReal) (h : ∀ b, a ≤ b ↔ 0 ≤ b ∧ ∀ i, f i ≤ b) : a = mx f :=
  eq_of_forall_ge_iff fun b => by rw [h b, mx_le]

theorem ninf_bits : Ideal.ofBits .f32 0xFF800000#32 = ⊥ := by
  have e : Ideal.ofBits .f32 0xFF800000#32 = Ideal.ieee 8 23 0xFF800000#32 := rfl
  rw [e]
  unfold Ideal.ieee
  have ha : ((0xFF800000#32).extractLsb' 31 1 == 1#1) = true := by decide
  have hb : ((0xFF800000#32).extractLsb' 23 8).toNat = 255 := by decide
  have hc : ((0xFF800000#32).extractLsb' 0 23).toNat = 0 := by decide
  simp only [hb, hc, show (8 + 23 : ℕ) = 31 from rfl]
  rw [if_pos (by norm_num), if_pos trivial, if_pos ha]

/-- A maximum folded from minus infinity. -/
theorem fold_max_le {ι : Type} [Fintype ι] (f : ι → EReal) (b : EReal) :
    Finset.fold max (Ideal.ofBits FTy.f32 0xFF800000#32) f Finset.univ ≤ b ↔ ∀ i, f i ≤ b := by
  rw [Finset.fold_max_le, ninf_bits]; simp

/-- What a running maximum bounds, after `n` trips of sixteen steps. -/
theorem foldl_le {A : Type} {T : ℕ} (st : ℕ → A) (φ : A → EReal) (step : Fin T → Fin 16 → A → A) (g : Fin T → Fin 16 → EReal)
    (hs : ∀ k : Fin T, st (k.val + 1) = (List.finRange 16).foldl (fun m u => step k u m) (st k.val))
    (hφ : ∀ k u m, φ (step k u m) = max (φ m) (g k u)) (b : EReal) (n : ℕ) (hn : n ≤ T) :
    φ (st n) ≤ b ↔ φ (st 0) ≤ b ∧ ∀ k : Fin T, k.val < n → ∀ u, g k u ≤ b := by
  have inner : ∀ (k : Fin T) (L : List (Fin 16)) (m : A),
      φ (L.foldl (fun m u => step k u m) m) ≤ b ↔ φ m ≤ b ∧ ∀ u ∈ L, g k u ≤ b := by
    intro k L
    induction L with
    | nil => intro m; simp
    | cons u L ih => intro m; rw [List.foldl_cons, ih, hφ, max_le_iff]; simp [and_assoc]
  induction n with
  | zero => simp
  | succ n ih =>
    have e : φ (st (n + 1)) ≤ b ↔ φ (st n) ≤ b ∧ ∀ u ∈ List.finRange 16, g ⟨n, hn⟩ u ≤ b := by
      rw [hs ⟨n, hn⟩]; exact inner _ _ _
    refine e.trans ((and_congr_left' (ih (Nat.le_of_succ_le hn))).trans (and_assoc.trans (and_congr_right fun _ => ?_)))
    refine ⟨fun ⟨h1, h2⟩ k hk u => ?_, fun h => ⟨fun k hk u => h k (by omega) u, fun u _ => h ⟨n, hn⟩ (by simp) u⟩⟩
    rcases Nat.lt_succ_iff_lt_or_eq.mp hk with h | h
    · exact h1 k h u
    · obtain rfl : k = ⟨n, hn⟩ := Fin.ext h
      exact h2 u (List.mem_finRange u)

/-- The pieces a store loop has listed after `n` trips of sixteen steps. -/
theorem mem_pieces {P : Type} {T : ℕ} (pb : ℕ → List P) (Q : Fin T → Fin 16 → P) (h0 : pb 0 = [])
    (hs : ∀ k : Fin T, pb (k.val + 1) = (List.finRange 16).reverse.map (Q k) ++ pb k.val) (n : ℕ) (hn : n ≤ T) (p : P) :
    p ∈ pb n ↔ ∃ k : Fin T, k.val < n ∧ ∃ u, p = Q k u := by
  induction n with
  | zero => simp [h0]
  | succ n ih =>
    rw [hs ⟨n, hn⟩, List.mem_append, ih (by omega), List.mem_map]
    constructor
    · rintro (⟨u, -, rfl⟩ | ⟨k, hk, u, rfl⟩)
      · exact ⟨⟨n, hn⟩, by simp, u, rfl⟩
      · exact ⟨k, by omega, u, rfl⟩
    · rintro ⟨k, hk, u, rfl⟩
      rcases Nat.lt_succ_iff_lt_or_eq.mp hk with h | h
      · exact Or.inr ⟨k, h, u, rfl⟩
      · obtain rfl : k = ⟨n, hn⟩ := Fin.ext h
        exact Or.inl ⟨u, by simp, rfl⟩

/-- Multiplying by a nonnegative number keeps maxima. -/
theorem max_mul_nonneg {s : EReal} (hs : 0 ≤ s) (a b : EReal) : max a b * s = max (a * s) (b * s) :=
  Monotone.map_max (f := fun x => x * s) (fun _ _ h => mul_le_mul_of_nonneg_right h hs)

/-- A rectangle of a two-axis array loaded, at one index. -/
theorem readAt2 {sig : RefSig} {κ : Kind} {sp : Space} {e : EltTy} {n0 n1 m0 m1 : ℕ} (v : View sig κ sp ⟨2, ![n0, n1]⟩ e)
    (f : v.ty.Contents (Elt Ideal)) (off : Fin 2 → ℕ) (inb) (o0 o1 : ℕ) (h : off = ![o0, o1]) (a : Fin m0) (b : Fin m1)
    (A : Fin n0) (B : Fin n1) (hA : A.val = o0 + a.val) (hB : B.val = o1 + b.val) :
    v.readAt (Elt Ideal) (Rect.unit (s := ⟨2, ![n0, n1]⟩) off ((⟨2, ![m0, m1]⟩ : Shape).size) inb).toLoadRect f (ix2 a b) = v.read (Elt Ideal) f (ix2 A B) := by
  subst h
  show v.read (Elt Ideal) f _ = _
  congr 1
  funext q
  apply Fin.ext
  refine Fin.cases ?_ (fun q => ?_) q
  · show o0 + 1 * a.val = A.val
    omega
  · obtain rfl : q = 0 := Subsingleton.elim _ _
    show o1 + 1 * b.val = B.val
    omega

/-- A strided rectangle of a two-axis array loaded, at one index. -/
theorem readAtS {sig : RefSig} {κ : Kind} {sp : Space} {e : EltTy} {n0 n1 m0 m1 : ℕ} (v : View sig κ sp ⟨2, ![n0, n1]⟩ e)
    (f : v.ty.Contents (Elt Ideal)) (off : Fin 2 → ℕ) (s0 : ℕ) (inb) (o0 o1 : ℕ) (h : off = ![o0, o1]) (a : Fin m0) (b : Fin m1)
    (A : Fin n0) (B : Fin n1) (hA : A.val = o0 + s0 * a.val) (hB : B.val = o1 + b.val) :
    v.readAt (Elt Ideal) (LoadRect.mk (s := ⟨2, ![n0, n1]⟩) off ![m0, m1] ![s0, 1] inb) f (ix2 a b) = v.read (Elt Ideal) f (ix2 A B) := by
  subst h
  show v.read (Elt Ideal) f _ = _
  congr 1
  funext q
  apply Fin.ext
  refine Fin.cases ?_ (fun q => ?_) q
  · show o0 + s0 * a.val = A.val
    omega
  · obtain rfl : q = 0 := Subsingleton.elim _ _
    show o1 + 1 * b.val = B.val
    omega

/-- A rectangle of a three-axis array loaded, at one index. -/
theorem readAt3 {sig : RefSig} {κ : Kind} {sp : Space} {e : EltTy} {n0 n1 n2 m0 m1 m2 : ℕ} (v : View sig κ sp ⟨3, ![n0, n1, n2]⟩ e)
    (f : v.ty.Contents (Elt Ideal)) (off : Fin 3 → ℕ) (inb) (o0 o1 o2 : ℕ) (h : off = ![o0, o1, o2]) (a : Fin m0) (b : Fin m1) (d : Fin m2)
    (A : Fin n0) (B : Fin n1) (D : Fin n2) (hA : A.val = o0 + a.val) (hB : B.val = o1 + b.val) (hD : D.val = o2 + d.val) :
    v.readAt (Elt Ideal) (Rect.unit (s := ⟨3, ![n0, n1, n2]⟩) off ((⟨3, ![m0, m1, m2]⟩ : Shape).size) inb).toLoadRect f (ix3 a b d) = v.read (Elt Ideal) f (ix3 A B D) := by
  subst h
  show v.read (Elt Ideal) f _ = _
  congr 1
  funext q
  apply Fin.ext
  match q with
  | 0 => show o0 + 1 * a.val = A.val; omega
  | 1 => show o1 + 1 * b.val = B.val; omega
  | 2 => show o2 + 1 * d.val = D.val; omega

/-- The place in the array of an index of a rectangle. -/
theorem emb2 {n0 n1 m0 m1 : ℕ} (off : Fin 2 → ℕ) (inb) (o0 o1 : ℕ) (h : off = ![o0, o1]) (a : Fin m0) (b : Fin m1)
    (A : Fin n0) (B : Fin n1) (hA : A.val = o0 + a.val) (hB : B.val = o1 + b.val) :
    (Rect.unit (s := ⟨2, ![n0, n1]⟩) off ((⟨2, ![m0, m1]⟩ : Shape).size) inb).emb (ix2 a b) = ix2 A B := by
  subst h
  funext q
  apply Fin.ext
  refine Fin.cases ?_ (fun q => ?_) q
  · show o0 + 1 * a.val = A.val
    omega
  · obtain rfl : q = 0 := Subsingleton.elim _ _
    show o1 + 1 * b.val = B.val
    omega

/-- An index lies in a rectangle of a two-axis array. -/
theorem mem2 {n0 n1 m0 m1 : ℕ} (off : Fin 2 → ℕ) (inb) (o0 o1 : ℕ) (h : off = ![o0, o1]) (A : Fin n0) (B : Fin n1)
    (h0 : o0 ≤ A.val) (h1 : A.val < o0 + m0) (h2 : o1 ≤ B.val) (h3 : B.val < o1 + m1) :
    ix2 A B ∈ (Rect.unit (s := ⟨2, ![n0, n1]⟩) off ((⟨2, ![m0, m1]⟩ : Shape).size) inb).set := by
  subst h
  rw [Rect.mem_set_unit]
  refine Fin.cases ?_ (fun q => ?_)
  · exact ⟨h0, h1⟩
  · obtain rfl : q = 0 := Subsingleton.elim _ _
    exact ⟨h2, h3⟩

end Cert.Proof.Value
-- ==== Proof.Words.lean ====
/-
  The scale words of the kernel's row groups and of its two products, read at one index.
-/
module

public import proofs.«01_k».proof.Proof.Gen.KernelIdeal.Skeleton
public import proofs.«01_k».proof.Proof.Scale
public import Idealize.ShloMosaic.Lib.Pointwise

@[expose] public section

noncomputable section

namespace Cert.Proof.Value

open Cert.KernelIdeal Cert.KernelIdeal.Gen
open Idealize.ShloMosaic
open Idealize.ShloMosaic.TcCoe Idealize.ShloMosaic.Tactic

/-- One step of the search on a whole vector. -/
def vstep {s : Shape} (t : FVec Ideal s .f32) (b : IVec s 32) (k : BitVec 32) : IVec s 32 :=
  select (cmpf .olt t (bitcastToFloat .f32 (shli (addi b (broadcast s k)) (broadcast s 23#32)))) b (addi b (broadcast s k))

/-- The eight steps on a whole vector. -/
def vexp {s : Shape} (t : FVec Ideal s .f32) : IVec s 32 :=
  vstep t (vstep t (vstep t (vstep t (vstep t (vstep t (vstep t (vstep t (broadcast s 0#32) 126#32) 63#32) 32#32) 16#32) 8#32) 4#32) 2#32) 1#32

/-- The exponents of the scales of a vector. -/
def vadj {s : Shape} (b : IVec s 32) : IVec s 32 :=
  select (cmpi .eq b (broadcast s 0#32)) (broadcast s 0#32) (subi b (broadcast s 126#32))

/-- The scales of a vector. -/
def vS {s : Shape} (t : FVec Ideal s .f32) : FVec Ideal s .f32 :=
  bitcastToFloat .f32 (shli (addi (broadcast s 127#32) (vadj (vexp t))) (broadcast s 23#32))

/-- The inverse scales of a vector. -/
def vI {s : Shape} (t : FVec Ideal s .f32) : FVec Ideal s .f32 :=
  bitcastToFloat .f32 (shli (subi (broadcast s 127#32) (vadj (vexp t))) (broadcast s 23#32))

theorem vstep_apply {s : Shape} (t : FVec Ideal s .f32) (b : IVec s 32) (k : BitVec 32) (j : s.Idx) :
    vstep t b k j = sstep (t j) (b j) k := by
  show Scalar.select (Ideal.cmp .olt (t j) (pow32 (IntOp.addi (b j) k))) (b j) (IntOp.addi (b j) k) = _
  unfold sstep Ideal.cmp Scalar.select
  by_cases h : t j < pow32 (IntOp.addi (b j) k) <;> simp [h]

theorem vexp_apply {s : Shape} (t : FVec Ideal s .f32) (j : s.Idx) : vexp t j = sexp (t j) := by
  unfold vexp sexp
  simp only [vstep_apply]
  rfl

theorem vS_apply {s : Shape} (t : FVec Ideal s .f32) (j : s.Idx) : vS t j = pow32 (IntOp.addi 127#32 (sadj (sexp (t j)))) := by
  show pow32 (IntOp.addi 127#32 (sadj (vexp t j))) = _
  rw [vexp_apply]

theorem vI_apply {s : Shape} (t : FVec Ideal s .f32) (j : s.Idx) : vI t j = pow32 (IntOp.subi 127#32 (sadj (sexp (t j)))) := by
  show pow32 (IntOp.subi 127#32 (sadj (vexp t j))) = _
  rw [vexp_apply]

/-- The maximum of a row of 256 magnitudes. -/
def rowmax (v : FVec Ideal S32x256 .bf16) (r : Fin 32) : EReal :=
  Finset.fold max (Ideal.ofBits FTy.f32 0xFF800000#32) (fun x : Fin 256 => v (ix2 r x)) Finset.univ

/-- The maximum of a column of 8 magnitudes. -/
def colmax (v : FVec Ideal S8x128 .f32) (l : Fin 128) : EReal :=
  Finset.fold max (Ideal.ofBits FTy.f32 0xFF800000#32) (fun x : Fin 8 => v (ix2 x l)) Finset.univ

section
variable (v : FVec Ideal S32x256 .bf16) (r : Fin 32)

theorem t278 (l : Fin 1) : k0_pay278 (F := Ideal) v (ix2 r l) = rowmax v r * cmul := by pointwise [k0_pay278, rowmax]
theorem t291 (l : Fin 1) : k0_pay291 (F := Ideal) v (ix2 r l) = rowmax v r * cmul := by pointwise [k0_pay291, rowmax]
theorem t304 (l : Fin 1) : k0_pay304 (F := Ideal) v (ix2 r l) = rowmax v r * cmul := by pointwise [k0_pay304, rowmax]
theorem t314 (l : Fin 1) : k0_pay314 (F := Ideal) v (ix2 r l) = rowmax v r * cmul := by pointwise [k0_pay314, rowmax]

/-- A column of scales spread over 128 lanes. -/
def spread128 (x : FVec Ideal S32x1 .f32) : FVec Ideal S32x128 .f32 :=
  shapeCast S32x128 (broadcastTo S32x128 (shapeCast S32x1 x shapeCasts_S32x1_S32x1) broadcasts_S32x1_S32x128) shapeCasts_S32x128_S32x128

/-- A column of inverse scales spread over 256 lanes. -/
def spread256 (x : FVec Ideal S32x1 .f32) : FVec Ideal S32x256 .bf16 :=
  truncf .bf16 (broadcastTo S32x256 (shapeCast S32x1 x shapeCasts_S32x1_S32x1) broadcasts_S32x1_S32x256) bitsLt_bf16_f32

theorem spread128_apply (x : FVec Ideal S32x1 .f32) (l : Fin 128) : spread128 x (ix2 r l) = x (ix2 r 0) := by pointwise [spread128]
theorem spread256_apply (x : FVec Ideal S32x1 .f32) (l : Fin 256) : spread256 x (ix2 r l) = x (ix2 r 0) := by pointwise [spread256]

/-- Row group 0: the scale, on every lane. -/
theorem scale0 (l : Fin 128) : k0_pay285 (F := Ideal) (k0_pay282 (k0_pay278 v) (k0_pay279 v) (k0_pay280 v)) (k0_pay283 (k0_pay278 v) (k0_pay279 v) (k0_pay280 v)) (ix2 r l)
    = kS (rowmax v r) := by
  have e : k0_pay285 (F := Ideal) (k0_pay282 (k0_pay278 v) (k0_pay279 v) (k0_pay280 v)) (k0_pay283 (k0_pay278 v) (k0_pay279 v) (k0_pay280 v)) = spread128 (vS (k0_pay278 v)) := rfl
  rw [e, spread128_apply, vS_apply, t278, kS]

/-- Row group 0: the inverse scale, on every lane. -/
theorem inv0 (l : Fin 256) : k0_pay286 (F := Ideal) (k0_pay282 (k0_pay278 v) (k0_pay279 v) (k0_pay280 v)) (k0_pay283 (k0_pay278 v) (k0_pay279 v) (k0_pay280 v)) (ix2 r l)
    = kI (rowmax v r) := by
  have e : k0_pay286 (F := Ideal) (k0_pay282 (k0_pay278 v) (k0_pay279 v) (k0_pay280 v)) (k0_pay283 (k0_pay278 v) (k0_pay279 v) (k0_pay280 v)) = spread256 (vI (k0_pay278 v)) := rfl
  rw [e, spread256_apply, vI_apply, t278, kI]

/-- Row group 1: the scale, on every lane. -/
theorem scale1 (l : Fin 128) : k0_pay297 (F := Ideal) (k0_pay291 v) (k0_pay294 (k0_pay291 v) k0_pay292 (k0_pay293 v) 126#32) (k0_pay295 (k0_pay291 v) k0_pay292 (k0_pay293 v) 126#32) 4#32 (ix2 r l)
    = kS (rowmax v r) := by
  have e : k0_pay297 (F := Ideal) (k0_pay291 v) (k0_pay294 (k0_pay291 v) k0_pay292 (k0_pay293 v) 126#32) (k0_pay295 (k0_pay291 v) k0_pay292 (k0_pay293 v) 126#32) 4#32 = spread128 (vS (k0_pay291 v)) := rfl
  rw [e, spread128_apply, vS_apply, t291, kS]

/-- Row group 1: the inverse scale, on every lane. -/
theorem inv1 (l : Fin 256) : k0_pay299 (k0_pay298 (F := Ideal) (k0_pay291 v) (k0_pay294 (k0_pay291 v) k0_pay292 (k0_pay293 v) 126#32) (k0_pay295 (k0_pay291 v) k0_pay292 (k0_pay293 v) 126#32) 4#32) (ix2 r l)
    = kI (rowmax v r) := by
  have e : k0_pay299 (k0_pay298 (F := Ideal) (k0_pay291 v) (k0_pay294 (k0_pay291 v) k0_pay292 (k0_pay293 v) 126#32) (k0_pay295 (k0_pay291 v) k0_pay292 (k0_pay293 v) 126#32) 4#32) = spread256 (vI (k0_pay291 v)) := rfl
  rw [e, spread256_apply, vI_apply, t291, kI]

/-- Row group 2: the scale, on every lane. -/
theorem scale2 (l : Fin 128) : k0_pay308 (F := Ideal) (k0_pay306 (k0_pay304 v) (k0_pay305 v)) (ix2 r l) = kS (rowmax v r) := by
  have e : k0_pay308 (F := Ideal) (k0_pay306 (k0_pay304 v) (k0_pay305 v)) = spread128 (vS (k0_pay304 v)) := rfl
  rw [e, spread128_apply, vS_apply, t304, kS]

/-- Row group 2: the inverse scale, on every lane. -/
theorem inv2 (l : Fin 256) : k0_pay309 (F := Ideal) (k0_pay306 (k0_pay304 v) (k0_pay305 v)) (ix2 r l) = kI (rowmax v r) := by
  have e : k0_pay309 (F := Ideal) (k0_pay306 (k0_pay304 v) (k0_pay305 v)) = spread256 (vI (k0_pay304 v)) := rfl
  rw [e, spread256_apply, vI_apply, t304, kI]

/-- Row group 3: the scale, on every lane. -/
theorem scale3 (l : Fin 128) : k0_pay322 (F := Ideal) (k0_pay321 (k0_pay314 v) (k0_pay317 (k0_pay314 v) k0_pay315 k0_pay316) (k0_pay318 (k0_pay314 v) k0_pay315 k0_pay316)) (ix2 r l)
    = kS (rowmax v r) := by
  have e : k0_pay322 (F := Ideal) (k0_pay321 (k0_pay314 v) (k0_pay317 (k0_pay314 v) k0_pay315 k0_pay316) (k0_pay318 (k0_pay314 v) k0_pay315 k0_pay316)) = spread128 (vS (k0_pay314 v)) := rfl
  rw [e, spread128_apply, vS_apply, t314, kS]

/-- Row group 3: the inverse scale, on every lane. -/
theorem inv3 (l : Fin 256) : k0_pay323 (F := Ideal) (k0_pay320 (k0_pay314 v) (k0_pay317 (k0_pay314 v) k0_pay315 k0_pay316) (k0_pay318 (k0_pay314 v) k0_pay315 k0_pay316)) (ix2 r l)
    = kI (rowmax v r) := by
  have e : k0_pay323 (F := Ideal) (k0_pay320 (k0_pay314 v) (k0_pay317 (k0_pay314 v) k0_pay315 k0_pay316) (k0_pay318 (k0_pay314 v) k0_pay315 k0_pay316)) = spread256 (vI (k0_pay314 v)) := rfl
  rw [e, spread256_apply, vI_apply, t314, kI]
end

section
variable (w : FVec Ideal S128x128 .f32) (m : FVec Ideal S8x128 .f32) (b : FVec Ideal S128x128 .f32) (l : Fin 128)

/-- The token scales read off the first lane of the stored scales. -/
theorem row326 (r : Fin 1) : k0_pay326 (F := Ideal) w (ix2 r l) = w (ix2 l 0) := by pointwise [k0_pay326]

theorem t329 (r : Fin 1) : k0_pay329 (F := Ideal) w m (ix2 r l) = w (ix2 l 0) * colmax m l * cmul := by
  pointwise [k0_pay329, k0_pay326, colmax]

theorem t339 (x : FVec Ideal S1x128 .f32) (r : Fin 1) : k0_pay339 (F := Ideal) x m (ix2 r l) = x (ix2 r l) * colmax m l * cmul := by
  pointwise [k0_pay339, colmax]

/-- The scales of the first product. -/
def vsw : FVec Ideal S1x128 .f32 :=
  k0_pay335 (k0_pay329 w m) (k0_pay332 (k0_pay329 w m) (k0_pay330 w m) (k0_pay331 w m) 63#32)
    (k0_pay333 (k0_pay329 w m) (k0_pay330 w m) (k0_pay331 w m) 63#32) 2#32

/-- The scales of the first product, at one token. -/
theorem vsw_apply (r : Fin 1) : vsw w m (ix2 r l) = kS (w (ix2 l 0) * colmax m l) := by
  have e : vsw w m = vS (k0_pay329 w m) := rfl
  rw [e, vS_apply, t329, kS]

/-- The factors of the first product's codes. -/
theorem f336 (r : Fin 128) : k0_pay336 (F := Ideal) (k0_pay326 w) (k0_pay329 w m) (k0_pay332 (k0_pay329 w m) (k0_pay330 w m) (k0_pay331 w m) 63#32)
    (k0_pay333 (k0_pay329 w m) (k0_pay330 w m) (k0_pay331 w m) 63#32) 2#32 b (ix2 r l) =
      b (ix2 r l) * (w (ix2 l 0) * kI (w (ix2 l 0) * colmax m l)) := by
  have e : k0_pay336 (F := Ideal) (k0_pay326 w) (k0_pay329 w m) (k0_pay332 (k0_pay329 w m) (k0_pay330 w m) (k0_pay331 w m) 63#32)
    (k0_pay333 (k0_pay329 w m) (k0_pay330 w m) (k0_pay331 w m) 63#32) 2#32 b =
      shapeCast S128x128 (mulf (shapeCast S128x128 b shapeCasts_S128x128_S128x128) (broadcastTo S128x128 (mulf (k0_pay326 w) (vI (k0_pay329 w m))) broadcasts_S1x128_S128x128)) shapeCasts_S128x128_S128x128 := rfl
  rw [e]
  pointwise []
  rw [row326, vI_apply, t329, kI]

/-- The scales of the second product. -/
theorem ysw_apply (x : FVec Ideal S1x128 .f32) (r : Fin 1) : k0_pay1 (F := Ideal) (k0_pay342 (k0_pay339 x m) (k0_pay340 x m)) (ix2 r l) = kS (x (ix2 r l) * colmax m l) := by
  have e : k0_pay1 (F := Ideal) (k0_pay342 (k0_pay339 x m) (k0_pay340 x m)) = vS (k0_pay339 x m) := rfl
  rw [e, vS_apply, t339, kS]

/-- The factors of the second product's codes. -/
theorem f2 (x : FVec Ideal S1x128 .f32) (r : Fin 128) : k0_pay2 (F := Ideal) x (k0_pay341 (k0_pay339 x m) (k0_pay340 x m)) b (ix2 r l) =
      b (ix2 r l) * (x (ix2 0 l) * kI (x (ix2 0 l) * colmax m l)) := by
  have e : k0_pay2 (F := Ideal) x (k0_pay341 (k0_pay339 x m) (k0_pay340 x m)) b =
      shapeCast S128x128 (mulf (shapeCast S128x128 b shapeCasts_S128x128_S128x128) (broadcastTo S128x128 (mulf x (vI (k0_pay339 x m))) broadcasts_S1x128_S128x128)) shapeCasts_S128x128_S128x128 := rfl
  rw [e]
  pointwise []
  rw [vI_apply, t339, kI]
end

end Cert.Proof.Value
-- ==== Proof.Spec.lean ====
/-
  What the kernel computes for one token, as plain formulas in the row of activations and the weights.
-/
module

public import proofs.«01_k».proof.Proof.Scale
public import proofs.«01_k».proof.Proof.Fold

@[expose] public section

noncomputable section

namespace Cert.Proof.Value

open Idealize.ShloMosaic

/-- A number clipped to the range of the codes. -/
def clip (t : EReal) : EReal := min (Ideal.ofBits .f32 0x43E00000#32) (max (Ideal.ofBits .f32 0xC3E00000#32) t)

/-- Column `i` of block `k`. -/
def col (k i : Fin 128) : Fin 16384 := ⟨128 * k.val + i.val, by omega⟩

section
variable (x : Fin 16384 → EReal) (rT : Fin 128 → Fin 128 → Fin 128 → EReal) (rs : Fin 128 → EReal)
  (lT : Fin 128 → Fin 128 → Fin 128 → EReal) (ls : Fin 128 → EReal)

/-- The largest magnitude of the row. -/
def ax : EReal := mx fun j => absE (x j)

/-- The scale of the row. -/
def xs : EReal := kS (ax x)

/-- The codes of the row. -/
def xc (j : Fin 16384) : EReal := clip (x j * kI (ax x))

/-- The first block product. -/
def a1 (k j : Fin 128) : EReal := ∑ i, rT k j i * xc x (col k i)

/-- The largest magnitude of the first product with its weight scales. -/
def m1 : EReal := mx fun p : Fin 128 × Fin 128 => absE (a1 x rT p.1 p.2) * absE (rs p.1)

/-- The scale of the first product. -/
def vs : EReal := kS (xs x * m1 x rT rs)

/-- The codes of the first product. -/
def vc (k j : Fin 128) : EReal := clip (a1 x rT k j * (rs k * (xs x * kI (xs x * m1 x rT rs))))

/-- The second block product. -/
def a2 (j o : Fin 128) : EReal := ∑ k, lT j o k * vc x rT rs k j

/-- The largest magnitude of the second product with its weight scales. -/
def m2 : EReal := mx fun p : Fin 128 × Fin 128 => absE (a2 x rT rs lT p.1 p.2) * absE (ls p.1)

/-- The scale of the second product. -/
def ys : EReal := kS (vs x rT rs * m2 x rT rs lT ls)

/-- The codes of the second product. -/
def yc (j o : Fin 128) : EReal := clip (a2 x rT rs lT j o * (ls j * (vs x rT rs * kI (vs x rT rs * m2 x rT rs lT ls))))
end

end Cert.Proof.Value
-- ==== Proof.Max.lean ====
/-
  The maxima and the codes of the four row groups: what the loops over one block of tokens compute.
-/
module

public import proofs.«01_k».proof.Proof.Trips
public import proofs.«01_k».proof.Proof.Fold
public import proofs.«01_k».proof.Proof.Words
public import proofs.«01_k».proof.Proof.Spec

@[expose] public section

noncomputable section

namespace Cert.Proof.Value

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem zero_bf16 : Ideal.ofBits .bf16 0x0000#16 = 0 := by
  have e : Ideal.ofBits .bf16 0x0000#16 = Ideal.ieee 8 7 0x0000#16 := rfl
  rw [e]
  unfold Ideal.ieee
  have hb : ((0x0000#16).extractLsb' 7 8).toNat = 0 := by decide
  have hc : ((0x0000#16).extractLsb' 0 7).toNat = 0 := by decide
  simp only [hb, hc]
  rw [if_neg (by norm_num), if_pos trivial]
  norm_num

theorem absLoad_apply (v : Vec Ideal S32x256 .bf16) (j : S32x256.Idx) : absLoad v j = absE (v j) := by
  unfold absLoad
  rw [shapeCast_self]
  rfl

/-- The codes of one block of columns. -/
theorem pay6_apply (a : FVec Ideal S32x256 .bf16) (v : Vec Ideal S32x256 .bf16) (r : Fin 32) (l : Fin 256) :
    k0_pay6 a v (ix2 r l) = clip (v (ix2 r l) * a (ix2 r l)) := by
  unfold clip
  pointwise [k0_pay6]

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X1 : BufTy.Contents (Elt Ideal) arg1.view.ty)

theorem xb1_apply (k : Fin k0_t1_loop.trips) (u : Fin 16) (r : Fin 32) (x : Fin 256) (h : 4096 * k.val + 256 * u.val + x.val < 16384) :
    xb1 arg1 X1 k u (ix2 r x) = arg1.view.read (Elt Ideal) X1 (ix2 ⟨0 + r.val, by omega⟩ ⟨4096 * k.val + 256 * u.val + x.val, h⟩) :=
  readAt2 arg1.view X1 _ _ 0 (4096 * k.val + 256 * u.val) (k0_off1_eq k u) r x _ _ rfl rfl

/-- Row group 0: the maximum the loop leaves is the largest magnitude of the row. -/
theorem max1  (r : Fin 32) :
    rowmax (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X1 k0_pay276 k0_t1_loop.trips) r =
      mx fun j : Fin 16384 => absE (arg1.view.read (Elt Ideal) X1 (ix2 ⟨0 + r.val, by omega⟩ j)) := by
  have hT : k0_t1_loop.trips = 4 := by decide +kernel
  refine eq_mx _ _ fun b => ?_
  unfold rowmax
  rw [fold_max_le]
  have key : ∀ x : Fin 256, st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X1 k0_pay276 k0_t1_loop.trips (ix2 r x) ≤ b ↔ _ := fun x =>
    foldl_le (T := k0_t1_loop.trips) (fun n => st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X1 k0_pay276 n) (fun m => m (ix2 r x))
      (fun k u m => maximumf m (absLoad (xb1 arg1 X1 k u))) (fun k u => absE (xb1 arg1 X1 k u (ix2 r x)))
      (fun k => (st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X1 k0_pay276 k).trans
        (trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1  k _))
      (fun k u m => by rw [← absLoad_apply]; rfl) b k0_t1_loop.trips le_rfl
  have hz : ∀ x : Fin 256, st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X1 k0_pay276 0 (ix2 r x) = 0 := fun x => zero_bf16
  simp only [hz] at key
  simp only [key]
  constructor
  · intro h
    refine ⟨(h 0).1, fun j => ?_⟩
    have hj := j.isLt
    have := (h ⟨j.val % 256, by omega⟩).2 ⟨j.val / 4096, by omega⟩ (by simp only; omega) ⟨j.val / 256 % 16, by omega⟩
    rw [xb1_apply arg1 X1 _ _ _ _ (by simp only; omega)] at this
    convert this using 4
    apply Fin.ext
    simp only
    omega
  · rintro ⟨h0, h⟩ x
    refine ⟨h0, fun k _ u => ?_⟩
    have hk := k.isLt
    have hu := u.isLt
    have hx := x.isLt
    rw [xb1_apply arg1 X1 _ _ _ _ (by omega)]
    exact h _

/-- Row group 0: every block the code loop stores holds the codes of its columns. -/
theorem pieces2 (w0 : IVec S32x1 1) (w1 : IVec S32x1 32) (E : Fin 32 → EReal) (hE : ∀ (r : Fin 32) (l : Fin 256), (k0_pay286 (F := Ideal) w0 w1) (ix2 r l) = E r)
    (G : S128x16384.Idx → EReal)
    (hG : ∀ (r : Fin 32) (j : Fin 16384), G (ix2 ⟨0 + r.val, by omega⟩ j) = clip (arg1.view.read (Elt Ideal) X1 (ix2 ⟨0 + r.val, by omega⟩ j) * E r)) :
    ∀ p ∈ pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 X1 k0_t2_loop.trips, ∀ x, p.2 x = G (p.1.emb x) := by
  have hT : k0_t2_loop.trips = 4 := by decide +kernel
  intro p hp
  obtain ⟨k, hk, u, rfl⟩ := (mem_pieces (T := k0_t2_loop.trips) (fun n => pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 X1 n) _ rfl
    (fun k => (pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 X1 k).trans
      (congrArg (· ++ _) (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 w0 w1 k))) _ le_rfl p).mp hp
  intro x
  have hu := u.isLt
  obtain ⟨r, l, rfl⟩ : ∃ (r : Fin 32) (l : Fin 256), x = ix2 r l := ⟨x 0, x 1, eq_ix2 x⟩
  have hl := l.isLt
  show k0_pay6 (F := Ideal) _ _ (ix2 r l) = G ((Rect.unit (s := S128x16384) (k0_off2 k (BitVec.ofNat 32 u.val)) S32x256.size (k0_off2_inb k u)).emb (ix2 r l))
  have he : (Rect.unit (s := S128x16384) (k0_off2 k (BitVec.ofNat 32 u.val)) S32x256.size (k0_off2_inb k u)).emb (ix2 r l) =
      ix2 ⟨0 + r.val, by omega⟩ ⟨4096 * k.val + 256 * u.val + l.val, by omega⟩ :=
    emb2 _ _ 0 (4096 * k.val + 256 * u.val) (k0_off2_eq k u) r l _ _ rfl rfl
  rw [he, hG, pay6_apply, hE]
  congr 2
  exact readAt2 arg1.view X1 _ _ 0 (4096 * k.val + 256 * u.val) (k0_off2_eq k u) r l _ _ rfl rfl

/-- Row group 0: the blocks the code loop stores cover its rows. -/
theorem cover2 (w0 : IVec S32x1 1) (w1 : IVec S32x1 32) (r : Fin 32) (j : Fin 16384) :
    ∃ p ∈ pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 X1 k0_t2_loop.trips,
      (ix2 ⟨0 + r.val, by omega⟩ j : S128x16384.Idx) ∈ p.1.set := by
  have hT : k0_t2_loop.trips = 4 := by decide +kernel
  have hj := j.isLt
  refine ⟨_, (mem_pieces (T := k0_t2_loop.trips) (fun n => pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 X1 n) _ rfl
    (fun k => (pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 X1 k).trans
      (congrArg (· ++ _) (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 w0 w1 k))) _ le_rfl _).mpr ⟨⟨j.val / 4096, by omega⟩, Fin.isLt _, ⟨j.val / 256 % 16, by omega⟩, rfl⟩, ?_⟩
  exact mem2 _ (k0_off2_inb _ _) 0 (4096 * (j.val / 4096) + 256 * (j.val / 256 % 16)) (k0_off2_eq ⟨j.val / 4096, by omega⟩ ⟨j.val / 256 % 16, by omega⟩) _ _
    (by simp only; omega) (by simp only; omega) (by omega) (by omega)
end

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X1 : BufTy.Contents (Elt Ideal) arg1.view.ty)

theorem xb3_apply (k : Fin k0_t3_loop.trips) (u : Fin 16) (r : Fin 32) (x : Fin 256) (h : 4096 * k.val + 256 * u.val + x.val < 16384) :
    xb3 arg1 X1 k u (ix2 r x) = arg1.view.read (Elt Ideal) X1 (ix2 ⟨32 + r.val, by omega⟩ ⟨4096 * k.val + 256 * u.val + x.val, h⟩) :=
  readAt2 arg1.view X1 _ _ 32 (4096 * k.val + 256 * u.val) (k0_off3_eq k u) r x _ _ rfl rfl

/-- Row group 1: the maximum the loop leaves is the largest magnitude of the row. -/
theorem max3 (w0 : IVec S32x1 1) (w1 : IVec S32x1 32) (r : Fin 32) :
    rowmax (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 X1 k0_pay289 k0_t3_loop.trips) r =
      mx fun j : Fin 16384 => absE (arg1.view.read (Elt Ideal) X1 (ix2 ⟨32 + r.val, by omega⟩ j)) := by
  have hT : k0_t3_loop.trips = 4 := by decide +kernel
  refine eq_mx _ _ fun b => ?_
  unfold rowmax
  rw [fold_max_le]
  have key : ∀ x : Fin 256, st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 X1 k0_pay289 k0_t3_loop.trips (ix2 r x) ≤ b ↔ _ := fun x =>
    foldl_le (T := k0_t3_loop.trips) (fun n => st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 X1 k0_pay289 n) (fun m => m (ix2 r x))
      (fun k u m => maximumf m (absLoad (xb3 arg1 X1 k u))) (fun k u => absE (xb3 arg1 X1 k u (ix2 r x)))
      (fun k => (st_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 X1 k0_pay289 k).trans
        (trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 w0 w1 k _))
      (fun k u m => by rw [← absLoad_apply]; rfl) b k0_t3_loop.trips le_rfl
  have hz : ∀ x : Fin 256, st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 X1 k0_pay289 0 (ix2 r x) = 0 := fun x => zero_bf16
  simp only [hz] at key
  simp only [key]
  constructor
  · intro h
    refine ⟨(h 0).1, fun j => ?_⟩
    have hj := j.isLt
    have := (h ⟨j.val % 256, by omega⟩).2 ⟨j.val / 4096, by omega⟩ (by simp only; omega) ⟨j.val / 256 % 16, by omega⟩
    rw [xb3_apply arg1 X1 _ _ _ _ (by simp only; omega)] at this
    convert this using 4
    apply Fin.ext
    simp only
    omega
  · rintro ⟨h0, h⟩ x
    refine ⟨h0, fun k _ u => ?_⟩
    have hk := k.isLt
    have hu := u.isLt
    have hx := x.isLt
    rw [xb3_apply arg1 X1 _ _ _ _ (by omega)]
    exact h _

/-- Row group 1: every block the code loop stores holds the codes of its columns. -/
theorem pieces4 (w0 : FVec Ideal S32x256 .f32) (E : Fin 32 → EReal) (hE : ∀ (r : Fin 32) (l : Fin 256), (k0_pay299 (F := Ideal) w0) (ix2 r l) = E r)
    (G : S128x16384.Idx → EReal)
    (hG : ∀ (r : Fin 32) (j : Fin 16384), G (ix2 ⟨32 + r.val, by omega⟩ j) = clip (arg1.view.read (Elt Ideal) X1 (ix2 ⟨32 + r.val, by omega⟩ j) * E r)) :
    ∀ p ∈ pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_t4_loop.trips, ∀ x, p.2 x = G (p.1.emb x) := by
  have hT : k0_t4_loop.trips = 4 := by decide +kernel
  intro p hp
  obtain ⟨k, hk, u, rfl⟩ := (mem_pieces (T := k0_t4_loop.trips) (fun n => pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 n) _ rfl
    (fun k => (pb_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k).trans
      (congrArg (· ++ _) (trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 w0 k))) _ le_rfl p).mp hp
  intro x
  have hu := u.isLt
  obtain ⟨r, l, rfl⟩ : ∃ (r : Fin 32) (l : Fin 256), x = ix2 r l := ⟨x 0, x 1, eq_ix2 x⟩
  have hl := l.isLt
  show k0_pay6 (F := Ideal) _ _ (ix2 r l) = G ((Rect.unit (s := S128x16384) (k0_off4 k (BitVec.ofNat 32 u.val)) S32x256.size (k0_off4_inb k u)).emb (ix2 r l))
  have he : (Rect.unit (s := S128x16384) (k0_off4 k (BitVec.ofNat 32 u.val)) S32x256.size (k0_off4_inb k u)).emb (ix2 r l) =
      ix2 ⟨32 + r.val, by omega⟩ ⟨4096 * k.val + 256 * u.val + l.val, by omega⟩ :=
    emb2 _ _ 32 (4096 * k.val + 256 * u.val) (k0_off4_eq k u) r l _ _ rfl rfl
  rw [he, hG, pay6_apply, hE]
  congr 2
  exact readAt2 arg1.view X1 _ _ 32 (4096 * k.val + 256 * u.val) (k0_off4_eq k u) r l _ _ rfl rfl

/-- Row group 1: the blocks the code loop stores cover its rows. -/
theorem cover4 (w0 : FVec Ideal S32x256 .f32) (r : Fin 32) (j : Fin 16384) :
    ∃ p ∈ pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_t4_loop.trips,
      (ix2 ⟨32 + r.val, by omega⟩ j : S128x16384.Idx) ∈ p.1.set := by
  have hT : k0_t4_loop.trips = 4 := by decide +kernel
  have hj := j.isLt
  refine ⟨_, (mem_pieces (T := k0_t4_loop.trips) (fun n => pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 n) _ rfl
    (fun k => (pb_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k).trans
      (congrArg (· ++ _) (trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 w0 k))) _ le_rfl _).mpr ⟨⟨j.val / 4096, by omega⟩, Fin.isLt _, ⟨j.val / 256 % 16, by omega⟩, rfl⟩, ?_⟩
  exact mem2 _ (k0_off4_inb _ _) 32 (4096 * (j.val / 4096) + 256 * (j.val / 256 % 16)) (k0_off4_eq ⟨j.val / 4096, by omega⟩ ⟨j.val / 256 % 16, by omega⟩) _ _
    (by simp only; omega) (by simp only; omega) (by omega) (by omega)
end

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X1 : BufTy.Contents (Elt Ideal) arg1.view.ty)

theorem xb5_apply (k : Fin k0_t5_loop.trips) (u : Fin 16) (r : Fin 32) (x : Fin 256) (h : 4096 * k.val + 256 * u.val + x.val < 16384) :
    xb5 arg1 X1 k u (ix2 r x) = arg1.view.read (Elt Ideal) X1 (ix2 ⟨64 + r.val, by omega⟩ ⟨4096 * k.val + 256 * u.val + x.val, h⟩) :=
  readAt2 arg1.view X1 _ _ 64 (4096 * k.val + 256 * u.val) (k0_off5_eq k u) r x _ _ rfl rfl

/-- Row group 2: the maximum the loop leaves is the largest magnitude of the row. -/
theorem max5 (w0 : FVec Ideal S32x256 .f32) (r : Fin 32) :
    rowmax (st_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_pay302 k0_t5_loop.trips) r =
      mx fun j : Fin 16384 => absE (arg1.view.read (Elt Ideal) X1 (ix2 ⟨64 + r.val, by omega⟩ j)) := by
  have hT : k0_t5_loop.trips = 4 := by decide +kernel
  refine eq_mx _ _ fun b => ?_
  unfold rowmax
  rw [fold_max_le]
  have key : ∀ x : Fin 256, st_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_pay302 k0_t5_loop.trips (ix2 r x) ≤ b ↔ _ := fun x =>
    foldl_le (T := k0_t5_loop.trips) (fun n => st_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_pay302 n) (fun m => m (ix2 r x))
      (fun k u m => maximumf m (absLoad (xb5 arg1 X1 k u))) (fun k u => absE (xb5 arg1 X1 k u (ix2 r x)))
      (fun k => (st_k0_t5_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_pay302 k).trans
        (trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 w0 k _))
      (fun k u m => by rw [← absLoad_apply]; rfl) b k0_t5_loop.trips le_rfl
  have hz : ∀ x : Fin 256, st_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_pay302 0 (ix2 r x) = 0 := fun x => zero_bf16
  simp only [hz] at key
  simp only [key]
  constructor
  · intro h
    refine ⟨(h 0).1, fun j => ?_⟩
    have hj := j.isLt
    have := (h ⟨j.val % 256, by omega⟩).2 ⟨j.val / 4096, by omega⟩ (by simp only; omega) ⟨j.val / 256 % 16, by omega⟩
    rw [xb5_apply arg1 X1 _ _ _ _ (by simp only; omega)] at this
    convert this using 4
    apply Fin.ext
    simp only
    omega
  · rintro ⟨h0, h⟩ x
    refine ⟨h0, fun k _ u => ?_⟩
    have hk := k.isLt
    have hu := u.isLt
    have hx := x.isLt
    rw [xb5_apply arg1 X1 _ _ _ _ (by omega)]
    exact h _

/-- Row group 2: every block the code loop stores holds the codes of its columns. -/
theorem pieces6 (w0 : IVec S32x1 32) (E : Fin 32 → EReal) (hE : ∀ (r : Fin 32) (l : Fin 256), (k0_pay309 (F := Ideal) w0) (ix2 r l) = E r)
    (G : S128x16384.Idx → EReal)
    (hG : ∀ (r : Fin 32) (j : Fin 16384), G (ix2 ⟨64 + r.val, by omega⟩ j) = clip (arg1.view.read (Elt Ideal) X1 (ix2 ⟨64 + r.val, by omega⟩ j) * E r)) :
    ∀ p ∈ pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_t6_loop.trips, ∀ x, p.2 x = G (p.1.emb x) := by
  have hT : k0_t6_loop.trips = 4 := by decide +kernel
  intro p hp
  obtain ⟨k, hk, u, rfl⟩ := (mem_pieces (T := k0_t6_loop.trips) (fun n => pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 n) _ rfl
    (fun k => (pb_k0_t6_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k).trans
      (congrArg (· ++ _) (trip6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 w0 k))) _ le_rfl p).mp hp
  intro x
  have hu := u.isLt
  obtain ⟨r, l, rfl⟩ : ∃ (r : Fin 32) (l : Fin 256), x = ix2 r l := ⟨x 0, x 1, eq_ix2 x⟩
  have hl := l.isLt
  show k0_pay6 (F := Ideal) _ _ (ix2 r l) = G ((Rect.unit (s := S128x16384) (k0_off6 k (BitVec.ofNat 32 u.val)) S32x256.size (k0_off6_inb k u)).emb (ix2 r l))
  have he : (Rect.unit (s := S128x16384) (k0_off6 k (BitVec.ofNat 32 u.val)) S32x256.size (k0_off6_inb k u)).emb (ix2 r l) =
      ix2 ⟨64 + r.val, by omega⟩ ⟨4096 * k.val + 256 * u.val + l.val, by omega⟩ :=
    emb2 _ _ 64 (4096 * k.val + 256 * u.val) (k0_off6_eq k u) r l _ _ rfl rfl
  rw [he, hG, pay6_apply, hE]
  congr 2
  exact readAt2 arg1.view X1 _ _ 64 (4096 * k.val + 256 * u.val) (k0_off6_eq k u) r l _ _ rfl rfl

/-- Row group 2: the blocks the code loop stores cover its rows. -/
theorem cover6 (w0 : IVec S32x1 32) (r : Fin 32) (j : Fin 16384) :
    ∃ p ∈ pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_t6_loop.trips,
      (ix2 ⟨64 + r.val, by omega⟩ j : S128x16384.Idx) ∈ p.1.set := by
  have hT : k0_t6_loop.trips = 4 := by decide +kernel
  have hj := j.isLt
  refine ⟨_, (mem_pieces (T := k0_t6_loop.trips) (fun n => pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 n) _ rfl
    (fun k => (pb_k0_t6_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k).trans
      (congrArg (· ++ _) (trip6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 w0 k))) _ le_rfl _).mpr ⟨⟨j.val / 4096, by omega⟩, Fin.isLt _, ⟨j.val / 256 % 16, by omega⟩, rfl⟩, ?_⟩
  exact mem2 _ (k0_off6_inb _ _) 64 (4096 * (j.val / 4096) + 256 * (j.val / 256 % 16)) (k0_off6_eq ⟨j.val / 4096, by omega⟩ ⟨j.val / 256 % 16, by omega⟩) _ _
    (by simp only; omega) (by simp only; omega) (by omega) (by omega)
end

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X1 : BufTy.Contents (Elt Ideal) arg1.view.ty)

theorem xb7_apply (k : Fin k0_t7_loop.trips) (u : Fin 16) (r : Fin 32) (x : Fin 256) (h : 4096 * k.val + 256 * u.val + x.val < 16384) :
    xb7 arg1 X1 k u (ix2 r x) = arg1.view.read (Elt Ideal) X1 (ix2 ⟨96 + r.val, by omega⟩ ⟨4096 * k.val + 256 * u.val + x.val, h⟩) :=
  readAt2 arg1.view X1 _ _ 96 (4096 * k.val + 256 * u.val) (k0_off7_eq k u) r x _ _ rfl rfl

/-- Row group 3: the maximum the loop leaves is the largest magnitude of the row. -/
theorem max7 (w0 : IVec S32x1 32) (r : Fin 32) :
    rowmax (st_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_pay312 k0_t7_loop.trips) r =
      mx fun j : Fin 16384 => absE (arg1.view.read (Elt Ideal) X1 (ix2 ⟨96 + r.val, by omega⟩ j)) := by
  have hT : k0_t7_loop.trips = 4 := by decide +kernel
  refine eq_mx _ _ fun b => ?_
  unfold rowmax
  rw [fold_max_le]
  have key : ∀ x : Fin 256, st_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_pay312 k0_t7_loop.trips (ix2 r x) ≤ b ↔ _ := fun x =>
    foldl_le (T := k0_t7_loop.trips) (fun n => st_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_pay312 n) (fun m => m (ix2 r x))
      (fun k u m => maximumf m (absLoad (xb7 arg1 X1 k u))) (fun k u => absE (xb7 arg1 X1 k u (ix2 r x)))
      (fun k => (st_k0_t7_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_pay312 k).trans
        (trip7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 w0 k _))
      (fun k u m => by rw [← absLoad_apply]; rfl) b k0_t7_loop.trips le_rfl
  have hz : ∀ x : Fin 256, st_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 X1 k0_pay312 0 (ix2 r x) = 0 := fun x => zero_bf16
  simp only [hz] at key
  simp only [key]
  constructor
  · intro h
    refine ⟨(h 0).1, fun j => ?_⟩
    have hj := j.isLt
    have := (h ⟨j.val % 256, by omega⟩).2 ⟨j.val / 4096, by omega⟩ (by simp only; omega) ⟨j.val / 256 % 16, by omega⟩
    rw [xb7_apply arg1 X1 _ _ _ _ (by simp only; omega)] at this
    convert this using 4
    apply Fin.ext
    simp only
    omega
  · rintro ⟨h0, h⟩ x
    refine ⟨h0, fun k _ u => ?_⟩
    have hk := k.isLt
    have hu := u.isLt
    have hx := x.isLt
    rw [xb7_apply arg1 X1 _ _ _ _ (by omega)]
    exact h _

/-- Row group 3: every block the code loop stores holds the codes of its columns. -/
theorem pieces8 (a0 : BitVec 32) (w0 : FVec Ideal S32x1 .f32) (w1 : FVec Ideal S32x128 .f32) (E : Fin 32 → EReal) (hE : ∀ (r : Fin 32) (l : Fin 256), (k0_pay323 (F := Ideal) w0) (ix2 r l) = E r)
    (G : S128x16384.Idx → EReal)
    (hG : ∀ (r : Fin 32) (j : Fin 16384), G (ix2 ⟨96 + r.val, by omega⟩ j) = clip (arg1.view.read (Elt Ideal) X1 (ix2 ⟨96 + r.val, by omega⟩ j) * E r)) :
    ∀ p ∈ pb_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X1 k0_t8_loop.trips, ∀ x, p.2 x = G (p.1.emb x) := by
  have hT : k0_t8_loop.trips = 4 := by decide +kernel
  intro p hp
  obtain ⟨k, hk, u, rfl⟩ := (mem_pieces (T := k0_t8_loop.trips) (fun n => pb_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X1 n) _ rfl
    (fun k => (pb_k0_t8_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X1 k).trans
      (congrArg (· ++ _) (trip8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 a0 w0 w1 k))) _ le_rfl p).mp hp
  intro x
  have hu := u.isLt
  obtain ⟨r, l, rfl⟩ : ∃ (r : Fin 32) (l : Fin 256), x = ix2 r l := ⟨x 0, x 1, eq_ix2 x⟩
  have hl := l.isLt
  show k0_pay6 (F := Ideal) _ _ (ix2 r l) = G ((Rect.unit (s := S128x16384) (k0_off8 k (BitVec.ofNat 32 u.val)) S32x256.size (k0_off8_inb k u)).emb (ix2 r l))
  have he : (Rect.unit (s := S128x16384) (k0_off8 k (BitVec.ofNat 32 u.val)) S32x256.size (k0_off8_inb k u)).emb (ix2 r l) =
      ix2 ⟨96 + r.val, by omega⟩ ⟨4096 * k.val + 256 * u.val + l.val, by omega⟩ :=
    emb2 _ _ 96 (4096 * k.val + 256 * u.val) (k0_off8_eq k u) r l _ _ rfl rfl
  rw [he, hG, pay6_apply, hE]
  congr 2
  exact readAt2 arg1.view X1 _ _ 96 (4096 * k.val + 256 * u.val) (k0_off8_eq k u) r l _ _ rfl rfl

/-- Row group 3: the blocks the code loop stores cover its rows. -/
theorem cover8 (a0 : BitVec 32) (w0 : FVec Ideal S32x1 .f32) (w1 : FVec Ideal S32x128 .f32) (r : Fin 32) (j : Fin 16384) :
    ∃ p ∈ pb_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X1 k0_t8_loop.trips,
      (ix2 ⟨96 + r.val, by omega⟩ j : S128x16384.Idx) ∈ p.1.set := by
  have hT : k0_t8_loop.trips = 4 := by decide +kernel
  have hj := j.isLt
  refine ⟨_, (mem_pieces (T := k0_t8_loop.trips) (fun n => pb_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X1 n) _ rfl
    (fun k => (pb_k0_t8_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X1 k).trans
      (congrArg (· ++ _) (trip8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 a0 w0 w1 k))) _ le_rfl _).mpr ⟨⟨j.val / 4096, by omega⟩, Fin.isLt _, ⟨j.val / 256 % 16, by omega⟩, rfl⟩, ?_⟩
  exact mem2 _ (k0_off8_inb _ _) 96 (4096 * (j.val / 4096) + 256 * (j.val / 256 % 16)) (k0_off8_eq ⟨j.val / 4096, by omega⟩ ⟨j.val / 256 % 16, by omega⟩) _ _
    (by simp only; omega) (by simp only; omega) (by omega) (by omega)
end

end Cert.Proof.Value
end
-- ==== Proof.Contract.lean ====
/-
  The two contractions and the last pass: what their loops compute from the buffers they read.
-/
module

public import proofs.«01_k».proof.Proof.Max

@[expose] public section

noncomputable section

namespace Cert.Proof.Value

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxHeartbeats 1000000

/-- A block's row group of eight rows, at one index. -/
theorem slice8 (M : FVec Ideal S128x128 .f32) (o : ℕ) (h) (a : Fin 8) (l : Fin 128) (A : Fin 128) (hA : A.val = o + a.val) :
    extractStridedSlice S8x128 ![o, 0] M h (ix2 a l) = M (ix2 A l) := by
  show M _ = _
  congr 1
  funext q
  apply Fin.ext
  match q with
  | 0 => exact hA.symm
  | 1 => show 0 + l.val = l.val; omega

/-- The largest magnitude of a block's column within the rows congruent to `a`, scaled. -/
theorem absmax8_le (M : FVec Ideal S128x128 .f32) (a : Fin 8) (l : Fin 128) (s : EReal) (hs : 0 ≤ s) (b : EReal) :
    absmax8 M (ix2 a l) * s ≤ b ↔ ∀ q : Fin 16, absE (M (ix2 ⟨8 * q.val + a.val, by omega⟩ l)) * s ≤ b := by
  have e : ∀ (o : ℕ) (h) (A : Fin 128), A.val = o + a.val → absf (extractStridedSlice S8x128 ![o, 0] M h) (ix2 a l) = absE (M (ix2 A l)) := fun o h A hA => by
    rw [← slice8 M o h a l A hA]
    rfl
  have hm : ∀ (x y : FVec Ideal S8x128 .f32), maximumf x y (ix2 a l) = max (x (ix2 a l)) (y (ix2 a l)) := fun _ _ => rfl
  unfold absmax8
  simp only [hm]
  rw [e 0 _ ⟨8 * 0 + a.val, by omega⟩ rfl]
  rw [e 8 _ ⟨8 * 1 + a.val, by omega⟩ rfl]
  rw [e 16 _ ⟨8 * 2 + a.val, by omega⟩ rfl]
  rw [e 24 _ ⟨8 * 3 + a.val, by omega⟩ rfl]
  rw [e 32 _ ⟨8 * 4 + a.val, by omega⟩ rfl]
  rw [e 40 _ ⟨8 * 5 + a.val, by omega⟩ rfl]
  rw [e 48 _ ⟨8 * 6 + a.val, by omega⟩ rfl]
  rw [e 56 _ ⟨8 * 7 + a.val, by omega⟩ rfl]
  rw [e 64 _ ⟨8 * 8 + a.val, by omega⟩ rfl]
  rw [e 72 _ ⟨8 * 9 + a.val, by omega⟩ rfl]
  rw [e 80 _ ⟨8 * 10 + a.val, by omega⟩ rfl]
  rw [e 88 _ ⟨8 * 11 + a.val, by omega⟩ rfl]
  rw [e 96 _ ⟨8 * 12 + a.val, by omega⟩ rfl]
  rw [e 104 _ ⟨8 * 13 + a.val, by omega⟩ rfl]
  rw [e 112 _ ⟨8 * 14 + a.val, by omega⟩ rfl]
  rw [e 120 _ ⟨8 * 15 + a.val, by omega⟩ rfl]
  simp only [max_mul_nonneg hs, max_le_iff]
  constructor
  · intro h q
    fin_cases q <;> simp_all
  · intro h
    refine ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩

/-- One step of a running maximum, at one index. -/
theorem mstep_apply (m : FVec Ideal S8x128 .f32) (M : FVec Ideal S128x128 .f32) (s : EReal) (a : Fin 8) (l : Fin 128) :
    mstep m M s (ix2 a l) = max (m (ix2 a l)) (absmax8 M (ix2 a l) * absE s) := rfl

/-- Codes, at one index. -/
theorem codes_apply (a b : Vec Ideal S128x128 .f32) (r l : Fin 128) : codes a b (ix2 r l) = clip (a (ix2 r l) * b (ix2 r l)) := by
  unfold clip
  pointwise [codes]

theorem t128 {φ : FTy} (v : FVec Ideal S128x128 φ) (a b : Fin 128) : transpose S128x128 [1, 0] v transposes_S128x128_p1_0_S128x128 (ix2 a b) = v (ix2 b a) := by
  pointwise []

/-- The block product with the codes read by tokens. -/
theorem pay88_apply (R : Vec Ideal S1x128x128 .fp8e4m3) (x : Vec Ideal S128x128 .fp8e4m3) (j l : Fin 128) :
    k0_pay88 R x (ix2 j l) = ∑ i : Fin 128, R (ix3 0 j i) * x (ix2 l i) := by
  pointwise [k0_pay88]

/-- The block product with the codes read by rows. -/
theorem mm10_apply (R : Vec Ideal S1x128x128 .fp8e4m3) (v : FVec Ideal S128x128 .fp8e4m3) (j l : Fin 128) :
    matmul (φ₁ := .fp8e4m3) (φ₂ := .fp8e4m3) dot_S128x128_S128x128_S128x128_1_0_0_1_n_n none
      (shapeCast (s := S1x128x128) (α := Ideal .fp8e4m3) S128x128 R shapeCasts_S1x128x128_S128x128) v (constant S128x128 .f32 0x00000000#32) (ix2 j l)
      = ∑ r : Fin 128, R (ix3 0 j r) * v (ix2 r l) := by
  pointwise []

/-- A scalar loaded from a list of scales. -/
theorem readAt1 {κ : Kind} {sp : Space} (v : View sig κ sp S128 .f32) (f : v.ty.Contents (Elt Ideal)) (off : Fin 1 → ℕ) (inb) (o : ℕ) (h : off = ![o])
    (A : Fin 128) (hA : A.val = o) :
    v.readAt (Elt Ideal) (Rect.unit (s := S128) off S1.size inb).toLoadRect f (Shape.Idx.first (s := S1) (by decide)) = v.read (Elt Ideal) f (ix1 A) := by
  subst h
  show v.read (Elt Ideal) f _ = _
  congr 1
  funext q
  apply Fin.ext
  obtain rfl : q = 0 := Subsingleton.elim _ _
  show o + 1 * 0 = A.val
  omega

/-- The column maximum of a zero-started running maximum over blocks. -/
theorem colmax_eq {T : ℕ} (hT : T = 8) (st : ℕ → FVec Ideal S8x128 .f32) (acc : Fin T → Fin 16 → FVec Ideal S128x128 .f32) (sc : Fin T → Fin 16 → EReal)
    (h0 : ∀ j, st 0 j = 0)
    (hs : ∀ k : Fin T, st (k.val + 1) = (List.finRange 16).foldl (fun m u => mstep m (acc k u) (sc k u)) (st k.val)) (l : Fin 128)
    (P : Fin 128 → Fin 128 → EReal) (S : Fin 128 → EReal)
    (hP : ∀ (k : Fin T) (u : Fin 16) (j : Fin 128), acc k u (ix2 j l) = P ⟨16 * k.val + u.val, by omega⟩ j)
    (hS : ∀ (k : Fin T) (u : Fin 16), sc k u = S ⟨16 * k.val + u.val, by omega⟩) :
    colmax (st T) l = mx fun p : Fin 128 × Fin 128 => absE (P p.1 p.2) * absE (S p.1) := by
  refine eq_mx _ _ fun b => ?_
  unfold colmax
  rw [fold_max_le]
  have key : ∀ a : Fin 8, st T (ix2 a l) ≤ b ↔ _ := fun a =>
    foldl_le st (fun m => m (ix2 a l)) (fun k u m => mstep m (acc k u) (sc k u)) (fun k u => absmax8 (acc k u) (ix2 a l) * absE (sc k u)) hs
      (fun k u m => mstep_apply _ _ _ _ _) b T le_rfl
  simp only [h0] at key
  simp only [key, absmax8_le _ _ _ _ (absE_nonneg _), hP, hS]
  constructor
  · intro h
    refine ⟨(h 0).1, fun p => ?_⟩
    have h1 := p.1.isLt
    have h2 := p.2.isLt
    have := (h ⟨p.2.val % 8, by omega⟩).2 ⟨p.1.val / 16, by omega⟩ (by simp only; omega) ⟨p.1.val % 16, by omega⟩ ⟨p.2.val / 8, by omega⟩
    have e1 : (⟨16 * (p.1.val / 16) + p.1.val % 16, by omega⟩ : Fin 128) = p.1 := Fin.ext (by simp only; omega)
    have e2 : (⟨8 * (p.2.val / 8) + p.2.val % 8, by omega⟩ : Fin 128) = p.2 := Fin.ext (by simp only; omega)
    simp only [e1, e2] at this
    exact this
  · rintro ⟨h0, h⟩ a
    exact ⟨h0, fun k _ u q => h (_, _)⟩

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X2 : BufTy.Contents (Elt Ideal) arg2.view.ty) (X4 : BufTy.Contents (Elt Ideal) arg4.view.ty) (X10 : BufTy.Contents (Elt Ideal) arg10.view.ty)

/-- The first block product of block `s`, row `j`, token `l`, from the buffers. -/
def P9 (s j l : Fin 128) : EReal :=
  ∑ i : Fin 128, arg2.view.read (Elt Ideal) X2 (ix3 s j i) * arg10.view.read (Elt Ideal) X10 (ix2 l (col s i))

theorem acc9_apply (k : Fin k0_t9_loop.trips) (u : Fin 16) (j l : Fin 128) (s : Fin 128) (hs : s.val = 16 * k.val + u.val) :
    acc9 arg2 arg10 X2 X10 k u (ix2 j l) = P9 arg2 arg10 X2 X10 s j l := by
  unfold acc9 P9
  rw [pay88_apply]
  refine Finset.sum_congr rfl fun i _ => ?_
  congr 1
  · exact readAt3 arg2.view X2 _ _ (16 * k.val + u.val) 0 0 (k0_off10_eq k u) 0 j i s j i (by simpa using hs) (by omega) (by omega)
  · exact readAt2 arg10.view X10 _ _ 0 (2048 * k.val + 128 * u.val) (k0_off11_eq k u) l i _ _ (by omega) (by unfold col; simp only; omega)

theorem sc9_apply (k : Fin k0_t9_loop.trips) (u : Fin 16) (s : Fin 128) (hs : s.val = 16 * k.val + u.val) :
    sc9 arg4 X4 k u = arg4.view.read (Elt Ideal) X4 (ix1 s) :=
  readAt1 arg4.view X4 _ _ (16 * k.val + u.val) (k0_off13_eq k u) s hs

/-- The first contraction leaves the largest scaled magnitude of each token. -/
theorem max9 (a0 : BitVec 32) (w0 : FVec Ideal S32x1 .f32) (w1 : FVec Ideal S32x128 .f32) (l : Fin 128) :
    colmax (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X2 X4 X10 k0_pay327 k0_t9_loop.trips).1 l =
      mx fun p : Fin 128 × Fin 128 => absE (P9 arg2 arg10 X2 X10 p.1 p.2 l) * absE (arg4.view.read (Elt Ideal) X4 (ix1 p.1)) := by
  have hT : k0_t9_loop.trips = 8 := by decide +kernel
  exact colmax_eq hT (fun n => (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X2 X4 X10 k0_pay327 n).1) _ _ (fun _ => zero_bits)
    (fun k => (congrArg Prod.fst (st_k0_t9_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X2 X4 X10 k0_pay327 k)).trans
      (trip9R c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X4 X10 a0 w0 w1 k _)) l (fun s j => P9 arg2 arg10 X2 X10 s j l) (fun s => arg4.view.read (Elt Ideal) X4 (ix1 s))
    (fun k u j => acc9_apply arg2 arg10 X2 X10 k u j l _ rfl) (fun k u => sc9_apply arg4 X4 k u _ rfl)

/-- The first contraction stores block `s` at the rows from `132 s` on. -/
theorem read9 (a0 : BitVec 32) (w0 : FVec Ideal S32x1 .f32) (w1 : FVec Ideal S32x128 .f32) (init : FVec Ideal S8x128 .f32) (f : BufTy.Contents (Elt Ideal) arg14.view.ty) (s j l : Fin 128) :
    arg14.view.read (Elt Ideal) (arg14.view.writes (Elt Ideal) f (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X2 X4 X10 init k0_t9_loop.trips).2) (ix2 ⟨132 * s.val + j.val, by omega⟩ l) =
      P9 arg2 arg10 X2 X10 s j l := by
  have hT : k0_t9_loop.trips = 8 := by decide +kernel
  have hs := s.isLt
  have hj := j.isLt
  have hm := fun p => mem_pieces (T := k0_t9_loop.trips) (fun n => (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X2 X4 X10 init n).2) _ rfl
    (fun k => (congrArg (fun t => t.2) (st_k0_t9_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X2 X4 X10 init k)).trans
      (congrArg (· ++ _) (trip9L c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X4 X10 a0 w0 w1 k _))) _ le_rfl p
  have e := View.read_writes_apply_of_pieces arg14.view f
    (fun y => P9 arg2 arg10 X2 X10 ⟨(y 0).val / 132, by have h0 : (y 0).val < 16896 := (y 0).isLt; omega⟩ ⟨(y 0).val % 132 % 128, by omega⟩ (y 1))
    (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 w0 w1 X2 X4 X10 init k0_t9_loop.trips).2 ?_ (ix2 ⟨132 * s.val + j.val, by omega⟩ l) ?_
  · rw [e]
    congr 1
    · apply Fin.ext
      show (132 * s.val + j.val) / 132 = s.val
      omega
    · apply Fin.ext
      show (132 * s.val + j.val) % 132 % 128 = j.val
      omega
  · intro p hp x
    obtain ⟨k, -, u, rfl⟩ := (hm p).mp hp
    obtain ⟨r, q, rfl⟩ : ∃ (r : Fin 128) (q : Fin 128), x = ix2 r q := ⟨x 0, x 1, eq_ix2 x⟩
    have hu := u.isLt
    have hr := r.isLt
    have hk := k.isLt
    have he : (Rect.unit (s := S16896x128) (k0_off12 k (BitVec.ofNat 32 u.val)) S128x128.size (k0_off12_inb k u)).emb (ix2 r q) =
        ix2 ⟨2112 * k.val + 132 * u.val + r.val, by omega⟩ q :=
      emb2 _ _ (2112 * k.val + 132 * u.val) 0 (k0_off12_eq k u) r q _ _ rfl (by omega)
    simp only [he]
    rw [shapeCast_self, acc9_apply arg2 arg10 X2 X10 k u r q ⟨16 * k.val + u.val, by omega⟩ rfl]
    congr 1
    · apply Fin.ext
      show 16 * k.val + u.val = (2112 * k.val + 132 * u.val + r.val) / 132
      omega
    · apply Fin.ext
      show r.val = (2112 * k.val + 132 * u.val + r.val) % 132 % 128
      omega
  · refine ⟨_, (hm _).mpr ⟨⟨s.val / 16, by omega⟩, Fin.isLt _, ⟨s.val % 16, by omega⟩, rfl⟩, ?_⟩
    exact mem2 _ (k0_off12_inb _ _) (2112 * (s.val / 16) + 132 * (s.val % 16)) 0 (k0_off12_eq ⟨s.val / 16, by omega⟩ ⟨s.val % 16, by omega⟩) _ _
      (by simp only; omega) (by simp only; omega) (by omega) (by omega)

end

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X5 : BufTy.Contents (Elt Ideal) arg5.view.ty) (X7 : BufTy.Contents (Elt Ideal) arg7.view.ty) (X14 : BufTy.Contents (Elt Ideal) arg14.view.ty) (X16 : BufTy.Contents (Elt Ideal) arg16.view.ty)

/-- The code blocks a trip of the second contraction stores. -/
theorem trip10v (w0 : FVec Ideal S1x128 .f32) (w1 : FVec Ideal S8x128 .f32) (w2 : BitVec 32) (k : Fin k0_t10_loop.trips) (acc : FVec Ideal S8x128 .f32) :
    (tripL_k0_t10 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 k acc).1 =
      steps.map fun u => ⟨Rect.unit (s := S128x16384) (k0_off15 k (BitVec.ofNat 32 u.val)) S128x128.size (k0_off15_inb k u),
        transpose S128x128 [1, 0] (v10 arg14 arg16 X14 X16 k u) transposes_S128x128_p1_0_S128x128⟩ := by
  rw [trip10L]

/-- The product blocks a trip of the second contraction stores. -/
theorem trip10p (w0 : FVec Ideal S1x128 .f32) (w1 : FVec Ideal S8x128 .f32) (w2 : BitVec 32) (k : Fin k0_t10_loop.trips) (acc : FVec Ideal S8x128 .f32) :
    (tripL_k0_t10 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 k acc).2 =
      steps.map fun u => ⟨Rect.unit (s := S16896x128) (k0_off17 k (BitVec.ofNat 32 u.val)) S128x128.size (k0_off17_inb k u),
        shapeCast S128x128 (acc10 arg5 arg14 arg16 X5 X14 X16 k u) shapeCasts_S128x128_S128x128⟩ := by
  rw [trip10L]

/-- The code of the first product's block `r`, row `s`, token `l`, from the buffers. -/
def V10 (s r l : Fin 128) : EReal :=
  clip (arg14.view.read (Elt Ideal) X14 (ix2 ⟨132 * r.val + s.val, by omega⟩ l) * arg16.view.read (Elt Ideal) X16 (ix2 r l))

/-- The second block product of block `s`, row `o`, token `l`, from the buffers. -/
def P10 (s o l : Fin 128) : EReal := ∑ r : Fin 128, arg5.view.read (Elt Ideal) X5 (ix3 s o r) * V10 arg14 arg16 X14 X16 s r l

theorem v10_apply (k : Fin k0_t10_loop.trips) (u : Fin 16) (r l : Fin 128) (s : Fin 128) (hs : s.val = 16 * k.val + u.val) :
    v10 arg14 arg16 X14 X16 k u (ix2 r l) = V10 arg14 arg16 X14 X16 s r l := by
  unfold v10 V10
  rw [codes_apply]
  congr 2
  · exact readAtS arg14.view X14 _ 132 _ (16 * k.val + u.val) 0 (k0_off14_eq k u) r l _ _ (by simp only; omega) (by omega)
  · exact readAt2 arg16.view X16 _ _ 0 0 rfl r l _ _ (by omega) (by omega)

theorem acc10_apply (k : Fin k0_t10_loop.trips) (u : Fin 16) (o l : Fin 128) (s : Fin 128) (hs : s.val = 16 * k.val + u.val) :
    acc10 arg5 arg14 arg16 X5 X14 X16 k u (ix2 o l) = P10 arg5 arg14 arg16 X5 X14 X16 s o l := by
  unfold acc10 P10
  rw [mm10_apply]
  refine Finset.sum_congr rfl fun r _ => ?_
  rw [v10_apply arg14 arg16 X14 X16 k u r l s hs]
  congr 1
  exact readAt3 arg5.view X5 _ _ (16 * k.val + u.val) 0 0 (k0_off16_eq k u) 0 o r s o r (by simpa using hs) (by omega) (by omega)

theorem sc10_apply (k : Fin k0_t10_loop.trips) (u : Fin 16) (s : Fin 128) (hs : s.val = 16 * k.val + u.val) :
    sc10 arg7 X7 k u = arg7.view.read (Elt Ideal) X7 (ix1 s) :=
  readAt1 arg7.view X7 _ _ (16 * k.val + u.val) (k0_off18_eq k u) s hs

/-- The second contraction leaves the largest scaled magnitude of each token. -/
theorem max10 (w0 : FVec Ideal S1x128 .f32) (w1 : FVec Ideal S8x128 .f32) (w2 : BitVec 32) (l : Fin 128) :
    colmax (st_k0_t10 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 k0_pay337 k0_t10_loop.trips).1 l =
      mx fun p : Fin 128 × Fin 128 => absE (P10 arg5 arg14 arg16 X5 X14 X16 p.1 p.2 l) * absE (arg7.view.read (Elt Ideal) X7 (ix1 p.1)) := by
  have hT : k0_t10_loop.trips = 8 := by decide +kernel
  exact colmax_eq hT (fun n => (st_k0_t10 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 k0_pay337 n).1) _ _ (fun _ => zero_bits)
    (fun k => (congrArg Prod.fst (st_k0_t10_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 k0_pay337 k)).trans
      (trip10R c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X5 X7 X14 X16 w0 w1 w2 k _)) l (fun s j => P10 arg5 arg14 arg16 X5 X14 X16 s j l) (fun s => arg7.view.read (Elt Ideal) X7 (ix1 s))
    (fun k u j => acc10_apply arg5 arg14 arg16 X5 X14 X16 k u j l _ rfl) (fun k u => sc10_apply arg7 X7 k u _ rfl)

/-- The second contraction stores block `s` at the rows from `132 s` on. -/
theorem read10 (w0 : FVec Ideal S1x128 .f32) (w1 : FVec Ideal S8x128 .f32) (w2 : BitVec 32) (init : FVec Ideal S8x128 .f32) (f : BufTy.Contents (Elt Ideal) arg15.view.ty) (s j l : Fin 128) :
    arg15.view.read (Elt Ideal) (arg15.view.writes (Elt Ideal) f (st_k0_t10 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 init k0_t10_loop.trips).2.2) (ix2 ⟨132 * s.val + j.val, by omega⟩ l) =
      P10 arg5 arg14 arg16 X5 X14 X16 s j l := by
  have hT : k0_t10_loop.trips = 8 := by decide +kernel
  have hs := s.isLt
  have hj := j.isLt
  have hm := fun p => mem_pieces (T := k0_t10_loop.trips) (fun n => (st_k0_t10 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 init n).2.2) _ rfl
    (fun k => (congrArg (fun t => t.2.2) (st_k0_t10_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 init k)).trans
      (congrArg (· ++ _) (trip10p c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X5 X7 X14 X16 w0 w1 w2 k _))) _ le_rfl p
  have e := View.read_writes_apply_of_pieces arg15.view f
    (fun y => P10 arg5 arg14 arg16 X5 X14 X16 ⟨(y 0).val / 132, by have h0 : (y 0).val < 16896 := (y 0).isLt; omega⟩ ⟨(y 0).val % 132 % 128, by omega⟩ (y 1))
    (st_k0_t10 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 init k0_t10_loop.trips).2.2 ?_ (ix2 ⟨132 * s.val + j.val, by omega⟩ l) ?_
  · rw [e]
    congr 1
    · apply Fin.ext
      show (132 * s.val + j.val) / 132 = s.val
      omega
    · apply Fin.ext
      show (132 * s.val + j.val) % 132 % 128 = j.val
      omega
  · intro p hp x
    obtain ⟨k, -, u, rfl⟩ := (hm p).mp hp
    obtain ⟨r, q, rfl⟩ : ∃ (r : Fin 128) (q : Fin 128), x = ix2 r q := ⟨x 0, x 1, eq_ix2 x⟩
    have hu := u.isLt
    have hr := r.isLt
    have hk := k.isLt
    have he : (Rect.unit (s := S16896x128) (k0_off17 k (BitVec.ofNat 32 u.val)) S128x128.size (k0_off17_inb k u)).emb (ix2 r q) =
        ix2 ⟨2112 * k.val + 132 * u.val + r.val, by omega⟩ q :=
      emb2 _ _ (2112 * k.val + 132 * u.val) 0 (k0_off17_eq k u) r q _ _ rfl (by omega)
    simp only [he]
    rw [shapeCast_self, acc10_apply arg5 arg14 arg16 X5 X14 X16 k u r q ⟨16 * k.val + u.val, by omega⟩ rfl]
    congr 1
    · apply Fin.ext
      show 16 * k.val + u.val = (2112 * k.val + 132 * u.val + r.val) / 132
      omega
    · apply Fin.ext
      show r.val = (2112 * k.val + 132 * u.val + r.val) % 132 % 128
      omega
  · refine ⟨_, (hm _).mpr ⟨⟨s.val / 16, by omega⟩, Fin.isLt _, ⟨s.val % 16, by omega⟩, rfl⟩, ?_⟩
    exact mem2 _ (k0_off17_inb _ _) (2112 * (s.val / 16) + 132 * (s.val % 16)) 0 (k0_off17_eq ⟨s.val / 16, by omega⟩ ⟨s.val % 16, by omega⟩) _ _
      (by simp only; omega) (by simp only; omega) (by omega) (by omega)

/-- The second contraction stores the codes of the first product. -/
theorem read12 (w0 : FVec Ideal S1x128 .f32) (w1 : FVec Ideal S8x128 .f32) (w2 : BitVec 32) (init : FVec Ideal S8x128 .f32) (f : BufTy.Contents (Elt Ideal) arg12.view.ty) (l s r : Fin 128) :
    arg12.view.read (Elt Ideal) (arg12.view.writes (Elt Ideal) f (st_k0_t10 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 init k0_t10_loop.trips).2.1) (ix2 l (col s r)) = V10 arg14 arg16 X14 X16 s r l := by
  have hT : k0_t10_loop.trips = 8 := by decide +kernel
  have hs := s.isLt
  have hr := r.isLt
  have hm := fun p => mem_pieces (T := k0_t10_loop.trips) (fun n => (st_k0_t10 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 init n).2.1) _ rfl
    (fun k => (congrArg (fun t => t.2.1) (st_k0_t10_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 init k)).trans
      (congrArg (· ++ _) (trip10v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X5 X7 X14 X16 w0 w1 w2 k _))) _ le_rfl p
  have e := View.read_writes_apply_of_pieces arg12.view f
    (fun y => V10 arg14 arg16 X14 X16 ⟨(y 1).val / 128, by have h0 : (y 1).val < 16384 := (y 1).isLt; omega⟩ ⟨(y 1).val % 128, by omega⟩ (y 0))
    (st_k0_t10 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w0 w1 w2 X5 X7 X14 X16 init k0_t10_loop.trips).2.1 ?_ (ix2 l (col s r)) ?_
  · rw [e]
    congr 1
    · apply Fin.ext
      show (128 * s.val + r.val) / 128 = s.val
      omega
    · apply Fin.ext
      show (128 * s.val + r.val) % 128 = r.val
      omega
  · intro p hp x
    obtain ⟨k, -, u, rfl⟩ := (hm p).mp hp
    obtain ⟨r, q, rfl⟩ : ∃ (r : Fin 128) (q : Fin 128), x = ix2 r q := ⟨x 0, x 1, eq_ix2 x⟩
    have hu := u.isLt
    have hq := q.isLt
    have hk := k.isLt
    have he : (Rect.unit (s := S128x16384) (k0_off15 k (BitVec.ofNat 32 u.val)) S128x128.size (k0_off15_inb k u)).emb (ix2 r q) =
        ix2 r ⟨2048 * k.val + 128 * u.val + q.val, by omega⟩ :=
      emb2 _ _ 0 (2048 * k.val + 128 * u.val) (k0_off15_eq k u) r q _ _ (by omega) rfl
    simp only [he]
    rw [t128, v10_apply arg14 arg16 X14 X16 k u q r ⟨16 * k.val + u.val, by omega⟩ rfl]
    congr 1
    · apply Fin.ext
      show 16 * k.val + u.val = (2048 * k.val + 128 * u.val + q.val) / 128
      omega
    · apply Fin.ext
      show q.val = (2048 * k.val + 128 * u.val + q.val) % 128
      omega
  · refine ⟨_, (hm _).mpr ⟨⟨s.val / 16, by omega⟩, Fin.isLt _, ⟨s.val % 16, by omega⟩, rfl⟩, ?_⟩
    exact mem2 _ (k0_off15_inb _ _) 0 (2048 * (s.val / 16) + 128 * (s.val % 16)) (k0_off15_eq ⟨s.val / 16, by omega⟩ ⟨s.val % 16, by omega⟩) _ _
      (by omega) (by have := l.isLt; omega) (by unfold col; simp only; omega) (by unfold col; simp only; omega)

end

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (X15 : BufTy.Contents (Elt Ideal) arg15.view.ty) (X16 : BufTy.Contents (Elt Ideal) arg16.view.ty)

/-- The code of the second product's block `r`, row `s`, token `l`, from the buffers. -/
def V11 (s r l : Fin 128) : EReal :=
  clip (arg15.view.read (Elt Ideal) X15 (ix2 ⟨132 * r.val + s.val, by omega⟩ l) * arg16.view.read (Elt Ideal) X16 (ix2 r l))

theorem v11_apply (k : Fin k0_t11_loop.trips) (u : Fin 16) (r l : Fin 128) (s : Fin 128) (hs : s.val = 16 * k.val + u.val) :
    codes (View.readAt (Elt Ideal) arg15.view (LoadRect.mk (s := S16896x128) (k0_off19 k (BitVec.ofNat 32 u.val)) ![128, 128] ![132, 1] (k0_off19_inb k u)) X15)
          (View.readAt (Elt Ideal) arg16.view whole128 X16) (ix2 r l) = V11 arg15 arg16 X15 X16 s r l := by
  unfold V11
  rw [codes_apply]
  congr 2
  · exact readAtS arg15.view X15 _ 132 _ (16 * k.val + u.val) 0 (k0_off19_eq k u) r l _ _ (by simp only; omega) (by omega)
  · exact readAt2 arg16.view X16 _ _ 0 0 rfl r l _ _ (by omega) (by omega)

/-- The last pass stores the codes of the second product. -/
theorem read8  (f : BufTy.Contents (Elt Ideal) arg8.view.ty) (l s r : Fin 128) :
    arg8.view.read (Elt Ideal) (arg8.view.writes (Elt Ideal) f (pb_k0_t11 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 X16 k0_t11_loop.trips)) (ix2 l (col s r)) = V11 arg15 arg16 X15 X16 s r l := by
  have hT : k0_t11_loop.trips = 8 := by decide +kernel
  have hs := s.isLt
  have hr := r.isLt
  have hm := fun p => mem_pieces (T := k0_t11_loop.trips) (fun n => pb_k0_t11 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 X16 n) _ rfl
    (fun k => (pb_k0_t11_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 X16 k).trans
      (congrArg (· ++ _) (trip11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 X16 k))) _ le_rfl p
  have e := View.read_writes_apply_of_pieces arg8.view f
    (fun y => V11 arg15 arg16 X15 X16 ⟨(y 1).val / 128, by have h0 : (y 1).val < 16384 := (y 1).isLt; omega⟩ ⟨(y 1).val % 128, by omega⟩ (y 0))
    (pb_k0_t11 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 X16 k0_t11_loop.trips) ?_ (ix2 l (col s r)) ?_
  · rw [e]
    congr 1
    · apply Fin.ext
      show (128 * s.val + r.val) / 128 = s.val
      omega
    · apply Fin.ext
      show (128 * s.val + r.val) % 128 = r.val
      omega
  · intro p hp x
    obtain ⟨k, -, u, rfl⟩ := (hm p).mp hp
    obtain ⟨r, q, rfl⟩ : ∃ (r : Fin 128) (q : Fin 128), x = ix2 r q := ⟨x 0, x 1, eq_ix2 x⟩
    have hu := u.isLt
    have hq := q.isLt
    have hk := k.isLt
    have he : (Rect.unit (s := S128x16384) (k0_off20 k (BitVec.ofNat 32 u.val)) S128x128.size (k0_off20_inb k u)).emb (ix2 r q) =
        ix2 r ⟨2048 * k.val + 128 * u.val + q.val, by omega⟩ :=
      emb2 _ _ 0 (2048 * k.val + 128 * u.val) (k0_off20_eq k u) r q _ _ (by omega) rfl
    simp only [he]
    rw [t128, v11_apply arg15 arg16 X15 X16 k u q r ⟨16 * k.val + u.val, by omega⟩ rfl]
    congr 1
    · apply Fin.ext
      show 16 * k.val + u.val = (2048 * k.val + 128 * u.val + q.val) / 128
      omega
    · apply Fin.ext
      show q.val = (2048 * k.val + 128 * u.val + q.val) % 128
      omega
  · refine ⟨_, (hm _).mpr ⟨⟨s.val / 16, by omega⟩, Fin.isLt _, ⟨s.val % 16, by omega⟩, rfl⟩, ?_⟩
    exact mem2 _ (k0_off20_inb _ _) 0 (2048 * (s.val / 16) + 128 * (s.val % 16)) (k0_off20_eq ⟨s.val / 16, by omega⟩ ⟨s.val % 16, by omega⟩) _ _
      (by omega) (by have := l.isLt; omega) (by unfold col; simp only; omega) (by unfold col; simp only; omega)

end

end Cert.Proof.Value
end
-- ==== Proof.Values.lean ====
/-
  What one step leaves in its buffers, named stage by stage.
-/
module

public import proofs.«01_k».proof.Proof.Run
public import proofs.«01_k».proof.Proof.Contract

@[expose] public section

noncomputable section

namespace Cert.Proof.Value

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxHeartbeats 1000000

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole)

/-- Row group 0: the lane maxima. -/
def g0 (f1 : BufTy.Contents (Elt Ideal) arg1.view.ty) : FVec Ideal S32x256 .bf16 :=
  st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  f1 k0_pay276 k0_t1_loop.trips

/-- Row group 1: the lane maxima. -/
def g1 (f1 : BufTy.Contents (Elt Ideal) arg1.view.ty) : FVec Ideal S32x256 .bf16 :=
  st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay282 (F := Ideal) (k0_pay278 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay279 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay280 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) (k0_pay283 (F := Ideal) (k0_pay278 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay279 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay280 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) f1 k0_pay289 k0_t3_loop.trips

/-- Row group 2: the lane maxima. -/
def g2 (f1 : BufTy.Contents (Elt Ideal) arg1.view.ty) : FVec Ideal S32x256 .bf16 :=
  st_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay298 (F := Ideal) (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay294 (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay292 (k0_pay293 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) 126#32) (k0_pay295 (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay292 (k0_pay293 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) 126#32) 4#32) f1 k0_pay302 k0_t5_loop.trips

/-- Row group 3: the lane maxima. -/
def g3 (f1 : BufTy.Contents (Elt Ideal) arg1.view.ty) : FVec Ideal S32x256 .bf16 :=
  st_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay306 (F := Ideal) (k0_pay304 (g2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay305 (g2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) f1 k0_pay312 k0_t7_loop.trips

/-- The stores of the activation codes. -/
def L10 (f1 : BufTy.Contents (Elt Ideal) arg1.view.ty) : List (View.Piece (Elt Ideal) S128x16384 .fp8e4m3) :=
  pb_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val) (k0_pay320 (F := Ideal) (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay317 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316) (k0_pay318 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316)) (k0_pay321 (F := Ideal) (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay317 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316) (k0_pay318 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316)) f1 k0_t8_loop.trips ++ (pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay306 (F := Ideal) (k0_pay304 (g2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay305 (g2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) f1 k0_t6_loop.trips ++ (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay298 (F := Ideal) (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay294 (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay292 (k0_pay293 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) 126#32) (k0_pay295 (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay292 (k0_pay293 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) 126#32) 4#32) f1 k0_t4_loop.trips ++ pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay282 (F := Ideal) (k0_pay278 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay279 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay280 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) (k0_pay283 (F := Ideal) (k0_pay278 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay279 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay280 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) f1 k0_t2_loop.trips))

/-- The stores of the activation scales, spread over the lanes. -/
def L17 (f1 : BufTy.Contents (Elt Ideal) arg1.view.ty) : List (View.Piece (Elt Ideal) S128x128 .f32) :=
  [⟨Rect.unit ![96, 0] S32x128.size inb_S128x128_S32x128_96_0, k0_pay322 (F := Ideal) (k0_pay321 (F := Ideal) (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay317 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316) (k0_pay318 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316))⟩,
   ⟨Rect.unit ![64, 0] S32x128.size inb_S128x128_S32x128_64_0, k0_pay308 (F := Ideal) (k0_pay306 (F := Ideal) (k0_pay304 (g2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay305 (g2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)))⟩,
   ⟨Rect.unit ![32, 0] S32x128.size inb_S128x128_S32x128_32_0, k0_pay297 (F := Ideal) (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay294 (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay292 (k0_pay293 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) 126#32) (k0_pay295 (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay292 (k0_pay293 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) 126#32) 4#32⟩,
   ⟨Rect.unit ![0, 0] S32x128.size inb_S128x128_S32x128_0_0, k0_pay285 (F := Ideal) (k0_pay282 (F := Ideal) (k0_pay278 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay279 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay280 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) (k0_pay283 (F := Ideal) (k0_pay278 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay279 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay280 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)))⟩]

/-- The activation scales, loaded. -/
def sx (f1 : BufTy.Contents (Elt Ideal) arg1.view.ty) : FVec Ideal S128x128 .f32 :=
  arg17.view.readCov (L17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1) whole128

/-- The buffer of the activation codes. -/
def B10 (f1 : BufTy.Contents (Elt Ideal) arg1.view.ty) (f10 : BufTy.Contents (Elt Ideal) arg10.view.ty) : BufTy.Contents (Elt Ideal) arg10.view.ty :=
  arg10.view.writes (Elt Ideal) f10 (L10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)

/-- The first contraction. -/
def p9 (f1 : BufTy.Contents (Elt Ideal) arg1.view.ty) (f2 : BufTy.Contents (Elt Ideal) arg2.view.ty) (f4 : BufTy.Contents (Elt Ideal) arg4.view.ty) (f10 : BufTy.Contents (Elt Ideal) arg10.view.ty) : FVec Ideal S8x128 .f32 × List (View.Piece (Elt Ideal) S16896x128 .f32) :=
  st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val) (k0_pay320 (F := Ideal) (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay317 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316) (k0_pay318 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316)) (k0_pay321 (F := Ideal) (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay317 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316) (k0_pay318 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316)) f2 f4 (B10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f10) k0_pay327 k0_t9_loop.trips

/-- The buffer of the first products. -/
def B14 (f1 : BufTy.Contents (Elt Ideal) arg1.view.ty) (f2 : BufTy.Contents (Elt Ideal) arg2.view.ty) (f4 : BufTy.Contents (Elt Ideal) arg4.view.ty) (f10 : BufTy.Contents (Elt Ideal) arg10.view.ty) (f14 : BufTy.Contents (Elt Ideal) arg14.view.ty) : BufTy.Contents (Elt Ideal) arg14.view.ty :=
  arg14.view.writes (Elt Ideal) f14 (p9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10).2

/-- The scales of the first product. -/
def sv (f1 : BufTy.Contents (Elt Ideal) arg1.view.ty) (f2 : BufTy.Contents (Elt Ideal) arg2.view.ty) (f4 : BufTy.Contents (Elt Ideal) arg4.view.ty) (f10 : BufTy.Contents (Elt Ideal) arg10.view.ty) : FVec Ideal S1x128 .f32 :=
  vsw (sx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1) (p9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10).1

/-- The store of the factors of the first product. -/
def L16 (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f10 : BufTy.Contents (Elt Ideal) arg10.view.ty) : List (View.Piece (Elt Ideal) S128x128 .f32) :=
  [⟨Rect.unit ![0, 0] S128x128.size inb_S128x128_S128x128_0_0, k0_pay336 (F := Ideal) (k0_pay326 (sx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay329 (sx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1) (p9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10).1)
    (k0_pay332 (k0_pay329 (sx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1) (p9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10).1) (k0_pay330 (sx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1) (p9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10).1) (k0_pay331 (sx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1) (p9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10).1) 63#32)
    (k0_pay333 (k0_pay329 (sx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1) (p9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10).1) (k0_pay330 (sx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1) (p9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10).1) (k0_pay331 (sx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1) (p9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10).1) 63#32) 2#32
    (View.readAt (Elt Ideal) arg3.view whole128 f3)⟩]

/-- The buffer of the factors of the first product. -/
def B16 (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f10 : BufTy.Contents (Elt Ideal) arg10.view.ty) : BufTy.Contents (Elt Ideal) arg16.view.ty :=
  arg16.view.writes (Elt Ideal) arg16.view.junk (L16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f10)

/-- The second contraction. -/
def p10 (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f7 : BufTy.Contents (Elt Ideal) arg7.view.ty) (f10 : BufTy.Contents (Elt Ideal) arg10.view.ty) (f14 : BufTy.Contents (Elt Ideal) arg14.view.ty) : FVec Ideal S8x128 .f32 × List (View.Piece (Elt Ideal) S128x16384 .fp8e4m3) × List (View.Piece (Elt Ideal) S16896x128 .f32) :=
  st_k0_t10 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (sv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10) k0_pay337 0#32 f5 f7 (B14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 f14) (B16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f10) k0_pay337 k0_t10_loop.trips

/-- The buffer of the second products. -/
def B15 (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f7 : BufTy.Contents (Elt Ideal) arg7.view.ty) (f10 : BufTy.Contents (Elt Ideal) arg10.view.ty) (f14 : BufTy.Contents (Elt Ideal) arg14.view.ty) (f15 : BufTy.Contents (Elt Ideal) arg15.view.ty) : BufTy.Contents (Elt Ideal) arg15.view.ty :=
  arg15.view.writes (Elt Ideal) f15 (p10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14).2.2

/-- The buffer of the factors of the second product. -/
def C16 (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f10 : BufTy.Contents (Elt Ideal) arg10.view.ty) (f14 : BufTy.Contents (Elt Ideal) arg14.view.ty) : BufTy.Contents (Elt Ideal) arg16.view.ty :=
  arg16.view.writes (Elt Ideal) (B16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f10) [⟨Rect.unit ![0, 0] S128x128.size inb_S128x128_S128x128_0_0,
    k0_pay2 (sv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10) (k0_pay341 (k0_pay339 (sv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10) (p10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14).1) (k0_pay340 (sv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10) (p10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14).1)) (View.readAt (Elt Ideal) arg6.view whole128 f6)⟩]

/-- The buffer of the second product's codes. -/
def B8 (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f10 : BufTy.Contents (Elt Ideal) arg10.view.ty) (f14 : BufTy.Contents (Elt Ideal) arg14.view.ty) (f15 : BufTy.Contents (Elt Ideal) arg15.view.ty) : BufTy.Contents (Elt Ideal) arg8.view.ty :=
  arg8.view.writes (Elt Ideal) f8 (pb_k0_t11 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  (B15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14 f15) (C16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f10 f14) k0_t11_loop.trips)

/-- The buffer of the first product's codes. -/
def B12 (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f7 : BufTy.Contents (Elt Ideal) arg7.view.ty) (f10 : BufTy.Contents (Elt Ideal) arg10.view.ty) (f14 : BufTy.Contents (Elt Ideal) arg14.view.ty) (f12 : BufTy.Contents (Elt Ideal) arg12.view.ty) : BufTy.Contents (Elt Ideal) arg12.view.ty :=
  arg12.view.writes (Elt Ideal) f12 (p10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14).2.1

/-- The buffer of the activation scales. -/
def B11 (f1 : BufTy.Contents (Elt Ideal) arg1.view.ty) (f11 : BufTy.Contents (Elt Ideal) arg11.view.ty) : BufTy.Contents (Elt Ideal) arg11.view.ty :=
  arg11.view.writes (Elt Ideal) f11 [⟨Rect.unit (s := S64x128) (k0_off9 i) S1x128.size (k0_off9_inb i), k0_pay326 (F := Ideal) (sx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)⟩]

/-- The buffer of the first product's scales. -/
def B13 (f1 : BufTy.Contents (Elt Ideal) arg1.view.ty) (f2 : BufTy.Contents (Elt Ideal) arg2.view.ty) (f4 : BufTy.Contents (Elt Ideal) arg4.view.ty) (f10 : BufTy.Contents (Elt Ideal) arg10.view.ty) (f13 : BufTy.Contents (Elt Ideal) arg13.view.ty) : BufTy.Contents (Elt Ideal) arg13.view.ty :=
  arg13.view.writes (Elt Ideal) f13 [⟨Rect.unit (s := S64x128) (k0_off9 i) S1x128.size (k0_off9_inb i), (sv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10)⟩]

/-- The buffer of the second product's scales. -/
def B9 (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f7 : BufTy.Contents (Elt Ideal) arg7.view.ty) (f10 : BufTy.Contents (Elt Ideal) arg10.view.ty) (f14 : BufTy.Contents (Elt Ideal) arg14.view.ty) (f9 : BufTy.Contents (Elt Ideal) arg9.view.ty) : BufTy.Contents (Elt Ideal) arg9.view.ty :=
  arg9.view.writes (Elt Ideal) f9 [⟨Rect.unit (s := S64x128) (k0_off9 i) S1x128.size (k0_off9_inb i), k0_pay1 (F := Ideal) (k0_pay342 (k0_pay339 (sv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10) (p10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14).1) (k0_pay340 (sv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10) (p10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14).1))⟩]

variable (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty)

theorem run8 : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17).1 = B8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f10 f14 f15 := by
  unfold kernelRun
  rfl

theorem run9 : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17).2.1 = B9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14 f9 := by
  unfold kernelRun
  rfl

theorem run10 : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17).2.2.1 = B10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f10 := by
  unfold kernelRun
  rfl

theorem run11 : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17).2.2.2.1 = B11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f11 := by
  unfold kernelRun
  rfl

theorem run12 : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17).2.2.2.2.1 = B12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14 f12 := by
  unfold kernelRun
  rfl

theorem run13 : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17).2.2.2.2.2.1 = B13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 f13 := by
  unfold kernelRun
  rfl
end

end Cert.Proof.Value
end
-- ==== Proof.StepValue.lean ====
/-
  What one step leaves in its outputs, as formulas in the rows of activations and the weights.
-/
module

public import proofs.«01_k».proof.Proof.Values

@[expose] public section

noncomputable section

namespace Cert.Proof.Value

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxHeartbeats 1000000

/-- Writing a whole square array. -/
theorem read_whole {κ : Kind} {sp : Space} (v : View sig κ sp S128x128 .f32) (f : v.ty.Contents (Elt Ideal)) (w : Vec Ideal S128x128 .f32) (r l : Fin 128) :
    v.read (Elt Ideal) (v.writes (Elt Ideal) f [⟨Rect.unit ![0, 0] S128x128.size inb_S128x128_S128x128_0_0, w⟩]) (ix2 r l) = w (ix2 r l) := by
  refine View.read_writes_apply_of_pieces v f w _ ?_ _ ⟨_, List.mem_singleton_self _, ?_⟩
  · intro p hp x
    obtain rfl := List.mem_singleton.mp hp
    obtain ⟨a, b, rfl⟩ : ∃ (a : Fin 128) (b : Fin 128), x = ix2 a b := ⟨x 0, x 1, eq_ix2 x⟩
    exact congrArg w (emb2 ![0, 0] inb_S128x128_S128x128_0_0 0 0 rfl a b a b (by omega) (by omega)).symm
  · have := r.isLt; have := l.isLt
    exact mem2 _ inb_S128x128_S128x128_0_0 0 0 rfl _ _ (by omega) (by omega) (by omega) (by omega)

/-- Writing one row of a list of scales, at that row. -/
theorem read_row {κ : Kind} {sp : Space} (v : View sig κ sp S64x128 .f32) (f : v.ty.Contents (Elt Ideal)) (i : grid0.Coords) (w : Vec Ideal S1x128 .f32)
    (t : Fin 64) (ht : t.val = (i 0).val) (l : Fin 128) :
    v.read (Elt Ideal) (v.writes (Elt Ideal) f [⟨Rect.unit (s := S64x128) (k0_off9 i) S1x128.size (k0_off9_inb i), w⟩]) (ix2 t l) = w (ix2 0 l) := by
  refine (View.read_writes_apply_of_pieces v f (fun y => w (ix2 0 (y 1))) _ ?_ _ ⟨_, List.mem_singleton_self _, ?_⟩).trans rfl
  · intro p hp x
    obtain rfl := List.mem_singleton.mp hp
    obtain ⟨a, b, rfl⟩ : ∃ (a : Fin 1) (b : Fin 128), x = ix2 a b := ⟨x 0, x 1, eq_ix2 x⟩
    obtain rfl : a = 0 := Subsingleton.elim _ _
    simp only [emb2 (k0_off9 i) (k0_off9_inb i) (i 0).val 0 (k0_off9_eq i) (0 : Fin 1) b t b (by simpa using ht) (by omega)]
    rfl
  · have := l.isLt
    exact mem2 _ (k0_off9_inb i) (i 0).val 0 (k0_off9_eq i) _ _ (by omega) (by omega) (by omega) (by omega)

/-- Writing one row of a list of scales, at another row. -/
theorem read_row_ne {κ : Kind} {sp : Space} (v : View sig κ sp S64x128 .f32) (f : v.ty.Contents (Elt Ideal)) (i : grid0.Coords) (w : Vec Ideal S1x128 .f32)
    (t : Fin 64) (ht : t.val ≠ (i 0).val) (l : Fin 128) :
    v.read (Elt Ideal) (v.writes (Elt Ideal) f [⟨Rect.unit (s := S64x128) (k0_off9 i) S1x128.size (k0_off9_inb i), w⟩]) (ix2 t l) = v.read (Elt Ideal) f (ix2 t l) := by
  refine View.read_writes_apply_of_forall_not_mem v f _ _ ?_
  intro p hp hm
  obtain rfl := List.mem_singleton.mp hp
  have hm' : ix2 t l ∈ (Rect.unit (s := S64x128) (k0_off9 i) S1x128.size (k0_off9_inb i)).set := hm
  rw [Rect.mem_set_unit] at hm'
  have h := hm' 0
  rw [k0_off9_eq] at h
  have h1 : (i 0).val ≤ t.val := h.1
  have h2 : t.val < (i 0).val + 1 := h.2
  omega

section
variable (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty)
  (x : Fin 128 → Fin 16384 → EReal) (rT : Fin 128 → Fin 128 → Fin 128 → EReal) (rs : Fin 128 → EReal)
  (lT : Fin 128 → Fin 128 → Fin 128 → EReal) (ls : Fin 128 → EReal)
  (hx : ∀ l j, arg1.view.read (Elt Ideal) f1 (ix2 l j) = x l j)
  (h2 : ∀ k j q, arg2.view.read (Elt Ideal) f2 (ix3 k j q) = rT k j q)
  (h3 : ∀ k l, arg3.view.read (Elt Ideal) f3 (ix2 k l) = rs k)
  (h4 : ∀ k, arg4.view.read (Elt Ideal) f4 (ix1 k) = rs k)
  (h5 : ∀ k j q, arg5.view.read (Elt Ideal) f5 (ix3 k j q) = lT k j q)
  (h6 : ∀ k l, arg6.view.read (Elt Ideal) f6 (ix2 k l) = ls k)
  (h7 : ∀ k, arg7.view.read (Elt Ideal) f7 (ix1 k) = ls k)

include hx in

theorem gmax0 (r : Fin 32) : rowmax (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1) r = ax (x ⟨0 + r.val, by omega⟩) := by
  refine (max1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1  r).trans ?_
  unfold ax
  simp only [hx]

include hx in
theorem gmax1 (r : Fin 32) : rowmax (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1) r = ax (x ⟨32 + r.val, by omega⟩) := by
  refine (max3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 (k0_pay282 (F := Ideal) (k0_pay278 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay279 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay280 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) (k0_pay283 (F := Ideal) (k0_pay278 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay279 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay280 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) r).trans ?_
  unfold ax
  simp only [hx]

include hx in
theorem gmax2 (r : Fin 32) : rowmax (g2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1) r = ax (x ⟨64 + r.val, by omega⟩) := by
  refine (max5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 (k0_pay298 (F := Ideal) (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay294 (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay292 (k0_pay293 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) 126#32) (k0_pay295 (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay292 (k0_pay293 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) 126#32) 4#32) r).trans ?_
  unfold ax
  simp only [hx]

include hx in
theorem gmax3 (r : Fin 32) : rowmax (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1) r = ax (x ⟨96 + r.val, by omega⟩) := by
  refine (max7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 (k0_pay306 (F := Ideal) (k0_pay304 (g2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay305 (g2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) r).trans ?_
  unfold ax
  simp only [hx]

include hx in
/-- The activation codes. -/
theorem val10 (l : Fin 128) (j : Fin 16384) : arg10.view.read (Elt Ideal) (B10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f10) (ix2 l j) = xc (x l) j := by
  have hl := l.isLt
  refine View.read_writes_apply_of_pieces arg10.view f10 (fun y => xc (x (y 0)) (y 1)) _ ?_ (ix2 l j) ?_
  · intro p hp
    unfold L10 at hp
    simp only [List.mem_append] at hp
    rcases hp with hp | hp | hp | hp
    · refine pieces8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 (BitVec.ofNat 32 (i 0).val) (k0_pay320 (F := Ideal) (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay317 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316) (k0_pay318 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316)) (k0_pay321 (F := Ideal) (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay317 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316) (k0_pay318 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316)) (fun r => kI (ax (x ⟨96 + r.val, by omega⟩))) (fun r q => ?_) (fun y => xc (x (y 0)) (y 1)) (fun r j => ?_) p hp
      · rw [inv3, gmax3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 x hx]
      · rw [hx]; rfl
    · refine pieces6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 (k0_pay306 (F := Ideal) (k0_pay304 (g2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay305 (g2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) (fun r => kI (ax (x ⟨64 + r.val, by omega⟩))) (fun r q => ?_) (fun y => xc (x (y 0)) (y 1)) (fun r j => ?_) p hp
      · rw [inv2, gmax2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 x hx]
      · rw [hx]; rfl
    · refine pieces4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 (k0_pay298 (F := Ideal) (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay294 (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay292 (k0_pay293 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) 126#32) (k0_pay295 (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay292 (k0_pay293 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) 126#32) 4#32) (fun r => kI (ax (x ⟨32 + r.val, by omega⟩))) (fun r q => ?_) (fun y => xc (x (y 0)) (y 1)) (fun r j => ?_) p hp
      · rw [inv1, gmax1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 x hx]
      · rw [hx]; rfl
    · refine pieces2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 (k0_pay282 (F := Ideal) (k0_pay278 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay279 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay280 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) (k0_pay283 (F := Ideal) (k0_pay278 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay279 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay280 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) (fun r => kI (ax (x ⟨0 + r.val, by omega⟩))) (fun r q => ?_) (fun y => xc (x (y 0)) (y 1)) (fun r j => ?_) p hp
      · rw [inv0, gmax0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 x hx]
      · rw [hx]; rfl
  · unfold L10
    simp only [List.mem_append]
    by_cases c1 : l.val < 32
    · obtain ⟨p, hp, hm⟩ := cover2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 (k0_pay282 (F := Ideal) (k0_pay278 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay279 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay280 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) (k0_pay283 (F := Ideal) (k0_pay278 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay279 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay280 (g0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) ⟨l.val, c1⟩ j
      refine ⟨p, Or.inr (Or.inr (Or.inr hp)), ?_⟩
      convert hm using 2
      apply Fin.ext; simp only; omega
    · by_cases c2 : l.val < 64
      · obtain ⟨p, hp, hm⟩ := cover4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 (k0_pay298 (F := Ideal) (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay294 (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay292 (k0_pay293 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) 126#32) (k0_pay295 (k0_pay291 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay292 (k0_pay293 (g1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) 126#32) 4#32) ⟨l.val - 32, by omega⟩ j
        refine ⟨p, Or.inr (Or.inr (Or.inl hp)), ?_⟩
        convert hm using 2
        apply Fin.ext; simp only; omega
      · by_cases c3 : l.val < 96
        · obtain ⟨p, hp, hm⟩ := cover6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 (k0_pay306 (F := Ideal) (k0_pay304 (g2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay305 (g2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1))) ⟨l.val - 64, by omega⟩ j
          refine ⟨p, Or.inr (Or.inl hp), ?_⟩
          convert hm using 2
          apply Fin.ext; simp only; omega
        · obtain ⟨p, hp, hm⟩ := cover8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 (BitVec.ofNat 32 (i 0).val) (k0_pay320 (F := Ideal) (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay317 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316) (k0_pay318 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316)) (k0_pay321 (F := Ideal) (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) (k0_pay317 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316) (k0_pay318 (k0_pay314 (g3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1)) k0_pay315 k0_pay316)) ⟨l.val - 96, by omega⟩ j
          refine ⟨p, Or.inl hp, ?_⟩
          convert hm using 2
          apply Fin.ext; simp only; omega

include hx in
/-- The activation scales. -/
theorem valsx (l q : Fin 128) : sx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 (ix2 l q) = xs (x l) := by
  have hl := l.isLt
  have hq := q.isLt
  unfold sx View.readCov
  rw [readAt2 arg17.view _ ![0, 0] _ 0 0 rfl l q l q (by omega) (by omega)]
  refine View.read_writes_apply_of_pieces (Val := Elt Ideal) arg17.view _ (fun y => xs (x (y 0))) _ ?_ (ix2 l q) ?_
  · intro p hp y
    unfold L17 at hp
    simp only [List.mem_cons, List.not_mem_nil, or_false] at hp
    rcases hp with rfl | rfl | rfl | rfl
    · obtain ⟨a, b, rfl⟩ : ∃ (a : Fin 32) (b : Fin 128), y = ix2 a b := ⟨y 0, y 1, eq_ix2 y⟩
      simp only [emb2 (n0 := 128) (n1 := 128) ![96, 0] inb_S128x128_S32x128_96_0 96 0 rfl a b ⟨96 + a.val, by omega⟩ b rfl (by omega)]
      rw [scale3, gmax3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 x hx]
      rfl
    · obtain ⟨a, b, rfl⟩ : ∃ (a : Fin 32) (b : Fin 128), y = ix2 a b := ⟨y 0, y 1, eq_ix2 y⟩
      simp only [emb2 (n0 := 128) (n1 := 128) ![64, 0] inb_S128x128_S32x128_64_0 64 0 rfl a b ⟨64 + a.val, by omega⟩ b rfl (by omega)]
      rw [scale2, gmax2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 x hx]
      rfl
    · obtain ⟨a, b, rfl⟩ : ∃ (a : Fin 32) (b : Fin 128), y = ix2 a b := ⟨y 0, y 1, eq_ix2 y⟩
      simp only [emb2 (n0 := 128) (n1 := 128) ![32, 0] inb_S128x128_S32x128_32_0 32 0 rfl a b ⟨32 + a.val, by omega⟩ b rfl (by omega)]
      rw [scale1, gmax1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 x hx]
      rfl
    · obtain ⟨a, b, rfl⟩ : ∃ (a : Fin 32) (b : Fin 128), y = ix2 a b := ⟨y 0, y 1, eq_ix2 y⟩
      simp only [emb2 (n0 := 128) (n1 := 128) ![0, 0] inb_S128x128_S32x128_0_0 0 0 rfl a b ⟨0 + a.val, by omega⟩ b rfl (by omega)]
      rw [scale0, gmax0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 x hx]
      rfl
  · unfold L17
    by_cases c1 : l.val < 32
    · refine ⟨_, (List.mem_cons_of_mem _ (List.mem_cons_of_mem _ (List.mem_cons_of_mem _ List.mem_cons_self))), ?_⟩; exact mem2 ![0, 0] inb_S128x128_S32x128_0_0 0 0 rfl l q (by omega) (by omega) (by omega) (by omega)
    · by_cases c2 : l.val < 64
      · refine ⟨_, (List.mem_cons_of_mem _ (List.mem_cons_of_mem _ List.mem_cons_self)), ?_⟩; exact mem2 ![32, 0] inb_S128x128_S32x128_32_0 32 0 rfl l q (by omega) (by omega) (by omega) (by omega)
      · by_cases c3 : l.val < 96
        · refine ⟨_, (List.mem_cons_of_mem _ List.mem_cons_self), ?_⟩; exact mem2 ![64, 0] inb_S128x128_S32x128_64_0 64 0 rfl l q (by omega) (by omega) (by omega) (by omega)
        · refine ⟨_, List.mem_cons_self, ?_⟩; exact mem2 ![96, 0] inb_S128x128_S32x128_96_0 96 0 rfl l q (by omega) (by omega) (by omega) (by omega)

include hx h2 in
/-- The first block products. -/
theorem valP9 (s j l : Fin 128) : P9 arg2 arg10 f2 (B10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f10) s j l = a1 (x l) rT s j := by
  unfold P9 a1
  refine Finset.sum_congr rfl fun q _ => ?_
  rw [h2, val10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f10 x hx]

include hx h2 h4 in
/-- The largest scaled magnitude of the first product. -/
theorem valm9 (l : Fin 128) : colmax ((p9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10).1) l = m1 (x l) rT rs := by
  unfold p9
  rw [max9]
  unfold m1
  simp only [valP9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f10 x rT hx h2, h4]

include hx h2 in
/-- The buffer of the first products. -/
theorem val14 (s j l : Fin 128) : arg14.view.read (Elt Ideal) (B14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 f14) (ix2 ⟨132 * s.val + j.val, by omega⟩ l) = a1 (x l) rT s j := by
  unfold B14 p9
  rw [read9]
  exact valP9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f10 x rT hx h2 s j l

include hx h2 h4 in
/-- The scales of the first product. -/
theorem valsv (r : Fin 1) (l : Fin 128) : (sv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10) (ix2 r l) = vs (x l) rT rs := by
  unfold sv
  rw [vsw_apply, valsx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 x hx, valm9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 x rT rs hx h2 h4]
  rfl

include hx h2 h3 h4 in
/-- The factors of the first product's codes. -/
theorem val16 (r l : Fin 128) : arg16.view.read (Elt Ideal) (B16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f10) (ix2 r l) = rs r * (xs (x l) * kI (xs (x l) * m1 (x l) rT rs)) := by
  unfold B16 L16
  rw [read_whole, f336, readAt2 arg3.view f3 ![0, 0] _ 0 0 rfl r l r l (by omega) (by omega), h3, valsx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 x hx,
    valm9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 x rT rs hx h2 h4]

include hx h2 h3 h4 in
/-- The first product's codes. -/
theorem valV10 (s r l : Fin 128) : V10 arg14 arg16 (B14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 f14) (B16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f10) s r l = vc (x l) rT rs r s := by
  unfold V10 vc
  rw [val14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 f14 x rT hx h2, val16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f10 x rT rs hx h2 h3 h4]

include hx h2 h3 h4 h5 in
/-- The second block products. -/
theorem valP10 (s o l : Fin 128) : P10 arg5 arg14 arg16 f5 (B14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 f14) (B16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f10) s o l = a2 (x l) rT rs lT s o := by
  unfold P10 a2
  refine Finset.sum_congr rfl fun q _ => ?_
  rw [h5, valV10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f10 f14 x rT rs hx h2 h3 h4]

include hx h2 h3 h4 h5 h7 in
/-- The largest scaled magnitude of the second product. -/
theorem valm10 (l : Fin 128) : colmax ((p10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14).1) l = m2 (x l) rT rs lT ls := by
  unfold p10
  rw [max10]
  unfold m2
  simp only [valP10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f10 f14 x rT rs lT hx h2 h3 h4 h5, h7]

include hx h2 h3 h4 h5 in
/-- The buffer of the second products. -/
theorem val15 (s o l : Fin 128) : arg15.view.read (Elt Ideal) (B15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14 f15) (ix2 ⟨132 * s.val + o.val, by omega⟩ l) = a2 (x l) rT rs lT s o := by
  unfold B15 p10
  rw [read10]
  exact valP10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f10 f14 x rT rs lT hx h2 h3 h4 h5 s o l

include hx h2 h3 h4 h5 h6 h7 in
/-- The factors of the second product's codes. -/
theorem valC16 (r l : Fin 128) : arg16.view.read (Elt Ideal) (C16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f10 f14) (ix2 r l) =
    ls r * (vs (x l) rT rs * kI (vs (x l) rT rs * m2 (x l) rT rs lT ls)) := by
  unfold C16
  rw [read_whole, Cert.Proof.Value.f2, readAt2 arg6.view f6 ![0, 0] _ 0 0 rfl r l r l (by omega) (by omega), h6, valsv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 x rT rs hx h2 h4,
    valm10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14 x rT rs lT ls hx h2 h3 h4 h5 h7]

include hx h2 h3 h4 h5 h6 h7 in
/-- The second product's codes: column `128 s + r` holds row `s` of block `r`. -/
theorem val8 (l s r : Fin 128) : arg8.view.read (Elt Ideal) (B8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f10 f14 f15) (ix2 l (col s r)) = yc (x l) rT rs lT ls r s := by
  unfold B8
  rw [read8]
  unfold V11 yc
  rw [val15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14 f15 x rT rs lT hx h2 h3 h4 h5, valC16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f10 f14 x rT rs lT ls hx h2 h3 h4 h5 h6 h7]

include hx h2 h3 h4 in
/-- The first product's codes: column `128 s + r` holds row `s` of block `r`. -/
theorem val12 (l s r : Fin 128) : arg12.view.read (Elt Ideal) (B12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14 f12) (ix2 l (col s r)) = vc (x l) rT rs r s := by
  unfold B12 p10
  rw [read12]
  exact valV10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f10 f14 x rT rs hx h2 h3 h4 s r l

include hx in
/-- The row of activation scales stored. -/
theorem val11 (t : Fin 64) (ht : t.val = (i 0).val) (l : Fin 128) : arg11.view.read (Elt Ideal) (B11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f11) (ix2 t l) = xs (x l) := by
  unfold B11
  rw [read_row _ _ _ _ t ht, row326, valsx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 x hx]

theorem val11_ne (t : Fin 64) (ht : t.val ≠ (i 0).val) (l : Fin 128) : arg11.view.read (Elt Ideal) (B11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f11) (ix2 t l) = arg11.view.read (Elt Ideal) f11 (ix2 t l) :=
  read_row_ne _ _ _ _ t ht l

include hx h2 h4 in
/-- The row of the first product's scales stored. -/
theorem val13 (t : Fin 64) (ht : t.val = (i 0).val) (l : Fin 128) : arg13.view.read (Elt Ideal) (B13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 f13) (ix2 t l) = vs (x l) rT rs := by
  unfold B13
  rw [read_row _ _ _ _ t ht, valsv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 x rT rs hx h2 h4]

theorem val13_ne (t : Fin 64) (ht : t.val ≠ (i 0).val) (l : Fin 128) : arg13.view.read (Elt Ideal) (B13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 f13) (ix2 t l) = arg13.view.read (Elt Ideal) f13 (ix2 t l) :=
  read_row_ne _ _ _ _ t ht l

include hx h2 h3 h4 h5 h7 in
/-- The row of the second product's scales stored. -/
theorem val9 (t : Fin 64) (ht : t.val = (i 0).val) (l : Fin 128) : arg9.view.read (Elt Ideal) (B9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14 f9) (ix2 t l) = ys (x l) rT rs lT ls := by
  unfold B9
  rw [read_row _ _ _ _ t ht, ysw_apply, valsv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 x rT rs hx h2 h4, valm10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14 x rT rs lT ls hx h2 h3 h4 h5 h7]
  rfl

theorem val9_ne (t : Fin 64) (ht : t.val ≠ (i 0).val) (l : Fin 128) : arg9.view.read (Elt Ideal) (B9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f14 f9) (ix2 t l) = arg9.view.read (Elt Ideal) f9 (ix2 t l) :=
  read_row_ne _ _ _ _ t ht l
end

end Cert.Proof.Value
end
-- ==== Proof.StepRun.lean ====
/-
  One step of the kernel on arbitrary buffers: the inputs come back, each output holds its formula.
-/
module

public import proofs.«01_k».proof.Proof.StepValue

@[expose] public section

noncomputable section

namespace Cert.Proof.Value

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.KernelIdealFrame (Held held_of of_held)

set_option maxHeartbeats 2000000 in
/-- One step: the three code blocks are the codes of the step's tokens, the three lists of scales change in one row. -/
theorem kernelStep (c : Dev nD) (i : grid0.Coords) (arg1 : Memref sig .tc .vmem S128x16384 .bf16) (harg1 : arg1.IsWhole) (arg2 : Memref sig .tc .vmem S128x128x128 .fp8e4m3) (harg2 : arg2.IsWhole) (arg3 : Memref sig .tc .vmem S128x128 .f32) (harg3 : arg3.IsWhole) (arg4 : Memref sig .tc .smem S128 .f32) (harg4 : arg4.IsWhole) (arg5 : Memref sig .tc .vmem S128x128x128 .fp8e4m3) (harg5 : arg5.IsWhole) (arg6 : Memref sig .tc .vmem S128x128 .f32) (harg6 : arg6.IsWhole) (arg7 : Memref sig .tc .smem S128 .f32) (harg7 : arg7.IsWhole) (arg8 : Memref sig .tc .vmem S128x16384 .fp8e4m3) (harg8 : arg8.IsWhole) (arg9 : Memref sig .tc .vmem S64x128 .f32) (harg9 : arg9.IsWhole) (arg10 : Memref sig .tc .vmem S128x16384 .fp8e4m3) (harg10 : arg10.IsWhole) (arg11 : Memref sig .tc .vmem S64x128 .f32) (harg11 : arg11.IsWhole) (arg12 : Memref sig .tc .vmem S128x16384 .fp8e4m3) (harg12 : arg12.IsWhole) (arg13 : Memref sig .tc .vmem S64x128 .f32) (harg13 : arg13.IsWhole) (arg14 : Memref sig .tc .vmem S16896x128 .f32) (harg14 : arg14.IsWhole) (arg15 : Memref sig .tc .vmem S16896x128 .f32) (harg15 : arg15.IsWhole) (arg16 : Memref sig .tc .vmem S128x128 .f32) (harg16 : arg16.IsWhole) (arg17 : Memref sig .tc .vmem S128x128 .f32) (harg17 : arg17.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty)
    (x : Fin 128 → Fin 16384 → EReal) (rT : Fin 128 → Fin 128 → Fin 128 → EReal) (rs : Fin 128 → EReal)
    (lT : Fin 128 → Fin 128 → Fin 128 → EReal) (ls : Fin 128 → EReal)
    (hx : ∀ l j, (arg1.view.read (Elt Ideal) f1 : S128x16384.Idx → EReal) (ix2 l j) = x l j)
    (h2 : ∀ k j q, (arg2.view.read (Elt Ideal) f2 : S128x128x128.Idx → EReal) (ix3 k j q) = rT k j q)
    (h3 : ∀ k l, (arg3.view.read (Elt Ideal) f3 : S128x128.Idx → EReal) (ix2 k l) = rs k)
    (h4 : ∀ k, (arg4.view.read (Elt Ideal) f4 : S128.Idx → EReal) (ix1 k) = rs k)
    (h5 : ∀ k j q, (arg5.view.read (Elt Ideal) f5 : S128x128x128.Idx → EReal) (ix3 k j q) = lT k j q)
    (h6 : ∀ k l, (arg6.view.read (Elt Ideal) f6 : S128x128.Idx → EReal) (ix2 k l) = ls k)
    (h7 : ∀ k, (arg7.view.read (Elt Ideal) f7 : S128.Idx → EReal) (ix1 k) = ls k) (K : PUnit → sProp (MT nD τ sig Unit (Elt Ideal) ℕ (UR sig nD τ) ℕ)) :
    iprop(Held c arg1 f1 ∗ Held c arg2 f2 ∗ Held c arg3 f3 ∗ Held c arg4 f4 ∗ Held c arg5 f5 ∗ Held c arg6 f6 ∗ Held c arg7 f7 ∗ Held c arg8 f8 ∗ Held c arg9 f9 ∗ Held c arg10 f10 ∗ Held c arg11 f11 ∗ Held c arg12 f12 ∗ Held c arg13 f13 ∗ Held c arg14 f14 ∗ Held c arg15 f15 ∗ Held c arg16 f16 ∗ Held c arg17 f17
      ∗ (iprop(Held c arg1 f1 ∗ Held c arg2 f2 ∗ Held c arg3 f3 ∗ Held c arg4 f4 ∗ Held c arg5 f5 ∗ Held c arg6 f6 ∗ Held c arg7 f7 ∗ (∃ f, ⌜∀ l s r : Fin 128, (arg8.view.read (Elt Ideal) f : S128x16384.Idx → EReal) (ix2 l (col s r)) = yc (x l) rT rs lT ls r s⌝ ∗ Held c arg8 f) ∗ (∃ f, ⌜∀ (u : Fin 64) (l : Fin 128), (arg9.view.read (Elt Ideal) f : S64x128.Idx → EReal) (ix2 u l) = if u.val = (i 0).val then ys (x l) rT rs lT ls else (arg9.view.read (Elt Ideal) f9 : S64x128.Idx → EReal) (ix2 u l)⌝ ∗ Held c arg9 f) ∗ (∃ f, ⌜∀ (l : Fin 128) (j : Fin 16384), (arg10.view.read (Elt Ideal) f : S128x16384.Idx → EReal) (ix2 l j) = xc (x l) j⌝ ∗ Held c arg10 f) ∗ (∃ f, ⌜∀ (u : Fin 64) (l : Fin 128), (arg11.view.read (Elt Ideal) f : S64x128.Idx → EReal) (ix2 u l) = if u.val = (i 0).val then xs (x l) else (arg11.view.read (Elt Ideal) f11 : S64x128.Idx → EReal) (ix2 u l)⌝ ∗ Held c arg11 f) ∗ (∃ f, ⌜∀ l s r : Fin 128, (arg12.view.read (Elt Ideal) f : S128x16384.Idx → EReal) (ix2 l (col s r)) = vc (x l) rT rs r s⌝ ∗ Held c arg12 f) ∗ (∃ f, ⌜∀ (u : Fin 64) (l : Fin 128), (arg13.view.read (Elt Ideal) f : S64x128.Idx → EReal) (ix2 u l) = if u.val = (i 0).val then vs (x l) rT rs else (arg13.view.read (Elt Ideal) f13 : S64x128.Idx → EReal) (ix2 u l)⌝ ∗ Held c arg13 f) ∗ (∃ f, Held c arg14 f) ∗ (∃ f, Held c arg15 f) ∗ (∃ f, Held c arg16 f) ∗ (∃ f, Held c arg17 f)) -∗ K ⟨⟩))
      ⊢ wp frame (wpE (defs₀ (F := Ideal)) Variants.none c none) Set.univ (cc0_monarch i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have e8 : ∀ l s r : Fin 128, (arg8.view.read (Elt Ideal) (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17).1 : S128x16384.Idx → EReal) (ix2 l (col s r)) = yc (x l) rT rs lT ls r s := by rw [run8]; exact fun l s r => val8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f10 f14 f15 x rT rs lT ls hx h2 h3 h4 h5 h6 h7 l s r
  have e9 : ∀ (u : Fin 64) (l : Fin 128), (arg9.view.read (Elt Ideal) (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17).2.1 : S64x128.Idx → EReal) (ix2 u l) = if u.val = (i 0).val then ys (x l) rT rs lT ls else (arg9.view.read (Elt Ideal) f9 : S64x128.Idx → EReal) (ix2 u l) := by
    rw [run9]; intro u l
    by_cases hu : u.val = (i 0).val
    · rw [if_pos hu]; exact val9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f9 f10 f14 x rT rs lT ls hx h2 h3 h4 h5 h7 u hu l
    · rw [if_neg hu]; exact val9_ne c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f9 f10 f14 u hu l
  have e10 : ∀ (l : Fin 128) (j : Fin 16384), (arg10.view.read (Elt Ideal) (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17).2.2.1 : S128x16384.Idx → EReal) (ix2 l j) = xc (x l) j := by rw [run10]; exact fun l j => val10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f10 x hx l j
  have e11 : ∀ (u : Fin 64) (l : Fin 128), (arg11.view.read (Elt Ideal) (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17).2.2.2.1 : S64x128.Idx → EReal) (ix2 u l) = if u.val = (i 0).val then xs (x l) else (arg11.view.read (Elt Ideal) f11 : S64x128.Idx → EReal) (ix2 u l) := by
    rw [run11]; intro u l
    by_cases hu : u.val = (i 0).val
    · rw [if_pos hu]; exact val11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f11 x hx u hu l
    · rw [if_neg hu]; exact val11_ne c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f11 u hu l
  have e12 : ∀ l s r : Fin 128, (arg12.view.read (Elt Ideal) (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17).2.2.2.2.1 : S128x16384.Idx → EReal) (ix2 l (col s r)) = vc (x l) rT rs r s := by rw [run12]; exact fun l s r => val12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f7 f10 f12 f14 x rT rs hx h2 h3 h4 l s r
  have e13 : ∀ (u : Fin 64) (l : Fin 128), (arg13.view.read (Elt Ideal) (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17).2.2.2.2.2.1 : S64x128.Idx → EReal) (ix2 u l) = if u.val = (i 0).val then vs (x l) rT rs else (arg13.view.read (Elt Ideal) f13 : S64x128.Idx → EReal) (ix2 u l) := by
    rw [run13]; intro u l
    by_cases hu : u.val = (i 0).val
    · rw [if_pos hu]; exact val13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 f13 x rT rs hx h2 h4 u hu l
    · rw [if_neg hu]; exact val13_ne c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f4 f10 f13 u hu l
  have hrun := (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17).2.2.2.2.2.2.2.2.2.2 K
  refine BIBase.Entails.trans ?_ hrun
  iintro ⟨H1, H2, H3, H4, H5, H6, H7, H8, H9, H10, H11, H12, H13, H14, H15, H16, H17, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, H15, H16, H17⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact e13
  isplitl [H14]; · iexists _; iexact H14
  isplitl [H15]; · iexists _; iexact H15
  isplitl [H16]; · iexists _; iexact H16
  iexists _; iexact H17

end Cert.Proof.Value
-- ==== Proof.Inputs.lean ====
/-
  The arguments at an index: what the region finds in the arrays the host operations prepared, and in each block.
-/
module

public import proofs.«01_k».proof.Proof.Gen.KernelIdeal.Frame
public import proofs.«01_k».proof.Proof.Spec
public import Idealize.ShloMosaic.Lib.Pointwise
public import Idealize.ShloMosaic.Lib.StableHlo.Run
public import Idealize.ShloMosaic.Lib.Pipeline.ValueKit

@[expose] public section

noncomputable section

namespace Cert.Proof.Value

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The activations of token `T`. -/
def tokRow (a0 : S2x4096x16384.Idx → EReal) (T : Fin 8192) (j : Fin 16384) : EReal :=
  a0 (ix3 ⟨T.val / 4096, by omega⟩ ⟨T.val % 4096, by omega⟩ j)

/-- The block weights, output index before input index. -/
def wT (a : S128x128x128.Idx → EReal) (k j i : Fin 128) : EReal := a (ix3 k i j)

/-- The weight scales. -/
def wS (a : S128.Idx → EReal) (k : Fin 128) : EReal := a (ix1 k)

/-- Token `l` of point `t`. -/
def tok (t : Fin 64) (l : Fin 128) : Fin 8192 := ⟨128 * t.val + l.val, by omega⟩

variable (m : (ℓ : Loc nD τ sig) → Buf (Elt Ideal) ℓ) (c : Dev nD)

theorem V_v0 (n : Fin 8192) (j : Fin 16384) :
    (V m c main_v0 : S8192x16384.Idx → EReal) (ix2 n j) = tokRow (m ((c : Thread nD τ).loc main_arg0)) n j := by
  have h : V m c main_v0 = (shapeCast S8192x16384 · shapeCasts_S2x4096x16384_S8192x16384) (m ((c : Thread nD τ).loc main_arg0)) := by
    show StableHlo.after hostOps0 _ (Proc.devRef .tc main_v0) = _
    after_results
    try rfl
  rw [h]
  unfold tokRow
  pointwise []

theorem V_v1 (k j i : Fin 128) :
    (V m c main_v1 : S128x128x128.Idx → EReal) (ix3 k j i) = wT (m ((c : Thread nD τ).loc main_arg1)) k j i := by
  have h : V m c main_v1 = (transpose S128x128x128 [0, 2, 1] · transposes_S128x128x128_S128x128x128_0_2_1) (m ((c : Thread nD τ).loc main_arg1)) := by
    show StableHlo.after hostOps0 _ (Proc.devRef .tc main_v1) = _
    after_results
    try rfl
  rw [h]
  unfold wT
  pointwise []

theorem V_v3 (k l : Fin 128) :
    (V m c main_v3 : S128x128.Idx → EReal) (ix2 k l) = wS (m ((c : Thread nD τ).loc main_arg2)) k := by
  have h : V m c main_v3 = broadcastInDim S128x128 ![0, 1] bcast_S128x1_S128x128_0_1 (broadcastInDim S128x1 ![0] bcast_S128_S128x1_0 (m ((c : Thread nD τ).loc main_arg2))) := by
    show StableHlo.after hostOps0 _ (Proc.devRef .tc main_v3) = _
    after_results
    try rfl
  rw [h]
  unfold wS
  pointwise []

theorem V_v4 (k j i : Fin 128) :
    (V m c main_v4 : S128x128x128.Idx → EReal) (ix3 k j i) = wT (m ((c : Thread nD τ).loc main_arg3)) k j i := by
  have h : V m c main_v4 = (transpose S128x128x128 [0, 2, 1] · transposes_S128x128x128_S128x128x128_0_2_1) (m ((c : Thread nD τ).loc main_arg3)) := by
    show StableHlo.after hostOps0 _ (Proc.devRef .tc main_v4) = _
    after_results
    try rfl
  rw [h]
  unfold wT
  pointwise []

theorem V_v6 (k l : Fin 128) :
    (V m c main_v6 : S128x128.Idx → EReal) (ix2 k l) = wS (m ((c : Thread nD τ).loc main_arg4)) k := by
  have h : V m c main_v6 = broadcastInDim S128x128 ![0, 1] bcast_S128x1_S128x128_0_1 (broadcastInDim S128x1 ![0] bcast_S128_S128x1_0 (m ((c : Thread nD τ).loc main_arg4))) := by
    show StableHlo.after hostOps0 _ (Proc.devRef .tc main_v6) = _
    after_results
    try rfl
  rw [h]
  unfold wS
  pointwise []

theorem V_a2 (k : Fin 128) :
    (V m c main_arg2 : S128.Idx → EReal) (ix1 k) = wS (m ((c : Thread nD τ).loc main_arg2)) k :=
  congrFun (V_main_arg2 m c) (ix1 k)

theorem V_a4 (k : Fin 128) :
    (V m c main_arg4 : S128.Idx → EReal) (ix1 k) = wS (m ((c : Thread nD τ).loc main_arg4)) k :=
  congrFun (V_main_arg4 m c) (ix1 k)

theorem iblk0 (t : Fin 64) (l : Fin 128) (j : Fin 16384) :
    (iblk m c 0 t : S128x16384.Idx → EReal) (ix2 l j) = tokRow (m ((c : Thread nD τ).loc main_arg0)) (tok t l) j := by
  rw [← V_v0 m c (tok t l) j]
  unfold iblk
  have e : ∀ t : Fin cfg0.N, win0_0.index t = ![t.val, 0] := (by decide +kernel : ∀ t : Fin grid0.N, _)
  have e0 : win0_0.index t 0 = t.val := congrFun (e t) 0
  have e1 : win0_0.index t 1 = 0 := congrFun (e t) 1
  show (V m c main_v0 : S8192x16384.Idx → EReal) ((win0_0.blk t).view.emb (ix2 l j)) = _
  congr 1
  unfold tok
  blk_ext [e0, e1] <;> omega

theorem iblk1 (t : Fin 64) (k j i : Fin 128) :
    (iblk m c 1 t : S128x128x128.Idx → EReal) (ix3 k j i) = wT (m ((c : Thread nD τ).loc main_arg1)) k j i := by
  rw [← V_v1 m c k j i]
  unfold iblk
  have e : ∀ t : Fin cfg0.N, win0_1.index t = ![0, 0, 0] := (by decide +kernel : ∀ t : Fin grid0.N, _)
  have e0 : win0_1.index t 0 = 0 := congrFun (e t) 0
  have e1 : win0_1.index t 1 = 0 := congrFun (e t) 1
  have e2 : win0_1.index t 2 = 0 := congrFun (e t) 2
  show (V m c main_v1 : S128x128x128.Idx → EReal) ((win0_1.blk t).view.emb (ix3 k j i)) = _
  congr 1
  blk_ext [e0, e1, e2] <;> omega

theorem iblk2 (t : Fin 64) (k l : Fin 128) :
    (iblk m c 2 t : S128x128.Idx → EReal) (ix2 k l) = wS (m ((c : Thread nD τ).loc main_arg2)) k := by
  rw [← V_v3 m c k l]
  unfold iblk
  have e : ∀ t : Fin cfg0.N, win0_2.index t = ![0, 0] := (by decide +kernel : ∀ t : Fin grid0.N, _)
  have e0 : win0_2.index t 0 = 0 := congrFun (e t) 0
  have e1 : win0_2.index t 1 = 0 := congrFun (e t) 1
  show (V m c main_v3 : S128x128.Idx → EReal) ((win0_2.blk t).view.emb (ix2 k l)) = _
  congr 1
  blk_ext [e0, e1] <;> omega

theorem iblk3 (t : Fin 64) (k : Fin 128) :
    (iblk m c 3 t : S128.Idx → EReal) (ix1 k) = wS (m ((c : Thread nD τ).loc main_arg2)) k := by
  rw [← V_a2 m c k]
  unfold iblk
  have e : ∀ t : Fin cfg0.N, win0_3.index t = ![0] := (by decide +kernel : ∀ t : Fin grid0.N, _)
  have e0 : win0_3.index t 0 = 0 := congrFun (e t) 0
  show (V m c main_arg2 : S128.Idx → EReal) ((win0_3.blk t).view.emb (ix1 k)) = _
  congr 1
  blk_ext [e0] <;> omega

theorem iblk4 (t : Fin 64) (k j i : Fin 128) :
    (iblk m c 4 t : S128x128x128.Idx → EReal) (ix3 k j i) = wT (m ((c : Thread nD τ).loc main_arg3)) k j i := by
  rw [← V_v4 m c k j i]
  unfold iblk
  have e : ∀ t : Fin cfg0.N, win0_4.index t = ![0, 0, 0] := (by decide +kernel : ∀ t : Fin grid0.N, _)
  have e0 : win0_4.index t 0 = 0 := congrFun (e t) 0
  have e1 : win0_4.index t 1 = 0 := congrFun (e t) 1
  have e2 : win0_4.index t 2 = 0 := congrFun (e t) 2
  show (V m c main_v4 : S128x128x128.Idx → EReal) ((win0_4.blk t).view.emb (ix3 k j i)) = _
  congr 1
  blk_ext [e0, e1, e2] <;> omega

theorem iblk5 (t : Fin 64) (k l : Fin 128) :
    (iblk m c 5 t : S128x128.Idx → EReal) (ix2 k l) = wS (m ((c : Thread nD τ).loc main_arg4)) k := by
  rw [← V_v6 m c k l]
  unfold iblk
  have e : ∀ t : Fin cfg0.N, win0_5.index t = ![0, 0] := (by decide +kernel : ∀ t : Fin grid0.N, _)
  have e0 : win0_5.index t 0 = 0 := congrFun (e t) 0
  have e1 : win0_5.index t 1 = 0 := congrFun (e t) 1
  show (V m c main_v6 : S128x128.Idx → EReal) ((win0_5.blk t).view.emb (ix2 k l)) = _
  congr 1
  blk_ext [e0, e1] <;> omega

theorem iblk6 (t : Fin 64) (k : Fin 128) :
    (iblk m c 6 t : S128.Idx → EReal) (ix1 k) = wS (m ((c : Thread nD τ).loc main_arg4)) k := by
  rw [← V_a4 m c k]
  unfold iblk
  have e : ∀ t : Fin cfg0.N, win0_6.index t = ![0] := (by decide +kernel : ∀ t : Fin grid0.N, _)
  have e0 : win0_6.index t 0 = 0 := congrFun (e t) 0
  show (V m c main_arg4 : S128.Idx → EReal) ((win0_6.blk t).view.emb (ix1 k)) = _
  congr 1
  blk_ext [e0] <;> omega

end Cert.Proof.Value
-- ==== Proof.IdealRun.lean ====
/-
  The kernel over the reals runs, and what it leaves in its results: one relation per step and result.
-/
module

public import proofs.«01_k».proof.Proof.StepRun
public import proofs.«01_k».proof.Proof.Inputs

@[expose] public section

noncomputable section

namespace Cert.Proof.Value

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window cellOf)
open Cert.Proof.KernelIdealFrame (Held held_of of_held defs₀_row)

variable (m : (ℓ : Loc nD τ sig) → Buf (Elt Ideal) ℓ) (ρ : Dev nD → PrngReg)

/-- The scales of token `T`: the first quantisation. -/
def xsA (c : Dev nD) (T : Fin 8192) : EReal := xs (tokRow (m ((c : Thread nD τ).loc main_arg0)) T)
/-- The second quantisation. -/
def vsA (c : Dev nD) (T : Fin 8192) : EReal := vs (tokRow (m ((c : Thread nD τ).loc main_arg0)) T) (wT (m ((c : Thread nD τ).loc main_arg1))) (wS (m ((c : Thread nD τ).loc main_arg2)))
/-- The third quantisation. -/
def ysA (c : Dev nD) (T : Fin 8192) : EReal := ys (tokRow (m ((c : Thread nD τ).loc main_arg0)) T) (wT (m ((c : Thread nD τ).loc main_arg1))) (wS (m ((c : Thread nD τ).loc main_arg2))) (wT (m ((c : Thread nD τ).loc main_arg3))) (wS (m ((c : Thread nD τ).loc main_arg4)))
/-- The codes of token `T`: the first quantisation. -/
def xcA (c : Dev nD) (T : Fin 8192) (j : Fin 16384) : EReal := xc (tokRow (m ((c : Thread nD τ).loc main_arg0)) T) j
/-- The second quantisation: row `s` of block `r`, which column `128 s + r` holds. -/
def vcA (c : Dev nD) (T : Fin 8192) (s r : Fin 128) : EReal := vc (tokRow (m ((c : Thread nD τ).loc main_arg0)) T) (wT (m ((c : Thread nD τ).loc main_arg1))) (wS (m ((c : Thread nD τ).loc main_arg2))) r s
/-- The third quantisation: row `s` of block `r`, which column `128 s + r` holds. -/
def ycA (c : Dev nD) (T : Fin 8192) (s r : Fin 128) : EReal := yc (tokRow (m ((c : Thread nD τ).loc main_arg0)) T) (wT (m ((c : Thread nD τ).loc main_arg1))) (wS (m ((c : Thread nD τ).loc main_arg2))) (wT (m ((c : Thread nD τ).loc main_arg3))) (wS (m ((c : Thread nD τ).loc main_arg4))) r s

/-- A block of the third quantisation's codes. -/
def Out7 (c : Dev nD) (t : Fin 64) (X : S128x16384.Idx → EReal) : Prop :=
  ∀ l s r : Fin 128, X (ix2 l (col s r)) = ycA m c (tok t l) s r
/-- A block of the first quantisation's codes. -/
def Out9 (c : Dev nD) (t : Fin 64) (X : S128x16384.Idx → EReal) : Prop :=
  ∀ (l : Fin 128) (j : Fin 16384), X (ix2 l j) = xcA m c (tok t l) j
/-- A block of the second quantisation's codes. -/
def Out11 (c : Dev nD) (t : Fin 64) (X : S128x16384.Idx → EReal) : Prop :=
  ∀ l s r : Fin 128, X (ix2 l (col s r)) = vcA m c (tok t l) s r
/-- Row `t` of a list of scales is written, the other rows stay. -/
def Row (g : Fin 8192 → EReal) (t : Fin 64) (Y X : S64x128.Idx → EReal) : Prop :=
  ∀ (u : Fin 64) (l : Fin 128), X (ix2 u l) = if u.val = t.val then g (tok t l) else Y (ix2 u l)

/-- The proof data: the arrays as the region finds them; the body leaves each input's buffer as it found it, each
    block of codes at its formula, and writes one row of each list of scales. -/
def rdat (c : Dev nD) : RDat τ (Elt Ideal) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun t _ X => Out7 m c t X
    | ⟨8, _⟩ => fun t Y X => Row (ysA m c) t Y X
    | ⟨9, _⟩ => fun t _ X => Out9 m c t X
    | ⟨10, _⟩ => fun t Y X => Row (xsA m c) t Y X
    | ⟨11, _⟩ => fun t _ X => Out11 m c t X
    | ⟨12, _⟩ => fun t Y X => Row (vsA m c) t Y X
  Φ _ := Pipeline.ΦA spec0 c
  q _ := fullShare
  owed _ := 0

theorem A_eq (c : Dev nD) (w : Fin cfg0.W) : (rdat m c).A w = V m c (Pipeline.arrRef spec0 w) := by dsimp only [rdat]

/-- The grid's only coordinate is the point. -/
theorem coord_eq : ∀ t : Fin cfg0.N, (grid0.coords t 0).val = t.val := (by decide +kernel : ∀ t : Fin grid0.N, _)

set_option maxHeartbeats 4000000 in
/-- The body at any point, from the buffers it is handed, the inputs holding their blocks. -/
theorem sound_body (c : Dev nD) (t : Fin cfg0.N) (Y : (w : Fin cfg0.W) → (cfg0.win w).block.Idx → Elt Ideal (cfg0.win w).elt)
    (y0 : Y 0 = iblk m c 0 t) (y1 : Y 1 = iblk m c 1 t) (y2 : Y 2 = iblk m c 2 t) (y3 : Y 3 = iblk m c 3 t)
    (y4 : Y 4 = iblk m c 4 t) (y5 : Y 5 = iblk m c 5 t) (y6 : Y 6 = iblk m c 6 t) :
    iprop((rdat m c).Φ t.castSucc ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12))
    ⊢ wp frame (wpE (defs₀ (F := Ideal)) Variants.none c none) Set.univ (bodyAt0 t) (fun _ =>
      iprop((rdat m c).Φ t.succ ∗ (rdat m c).owesAt () t.succ ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X) ∗ (∃ X, ⌜(rdat m c).after 9 t (Y 9) X⌝ ∗ owns (c : Thread nD τ) (st0_9 t) fullShare X) ∗ (∃ X, ⌜(rdat m c).after 10 t (Y 10) X⌝ ∗ owns (c : Thread nD τ) (st0_10 t) fullShare X) ∗ (∃ X, ⌜(rdat m c).after 11 t (Y 11) X⌝ ∗ owns (c : Thread nD τ) (st0_11 t) fullShare X) ∗ (∃ X, ⌜(rdat m c).after 12 t (Y 12) X⌝ ∗ owns (c : Thread nD τ) (st0_12 t) fullShare X))) := by
  unfold bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl]
  have hi := coord_eq t
  unfold Pipeline.ΦA owns
  rw [scopedRest0_eq]
  iintro ⟨⟨⟨⟨%f14, H14⟩, ⟨%f15, H15⟩, ⟨%f16, H16⟩, ⟨%f17, H17⟩⟩, Hg⟩, Ho, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  iapply (kernelStep c _ _ _ _ _ _ _ _ _ _ _ _ _ _ _ _ _ _ _ _ _ _ _ _ _ _ _ _ _ _ _ _ _ _ _ f1 f2 f3 f4 f5 f6 f7 f8 f9 f10 f11 f12 f13 f14 f15 f16 f17
    (fun l j => tokRow (m ((c : Thread nD τ).loc main_arg0)) (tok t l) j) (wT (m ((c : Thread nD τ).loc main_arg1))) (wS (m ((c : Thread nD τ).loc main_arg2))) (wT (m ((c : Thread nD τ).loc main_arg3))) (wS (m ((c : Thread nD τ).loc main_arg4)))
    (fun l j => (congrFun (hf1.trans y0) (ix2 l j)).trans (iblk0 m c t l j))
    (fun k j q => (congrFun (hf2.trans y1) (ix3 k j q)).trans (iblk1 m c t k j q))
    (fun k l => (congrFun (hf3.trans y2) (ix2 k l)).trans (iblk2 m c t k l))
    (fun k => (congrFun (hf4.trans y3) (ix1 k)).trans (iblk3 m c t k))
    (fun k j q => (congrFun (hf5.trans y4) (ix3 k j q)).trans (iblk4 m c t k j q))
    (fun k l => (congrFun (hf6.trans y5) (ix2 k l)).trans (iblk5 m c t k l))
    (fun k => (congrFun (hf7.trans y6) (ix1 k)).trans (iblk6 m c t k)) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (held_of c _ _); iexact H14
  isplitl [H15]; · iapply (held_of c _ _); iexact H15
  isplitl [H16]; · iapply (held_of c _ _); iexact H16
  isplitl [H17]; · iapply (held_of c _ _); iexact H17
  iintro ⟨H1, H2, H3, H4, H5, H6, H7, ⟨%g8, %e8, H8⟩, ⟨%g9, %e9, H9⟩, ⟨%g10, %e10, H10⟩, ⟨%g11, %e11, H11⟩, ⟨%g12, %e12, H12⟩, ⟨%g13, %e13, H13⟩, ⟨%g14, H14⟩, ⟨%g15, H15⟩, ⟨%g16, H16⟩, ⟨%g17, H17⟩⟩
  isplitl [H14 H15 H16 H17 Hg]
  · isplitl [H14 H15 H16 H17]
    · isplitl [H14]; · iexists _; iapply (of_held c _ _); iexact H14
      isplitl [H15]; · iexists _; iapply (of_held c _ _); iexact H15
      isplitl [H16]; · iexists _; iapply (of_held c _ _); iexact H16
      iexists _; iapply (of_held c _ _); iexact H17
    iexact Hg
  isplitl [Ho]; · iexact Ho
  isplitl [H1]
  · iexists (Y 0); isplitr; · ipureintro; rfl
    iexists f1; isplitr; · ipureintro; exact hf1
    iexact H1
  isplitl [H2]
  · iexists (Y 1); isplitr; · ipureintro; rfl
    iexists f2; isplitr; · ipureintro; exact hf2
    iexact H2
  isplitl [H3]
  · iexists (Y 2); isplitr; · ipureintro; rfl
    iexists f3; isplitr; · ipureintro; exact hf3
    iexact H3
  isplitl [H4]
  · iexists (Y 3); isplitr; · ipureintro; rfl
    iexists f4; isplitr; · ipureintro; exact hf4
    iexact H4
  isplitl [H5]
  · iexists (Y 4); isplitr; · ipureintro; rfl
    iexists f5; isplitr; · ipureintro; exact hf5
    iexact H5
  isplitl [H6]
  · iexists (Y 5); isplitr; · ipureintro; rfl
    iexists f6; isplitr; · ipureintro; exact hf6
    iexact H6
  isplitl [H7]
  · iexists (Y 6); isplitr; · ipureintro; rfl
    iexists f7; isplitr; · ipureintro; exact hf7
    iexact H7
  isplitl [H8]
  · iexists _; isplitr; swap
    · iexists _; isplitr; swap; · iexact H8
      ipureintro; rfl
    ipureintro; exact e8
  isplitl [H9]
  · iexists _; isplitr; swap
    · iexists _; isplitr; swap; · iexact H9
      ipureintro; rfl
    ipureintro; intro u l; refine (e9 u l).trans ?_; rw [hi, ← hf9]; rfl
  isplitl [H10]
  · iexists _; isplitr; swap
    · iexists _; isplitr; swap; · iexact H10
      ipureintro; rfl
    ipureintro; exact e10
  isplitl [H11]
  · iexists _; isplitr; swap
    · iexists _; isplitr; swap; · iexact H11
      ipureintro; rfl
    ipureintro; intro u l; refine (e11 u l).trans ?_; rw [hi, ← hf11]; rfl
  isplitl [H12]
  · iexists _; isplitr; swap
    · iexists _; isplitr; swap; · iexact H12
      ipureintro; rfl
    ipureintro; exact e12
  iexists _; isplitr; swap
  · iexists _; isplitr; swap; · iexact H13
    ipureintro; rfl
  ipureintro; intro u l; refine (e13 u l).trans ?_; rw [hi, ← hf13]; rfl

/-- Every input buffer the body is handed holds its block. -/
theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun t Y X h => h) t Y h
  unfold RDat.fetched RDat.blockOf iblk; rw [A_eq]; try rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun t Y X h => h) t Y h
  unfold RDat.fetched RDat.blockOf iblk; rw [A_eq]; try rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun t Y X h => h) t Y h
  unfold RDat.fetched RDat.blockOf iblk; rw [A_eq]; try rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun t Y X h => h) t Y h
  unfold RDat.fetched RDat.blockOf iblk; rw [A_eq]; try rfl
theorem finds4 (c : Dev nD) (t : Fin cfg0.N) (Y) (h : (rdat m c).Finds 4 t Y) : Y = iblk m c 4 t := by
  obtain ⟨d, rfl⟩ := (rdat m c).finds_in_eq_fetched 4 rfl (fun _ _ _ => rfl) (fun t Y X h => h) t Y h
  unfold RDat.fetched RDat.blockOf iblk; rw [A_eq]; try rfl
theorem finds5 (c : Dev nD) (t : Fin cfg0.N) (Y) (h : (rdat m c).Finds 5 t Y) : Y = iblk m c 5 t := by
  obtain ⟨d, rfl⟩ := (rdat m c).finds_in_eq_fetched 5 rfl (fun _ _ _ => rfl) (fun t Y X h => h) t Y h
  unfold RDat.fetched RDat.blockOf iblk; rw [A_eq]; try rfl
theorem finds6 (c : Dev nD) (t : Fin cfg0.N) (Y) (h : (rdat m c).Finds 6 t Y) : Y = iblk m c 6 t := by
  obtain ⟨d, rfl⟩ := (rdat m c).finds_in_eq_fetched 6 rfl (fun _ _ _ => rfl) (fun t Y X h => h) t Y h
  unfold RDat.fetched RDat.blockOf iblk; rw [A_eq]; try rfl

/-- The pipeline's obligation on the body. -/
theorem body_obligation (c : Dev nD) : (rdat m c).BodyObligation (defs₀ (F := Ideal)) Variants.none () Set.univ := fun t Y hY => by
  rw [bigSep_W0, bigSep_W0, defs₀_row]
  exact triple_restated (sound_body m c t Y (finds0 m c t _ (hY 0)) (finds1 m c t _ (hY 1)) (finds2 m c t _ (hY 2))
    (finds3 m c t _ (hY 3)) (finds4 m c t _ (hY 4)) (finds5 m c t _ (hY 5)) (finds6 m c t _ (hY 6))) rfl .rfl fun _ => .rfl

set_option backward.isDefEq.respectTransparency.types false in
/-- Every execution terminates in a memory the relations describe. -/
theorem run_main :
    θ_run defs (onTc (τ := τ) (main (F := Ideal))) (s₀ m ρ)
      (fun r => RDat.FramePost (cfgs 0) (rdat m) (V m) r ∧ r.2.sem = fun _ => 0) :=
  RDat.θ_run_frame (Q' := _) cfgs (0 : Fin 1) launch0 defs₀ Variants.none (rdat m) m ρ main
    (hbody := body_obligation m) (hshare := fun c w => by dsimp only [RDat.share, rdat]; exact ite_self _)
    (howed := fun _ _ => rfl) (V := V m) (hmain := hmain m Variants.none) (hA := A_eq m) (hΦ := fun _ _ => rfl)

end Cert.Proof.Value
-- ==== Proof.KernelValue.lean ====
/-
  What the kernel over the reals leaves in its six results.
-/
module

public import proofs.«01_k».proof.Proof.IdealRun
public import Idealize.ShloMosaic.Lib.Pipeline.ArrRel

@[expose] public section

noncomputable section

namespace Cert.Proof.Value

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window cellOf)

variable (m : (ℓ : Loc nD τ sig) → Buf (Elt Ideal) ℓ) (ρ : Dev nD → PrngReg)

/-- The last point. -/
def last : Fin cfg0.N := (⟨63, by decide⟩ : Fin grid0.N)

/-- The block of a column. -/
def qcol (j : Fin 16384) : Fin 128 := ⟨j.val / 128, by omega⟩
/-- The column within its block. -/
def rcol (j : Fin 16384) : Fin 128 := ⟨j.val % 128, by omega⟩

theorem col_qr (j : Fin 16384) : col (qcol j) (rcol j) = j := by
  apply Fin.ext; simp only [col, qcol, rcol]; omega

/-- The codes of the third quantisation, as an array. -/
def G7 (c : Dev nD) : S8192x16384.Idx → EReal := fun y => ycA m c (y 0) (qcol (y 1)) (rcol (y 1))
/-- The codes of the first quantisation, as an array. -/
def G9 (c : Dev nD) : S8192x16384.Idx → EReal := fun y => xcA m c (y 0) (y 1)
/-- The codes of the second quantisation, as an array. -/
def G11 (c : Dev nD) : S8192x16384.Idx → EReal := fun y => vcA m c (y 0) (qcol (y 1)) (rcol (y 1))
/-- Scales, as an array of rows of tokens. -/
def GS (g : Fin 8192 → EReal) : S64x128.Idx → EReal := fun y => g (tok (y 0) (y 1))

theorem block7 (c : Dev nD) (t : Fin cfg0.N) (X : S128x16384.Idx → EReal) (hX : Out7 m c t X) (l : Fin 128) (j : Fin 16384) :
    X (ix2 l j) = G7 m c (ix2 (tok t l) j) := by
  show _ = ycA m c _ _ _
  exact (congrArg (fun q => X (ix2 l q)) (col_qr j)).symm.trans (hX l (qcol j) (rcol j))

/-- The blocks of window 7 together are the array. -/
theorem result7 (c : Dev nD) (after : (w' : Fin cfg0.W) → Fin cfg0.N → (cfg0.win w').block.Idx → Elt Ideal (cfg0.win w').elt)
    (hL : ∀ u : Fin cfg0.N, (cfg0.win 7).flush u = true → (rdat m c).Leaves 7 u (after 7 u)) :
    ((rdat m c).withAfter after).arrAt 7 cfg0.N = G7 m c := by
  refine Dat.arrAt_eq_of_covers _ 7 _ (by decide +kernel) fun t hf y => ?_
  obtain ⟨Y, -, hR⟩ := hL t hf
  have e : ∀ t : Fin cfg0.N, win0_7.index t = ![t.val, 0] := (by decide +kernel : ∀ t : Fin grid0.N, _)
  have e0 : win0_7.index t 0 = t.val := congrFun (e t) 0
  have e1 : win0_7.index t 1 = 0 := congrFun (e t) 1
  rw [RDat.withAfter_after]
  have key := block7 m c t (after 7 t) hR (y 0) (y 1)
  refine Eq.trans ?_ (key.trans ?_)
  · exact congrArg (after 7 t) (eq_ix2 (n0 := 128) (n1 := 16384) y)
  · refine congrArg (G7 m c) ?_
    unfold tok
    blk_ext [e0, e1] <;> omega

theorem block9 (c : Dev nD) (t : Fin cfg0.N) (X : S128x16384.Idx → EReal) (hX : Out9 m c t X) (l : Fin 128) (j : Fin 16384) :
    X (ix2 l j) = G9 m c (ix2 (tok t l) j) := by
  show _ = xcA m c _ _
  exact hX l j

/-- The blocks of window 9 together are the array. -/
theorem result9 (c : Dev nD) (after : (w' : Fin cfg0.W) → Fin cfg0.N → (cfg0.win w').block.Idx → Elt Ideal (cfg0.win w').elt)
    (hL : ∀ u : Fin cfg0.N, (cfg0.win 9).flush u = true → (rdat m c).Leaves 9 u (after 9 u)) :
    ((rdat m c).withAfter after).arrAt 9 cfg0.N = G9 m c := by
  refine Dat.arrAt_eq_of_covers _ 9 _ (by decide +kernel) fun t hf y => ?_
  obtain ⟨Y, -, hR⟩ := hL t hf
  have e : ∀ t : Fin cfg0.N, win0_9.index t = ![t.val, 0] := (by decide +kernel : ∀ t : Fin grid0.N, _)
  have e0 : win0_9.index t 0 = t.val := congrFun (e t) 0
  have e1 : win0_9.index t 1 = 0 := congrFun (e t) 1
  rw [RDat.withAfter_after]
  have key := block9 m c t (after 9 t) hR (y 0) (y 1)
  refine Eq.trans ?_ (key.trans ?_)
  · exact congrArg (after 9 t) (eq_ix2 (n0 := 128) (n1 := 16384) y)
  · refine congrArg (G9 m c) ?_
    unfold tok
    blk_ext [e0, e1] <;> omega

theorem block11 (c : Dev nD) (t : Fin cfg0.N) (X : S128x16384.Idx → EReal) (hX : Out11 m c t X) (l : Fin 128) (j : Fin 16384) :
    X (ix2 l j) = G11 m c (ix2 (tok t l) j) := by
  show _ = vcA m c _ _ _
  exact (congrArg (fun q => X (ix2 l q)) (col_qr j)).symm.trans (hX l (qcol j) (rcol j))

/-- The blocks of window 11 together are the array. -/
theorem result11 (c : Dev nD) (after : (w' : Fin cfg0.W) → Fin cfg0.N → (cfg0.win w').block.Idx → Elt Ideal (cfg0.win w').elt)
    (hL : ∀ u : Fin cfg0.N, (cfg0.win 11).flush u = true → (rdat m c).Leaves 11 u (after 11 u)) :
    ((rdat m c).withAfter after).arrAt 11 cfg0.N = G11 m c := by
  refine Dat.arrAt_eq_of_covers _ 11 _ (by decide +kernel) fun t hf y => ?_
  obtain ⟨Y, -, hR⟩ := hL t hf
  have e : ∀ t : Fin cfg0.N, win0_11.index t = ![t.val, 0] := (by decide +kernel : ∀ t : Fin grid0.N, _)
  have e0 : win0_11.index t 0 = t.val := congrFun (e t) 0
  have e1 : win0_11.index t 1 = 0 := congrFun (e t) 1
  rw [RDat.withAfter_after]
  have key := block11 m c t (after 11 t) hR (y 0) (y 1)
  refine Eq.trans ?_ (key.trans ?_)
  · exact congrArg (after 11 t) (eq_ix2 (n0 := 128) (n1 := 16384) y)
  · refine congrArg (G11 m c) ?_
    unfold tok
    blk_ext [e0, e1] <;> omega

/-- After point `t` the rows of scales up to `t` are written. -/
theorem leaves8 (c : Dev nD) : ∀ (n : ℕ) (t : Fin cfg0.N) (X : S64x128.Idx → EReal), t.val = n → (rdat m c).Leaves 8 t X →
    ∀ (u : Fin 64) (l : Fin 128), u.val ≤ n → X (ix2 u l) = ysA m c (tok u l) := by
  have hfetch : ∀ t : Fin cfg0.N, (cfg0.win 8).fetch t = false := (by decide +kernel : ∀ t : Fin grid0.N, _)
  have hflush : ∀ t : Fin cfg0.N, (cfg0.win 8).flush t = true → t.val = 63 := (by decide +kernel : ∀ t : Fin grid0.N, _)
  intro n
  induction n with
  | zero =>
    rintro t X ht ⟨Y, -, hR⟩ u l hu
    have hR' : Row (ysA m c) t Y X := hR
    have hut : u = t := Fin.ext (by omega)
    subst hut
    rw [hR' u l, if_pos rfl]
  | succ n ih =>
    rintro t X ht ⟨Y, hY, hR⟩ u l hu
    have hR' : Row (ysA m c) t Y X := hR
    by_cases hut : u.val = t.val
    · obtain rfl : u = t := Fin.ext hut
      rw [hR' u l, if_pos rfl]
    · rw [hR' u l, if_neg hut]
      rcases ((rdat m c).finds_of_pos (hfetch t) (by omega) Y).mp hY with hfl | hl
      · have := hflush _ hfl
        have h64 : t.val < 64 := t.isLt
        simp only at this
        omega
      · exact ih _ Y (by simp only; omega) hl u l (by omega)

/-- The list of scales of window 8. -/
theorem result8 (c : Dev nD) (after : (w' : Fin cfg0.W) → Fin cfg0.N → (cfg0.win w').block.Idx → Elt Ideal (cfg0.win w').elt)
    (hL : ∀ u : Fin cfg0.N, (cfg0.win 8).flush u = true → (rdat m c).Leaves 8 u (after 8 u)) :
    ((rdat m c).withAfter after).arrAt 8 cfg0.N = GS (ysA m c) := by
  have hw : (cfg0.win 8).WholeAt last := (by decide +kernel : win0_8.WholeAt (⟨63, by decide⟩ : Fin grid0.N))
  refine Dat.arrAt_eq_of_after_last _ 8 last hw _ fun j => ?_
  rw [RDat.withAfter_after]
  have key := leaves8 m c 63 last (after 8 last) rfl (hL _ hw.1) (j 0) (j 1) (by have := (j 0).isLt; exact Nat.le_of_lt_succ this)
  refine Eq.trans ?_ key
  exact congrArg (after 8 last) (eq_ix2 (n0 := 64) (n1 := 128) j)

/-- After point `t` the rows of scales up to `t` are written. -/
theorem leaves10 (c : Dev nD) : ∀ (n : ℕ) (t : Fin cfg0.N) (X : S64x128.Idx → EReal), t.val = n → (rdat m c).Leaves 10 t X →
    ∀ (u : Fin 64) (l : Fin 128), u.val ≤ n → X (ix2 u l) = xsA m c (tok u l) := by
  have hfetch : ∀ t : Fin cfg0.N, (cfg0.win 10).fetch t = false := (by decide +kernel : ∀ t : Fin grid0.N, _)
  have hflush : ∀ t : Fin cfg0.N, (cfg0.win 10).flush t = true → t.val = 63 := (by decide +kernel : ∀ t : Fin grid0.N, _)
  intro n
  induction n with
  | zero =>
    rintro t X ht ⟨Y, -, hR⟩ u l hu
    have hR' : Row (xsA m c) t Y X := hR
    have hut : u = t := Fin.ext (by omega)
    subst hut
    rw [hR' u l, if_pos rfl]
  | succ n ih =>
    rintro t X ht ⟨Y, hY, hR⟩ u l hu
    have hR' : Row (xsA m c) t Y X := hR
    by_cases hut : u.val = t.val
    · obtain rfl : u = t := Fin.ext hut
      rw [hR' u l, if_pos rfl]
    · rw [hR' u l, if_neg hut]
      rcases ((rdat m c).finds_of_pos (hfetch t) (by omega) Y).mp hY with hfl | hl
      · have := hflush _ hfl
        have h64 : t.val < 64 := t.isLt
        simp only at this
        omega
      · exact ih _ Y (by simp only; omega) hl u l (by omega)

/-- The list of scales of window 10. -/
theorem result10 (c : Dev nD) (after : (w' : Fin cfg0.W) → Fin cfg0.N → (cfg0.win w').block.Idx → Elt Ideal (cfg0.win w').elt)
    (hL : ∀ u : Fin cfg0.N, (cfg0.win 10).flush u = true → (rdat m c).Leaves 10 u (after 10 u)) :
    ((rdat m c).withAfter after).arrAt 10 cfg0.N = GS (xsA m c) := by
  have hw : (cfg0.win 10).WholeAt last := (by decide +kernel : win0_10.WholeAt (⟨63, by decide⟩ : Fin grid0.N))
  refine Dat.arrAt_eq_of_after_last _ 10 last hw _ fun j => ?_
  rw [RDat.withAfter_after]
  have key := leaves10 m c 63 last (after 10 last) rfl (hL _ hw.1) (j 0) (j 1) (by have := (j 0).isLt; exact Nat.le_of_lt_succ this)
  refine Eq.trans ?_ key
  exact congrArg (after 10 last) (eq_ix2 (n0 := 64) (n1 := 128) j)

/-- After point `t` the rows of scales up to `t` are written. -/
theorem leaves12 (c : Dev nD) : ∀ (n : ℕ) (t : Fin cfg0.N) (X : S64x128.Idx → EReal), t.val = n → (rdat m c).Leaves 12 t X →
    ∀ (u : Fin 64) (l : Fin 128), u.val ≤ n → X (ix2 u l) = vsA m c (tok u l) := by
  have hfetch : ∀ t : Fin cfg0.N, (cfg0.win 12).fetch t = false := (by decide +kernel : ∀ t : Fin grid0.N, _)
  have hflush : ∀ t : Fin cfg0.N, (cfg0.win 12).flush t = true → t.val = 63 := (by decide +kernel : ∀ t : Fin grid0.N, _)
  intro n
  induction n with
  | zero =>
    rintro t X ht ⟨Y, -, hR⟩ u l hu
    have hR' : Row (vsA m c) t Y X := hR
    have hut : u = t := Fin.ext (by omega)
    subst hut
    rw [hR' u l, if_pos rfl]
  | succ n ih =>
    rintro t X ht ⟨Y, hY, hR⟩ u l hu
    have hR' : Row (vsA m c) t Y X := hR
    by_cases hut : u.val = t.val
    · obtain rfl : u = t := Fin.ext hut
      rw [hR' u l, if_pos rfl]
    · rw [hR' u l, if_neg hut]
      rcases ((rdat m c).finds_of_pos (hfetch t) (by omega) Y).mp hY with hfl | hl
      · have := hflush _ hfl
        have h64 : t.val < 64 := t.isLt
        simp only at this
        omega
      · exact ih _ Y (by simp only; omega) hl u l (by omega)

/-- The list of scales of window 12. -/
theorem result12 (c : Dev nD) (after : (w' : Fin cfg0.W) → Fin cfg0.N → (cfg0.win w').block.Idx → Elt Ideal (cfg0.win w').elt)
    (hL : ∀ u : Fin cfg0.N, (cfg0.win 12).flush u = true → (rdat m c).Leaves 12 u (after 12 u)) :
    ((rdat m c).withAfter after).arrAt 12 cfg0.N = GS (vsA m c) := by
  have hw : (cfg0.win 12).WholeAt last := (by decide +kernel : win0_12.WholeAt (⟨63, by decide⟩ : Fin grid0.N))
  refine Dat.arrAt_eq_of_after_last _ 12 last hw _ fun j => ?_
  rw [RDat.withAfter_after]
  have key := leaves12 m c 63 last (after 12 last) rfl (hL _ hw.1) (j 0) (j 1) (by have := (j 0).isLt; exact Nat.le_of_lt_succ this)
  refine Eq.trans ?_ key
  exact congrArg (after 12 last) (eq_ix2 (n0 := 64) (n1 := 128) j)

/-- The kernel over the reals: every execution terminates, the results hold their formulas, the arguments are
    unchanged. -/
theorem kernel_value : θ_run defs (onTc (τ := τ) (main (F := Ideal))) ⟨m, fun _ => 0, ρ⟩ (fun r => ∀ c : Dev nD,
      r.2.mem ((c.tc : Thread nD τ).loc main_v7_0) = G7 m c
      ∧ r.2.mem ((c.tc : Thread nD τ).loc main_v7_1) = GS (ysA m c)
      ∧ r.2.mem ((c.tc : Thread nD τ).loc main_v7_2) = G9 m c
      ∧ r.2.mem ((c.tc : Thread nD τ).loc main_v7_3) = GS (xsA m c)
      ∧ r.2.mem ((c.tc : Thread nD τ).loc main_v7_4) = G11 m c
      ∧ r.2.mem ((c.tc : Thread nD τ).loc main_v7_5) = GS (vsA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  obtain ⟨after, hL, hA⟩ := h.1.exists_exact c
  exact ⟨(hA 7).trans (result7 m c after (hL 7)),
    (hA 8).trans (result8 m c after (hL 8)),
    (hA 9).trans (result9 m c after (hL 9)),
    (hA 10).trans (result10 m c after (hL 10)),
    (hA 11).trans (result11 m c after (hL 11)),
    (hA 12).trans (result12 m c after (hL 12)),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    (h.1.arr_in c 3 rfl).trans ((A_eq m c 3).trans (V_main_arg2 m c)),
    ((h.1 c).2 main_arg3 (Pipeline.mem_restRefs_of main_arg3 (by decide) (by decide))).trans (V_main_arg3 m c),
    (h.1.arr_in c 6 rfl).trans ((A_eq m c 6).trans (V_main_arg4 m c))⟩

end Cert.Proof.Value
-- ==== Proof.RefRun.lean ====
/-
  The reference's one point: every block is its whole array, so each result is what the body computes from the arguments.
-/
module

public import proofs.«01_k».proof.Proof.Gen.ReferenceIdeal.Frame
public import Idealize.ShloMosaic.Lib.Pipeline.Value
public import Idealize.ShloMosaic.Lib.Pointwise

@[expose] public section

noncomputable section

namespace Cert.Proof.RefRun

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## An index of a block is the same index of its array -/

theorem emb0 (t : Fin cfg0.N) (j : S2x4096x16384.Idx) : ((cfg0.win 0).blk t).view.emb j = j := by
  have e : ∀ t : Fin cfg0.N, ∀ a, win0_0.index t a = 0 := (by decide +kernel : ∀ t : Fin grid0.N, _)
  funext a; apply Fin.ext
  show win0_0.index t a * S2x4096x16384.size a + 1 * (j a).val = (j a).val
  rw [e t a]; omega

theorem emb1 (t : Fin cfg0.N) (j : S128x128x128.Idx) : ((cfg0.win 1).blk t).view.emb j = j := by
  have e : ∀ t : Fin cfg0.N, ∀ a, win0_1.index t a = 0 := (by decide +kernel : ∀ t : Fin grid0.N, _)
  funext a; apply Fin.ext
  show win0_1.index t a * S128x128x128.size a + 1 * (j a).val = (j a).val
  rw [e t a]; omega

theorem emb2 (t : Fin cfg0.N) (j : S128.Idx) : ((cfg0.win 2).blk t).view.emb j = j := by
  have e : ∀ t : Fin cfg0.N, ∀ a, win0_2.index t a = 0 := (by decide +kernel : ∀ t : Fin grid0.N, _)
  funext a; apply Fin.ext
  show win0_2.index t a * S128.size a + 1 * (j a).val = (j a).val
  rw [e t a]; omega

theorem emb3 (t : Fin cfg0.N) (j : S128x128x128.Idx) : ((cfg0.win 3).blk t).view.emb j = j := by
  have e : ∀ t : Fin cfg0.N, ∀ a, win0_3.index t a = 0 := (by decide +kernel : ∀ t : Fin grid0.N, _)
  funext a; apply Fin.ext
  show win0_3.index t a * S128x128x128.size a + 1 * (j a).val = (j a).val
  rw [e t a]; omega

theorem emb4 (t : Fin cfg0.N) (j : S128.Idx) : ((cfg0.win 4).blk t).view.emb j = j := by
  have e : ∀ t : Fin cfg0.N, ∀ a, win0_4.index t a = 0 := (by decide +kernel : ∀ t : Fin grid0.N, _)
  funext a; apply Fin.ext
  show win0_4.index t a * S128.size a + 1 * (j a).val = (j a).val
  rw [e t a]; omega

theorem emb5 (t : Fin cfg0.N) (j : S8192x16384.Idx) : ((cfg0.win 5).blk t).view.emb j = j := by
  have e : ∀ t : Fin cfg0.N, ∀ a, win0_5.index t a = 0 := (by decide +kernel : ∀ t : Fin grid0.N, _)
  funext a; apply Fin.ext
  show win0_5.index t a * S8192x16384.size a + 1 * (j a).val = (j a).val
  rw [e t a]; omega

theorem emb6 (t : Fin cfg0.N) (j : S64x128.Idx) : ((cfg0.win 6).blk t).view.emb j = j := by
  have e : ∀ t : Fin cfg0.N, ∀ a, win0_6.index t a = 0 := (by decide +kernel : ∀ t : Fin grid0.N, _)
  funext a; apply Fin.ext
  show win0_6.index t a * S64x128.size a + 1 * (j a).val = (j a).val
  rw [e t a]; omega

theorem emb7 (t : Fin cfg0.N) (j : S8192x16384.Idx) : ((cfg0.win 7).blk t).view.emb j = j := by
  have e : ∀ t : Fin cfg0.N, ∀ a, win0_7.index t a = 0 := (by decide +kernel : ∀ t : Fin grid0.N, _)
  funext a; apply Fin.ext
  show win0_7.index t a * S8192x16384.size a + 1 * (j a).val = (j a).val
  rw [e t a]; omega

theorem emb8 (t : Fin cfg0.N) (j : S64x128.Idx) : ((cfg0.win 8).blk t).view.emb j = j := by
  have e : ∀ t : Fin cfg0.N, ∀ a, win0_8.index t a = 0 := (by decide +kernel : ∀ t : Fin grid0.N, _)
  funext a; apply Fin.ext
  show win0_8.index t a * S64x128.size a + 1 * (j a).val = (j a).val
  rw [e t a]; omega

theorem emb9 (t : Fin cfg0.N) (j : S8192x16384.Idx) : ((cfg0.win 9).blk t).view.emb j = j := by
  have e : ∀ t : Fin cfg0.N, ∀ a, win0_9.index t a = 0 := (by decide +kernel : ∀ t : Fin grid0.N, _)
  funext a; apply Fin.ext
  show win0_9.index t a * S8192x16384.size a + 1 * (j a).val = (j a).val
  rw [e t a]; omega

theorem emb10 (t : Fin cfg0.N) (j : S64x128.Idx) : ((cfg0.win 10).blk t).view.emb j = j := by
  have e : ∀ t : Fin cfg0.N, ∀ a, win0_10.index t a = 0 := (by decide +kernel : ∀ t : Fin grid0.N, _)
  funext a; apply Fin.ext
  show win0_10.index t a * S64x128.size a + 1 * (j a).val = (j a).val
  rw [e t a]; omega

/-! ## The blocks of the arguments are the arguments -/

theorem iblk0_eq (c : Dev nD) (t : Fin cfg0.N) : iblk m c 0 t = m ((c : Thread nD τ).loc main_arg0) := by
  rw [← V_main_arg0 m c]
  funext j; show V m c main_arg0 (((cfg0.win 0).blk t).view.emb j) = V m c main_arg0 j; rw [emb0]

theorem iblk1_eq (c : Dev nD) (t : Fin cfg0.N) : iblk m c 1 t = m ((c : Thread nD τ).loc main_arg1) := by
  rw [← V_main_arg1 m c]
  funext j; show V m c main_arg1 (((cfg0.win 1).blk t).view.emb j) = V m c main_arg1 j; rw [emb1]

theorem iblk2_eq (c : Dev nD) (t : Fin cfg0.N) : iblk m c 2 t = m ((c : Thread nD τ).loc main_arg2) := by
  rw [← V_main_arg2 m c]
  funext j; show V m c main_arg2 (((cfg0.win 2).blk t).view.emb j) = V m c main_arg2 j; rw [emb2]

theorem iblk3_eq (c : Dev nD) (t : Fin cfg0.N) : iblk m c 3 t = m ((c : Thread nD τ).loc main_arg3) := by
  rw [← V_main_arg3 m c]
  funext j; show V m c main_arg3 (((cfg0.win 3).blk t).view.emb j) = V m c main_arg3 j; rw [emb3]

theorem iblk4_eq (c : Dev nD) (t : Fin cfg0.N) : iblk m c 4 t = m ((c : Thread nD τ).loc main_arg4) := by
  rw [← V_main_arg4 m c]
  funext j; show V m c main_arg4 (((cfg0.win 4).blk t).view.emb j) = V m c main_arg4 j; rw [emb4]

/-! ## The results after the run -/

theorem final5 (c : Dev nD) : (dats m 0 c).arrAt 5 cfg0.N
    = out0_5 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 5 _ (fun t _ => ?_) fun i => ?_
  · show (cfg0.win 5).cut (grid0.coords t) ((dats m 0 c).after 5 t) = _
    rw [after0_5, iblk0_eq, iblk1_eq, iblk2_eq, iblk3_eq, iblk4_eq]
    generalize out0_5 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = X
    funext j
    show X j = X (((cfg0.win 5).blk t).view.emb j)
    rw [emb5]
  · refine ⟨(⟨0, by decide⟩ : Fin cfg0.N), flush0_5 _, ?_⟩
    have h := ((cfg0.win 5).blk (⟨0, by decide⟩ : Fin cfg0.N)).view.emb_mem_set i
    rwa [emb5] at h

theorem final6 (c : Dev nD) : (dats m 0 c).arrAt 6 cfg0.N
    = out0_6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 6 _ (fun t _ => ?_) fun i => ?_
  · show (cfg0.win 6).cut (grid0.coords t) ((dats m 0 c).after 6 t) = _
    rw [after0_6, iblk0_eq, iblk1_eq, iblk2_eq, iblk3_eq, iblk4_eq]
    generalize out0_6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = X
    funext j
    show X j = X (((cfg0.win 6).blk t).view.emb j)
    rw [emb6]
  · refine ⟨(⟨0, by decide⟩ : Fin cfg0.N), flush0_6 _, ?_⟩
    have h := ((cfg0.win 6).blk (⟨0, by decide⟩ : Fin cfg0.N)).view.emb_mem_set i
    rwa [emb6] at h

theorem final7 (c : Dev nD) : (dats m 0 c).arrAt 7 cfg0.N
    = out0_7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 7 _ (fun t _ => ?_) fun i => ?_
  · show (cfg0.win 7).cut (grid0.coords t) ((dats m 0 c).after 7 t) = _
    rw [after0_7, iblk0_eq, iblk1_eq, iblk2_eq, iblk3_eq, iblk4_eq]
    generalize out0_7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = X
    funext j
    show X j = X (((cfg0.win 7).blk t).view.emb j)
    rw [emb7]
  · refine ⟨(⟨0, by decide⟩ : Fin cfg0.N), flush0_7 _, ?_⟩
    have h := ((cfg0.win 7).blk (⟨0, by decide⟩ : Fin cfg0.N)).view.emb_mem_set i
    rwa [emb7] at h

theorem final8 (c : Dev nD) : (dats m 0 c).arrAt 8 cfg0.N
    = out0_8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 8 _ (fun t _ => ?_) fun i => ?_
  · show (cfg0.win 8).cut (grid0.coords t) ((dats m 0 c).after 8 t) = _
    rw [after0_8, iblk0_eq, iblk1_eq, iblk2_eq, iblk3_eq, iblk4_eq]
    generalize out0_8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = X
    funext j
    show X j = X (((cfg0.win 8).blk t).view.emb j)
    rw [emb8]
  · refine ⟨(⟨0, by decide⟩ : Fin cfg0.N), flush0_8 _, ?_⟩
    have h := ((cfg0.win 8).blk (⟨0, by decide⟩ : Fin cfg0.N)).view.emb_mem_set i
    rwa [emb8] at h

theorem final9 (c : Dev nD) : (dats m 0 c).arrAt 9 cfg0.N
    = out0_9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 9 _ (fun t _ => ?_) fun i => ?_
  · show (cfg0.win 9).cut (grid0.coords t) ((dats m 0 c).after 9 t) = _
    rw [after0_9, iblk0_eq, iblk1_eq, iblk2_eq, iblk3_eq, iblk4_eq]
    generalize out0_9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = X
    funext j
    show X j = X (((cfg0.win 9).blk t).view.emb j)
    rw [emb9]
  · refine ⟨(⟨0, by decide⟩ : Fin cfg0.N), flush0_9 _, ?_⟩
    have h := ((cfg0.win 9).blk (⟨0, by decide⟩ : Fin cfg0.N)).view.emb_mem_set i
    rwa [emb9] at h

theorem final10 (c : Dev nD) : (dats m 0 c).arrAt 10 cfg0.N
    = out0_10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 10 _ (fun t _ => ?_) fun i => ?_
  · show (cfg0.win 10).cut (grid0.coords t) ((dats m 0 c).after 10 t) = _
    rw [after0_10, iblk0_eq, iblk1_eq, iblk2_eq, iblk3_eq, iblk4_eq]
    generalize out0_10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = X
    funext j
    show X j = X (((cfg0.win 10).blk t).view.emb j)
    rw [emb10]
  · refine ⟨(⟨0, by decide⟩ : Fin cfg0.N), flush0_10 _, ?_⟩
    have h := ((cfg0.win 10).blk (⟨0, by decide⟩ : Fin cfg0.N)).view.emb_mem_set i
    rwa [emb10] at h

theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The run of the reference: each result is what the body computes from the arguments, and the arguments stay. -/
theorem run : θ_run defs (onTc (τ := τ) (main (F := Ideal))) ⟨m, fun _ => 0, ρ⟩ fun r => ∀ c : Dev nD,
      r.2.mem ((c : Thread nD τ).loc main_v0_0) = out0_5 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = out0_6 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = out0_7 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = out0_8 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_4) = out0_9 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_5) = out0_10 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c),
      ((h c).1 6).trans (final6 m c),
      ((h c).1 7).trans (final7 m c),
      ((h c).1 8).trans (final8 m c),
      ((h c).1 9).trans (final9 m c),
      ((h c).1 10).trans (final10 m c),
      kept_main_arg0 m r h c,
      kept_main_arg1 m r h c,
      kept_main_arg2 m r h c,
      kept_main_arg3 m r h c,
      kept_main_arg4 m r h c⟩)
    (run_main m ρ)

end Cert.Proof.RefRun
-- ==== Proof.RefMul.lean ====
/-
  Magnitudes and maxima under multiplication.
-/
module

public import proofs.«01_k».proof.Proof.Spec

@[expose] public section

noncomputable section

namespace Cert.Proof.Value

open Idealize.ShloMosaic

theorem absE_neg (a : EReal) : absE (-a) = absE a := by
  unfold absE; rw [neg_neg, max_comm]

theorem absE_of_nonneg {a : EReal} (h : 0 ≤ a) : absE a = a := by
  unfold absE
  refine max_eq_left (le_trans ?_ h)
  have := EReal.neg_le_neg_iff.mpr h
  simpa using this

theorem absE_mul_nonneg (a : EReal) {b : EReal} (h : 0 ≤ b) : absE (a * b) = absE a * b := by
  unfold absE
  rw [← EReal.neg_mul, max_mul_nonneg h]

/-- The magnitude of a product. -/
theorem absE_mul (a b : EReal) : absE (a * b) = absE a * absE b := by
  rcases le_total 0 b with h | h
  · rw [absE_mul_nonneg a h, absE_of_nonneg h]
  · have h' : 0 ≤ -b := by
      have := EReal.neg_le_neg_iff.mpr h
      simpa using this
    rw [show a * b = -a * -b by rw [EReal.neg_mul, mul_comm a (-b), EReal.neg_mul, neg_neg, mul_comm], absE_mul_nonneg _ h', absE_neg, ← absE_neg b,
      absE_of_nonneg h']

/-- A maximum of a family times a positive real number. -/
theorem mx_mul {ι : Type} [Fintype ι] (f : ι → EReal) (r : ℝ) (hr : 0 < r) : (mx fun i => f i * (r : EReal)) = mx f * (r : EReal) := by
  have h0 : (0 : EReal) < (r : EReal) := by exact_mod_cast hr
  have h1 : ∀ a b : EReal, a * (r : EReal) ≤ b ↔ a ≤ b / (r : EReal) := fun a b => (EReal.le_div_iff_mul_le h0 (EReal.coe_ne_top r)).symm
  refine (eq_mx _ _ fun b => ?_).symm
  rw [h1, mx_le, ← h1 0 b, zero_mul]
  exact and_congr_right fun _ => forall_congr' fun i => (h1 _ _).symm

/-- A maximum of a family over another index. -/
theorem mx_reindex {ι κ : Type} [Fintype ι] [Fintype κ] (f : κ → EReal) (e : ι → κ) (he : Function.Surjective e) : (mx fun i => f (e i)) = mx f := by
  refine eq_mx _ _ fun b => ?_
  rw [mx_le]
  refine and_congr_right fun _ => ⟨fun h k => ?_, fun h i => h _⟩
  obtain ⟨i, rfl⟩ := he k
  exact h i

/-- The maximum of scaled products: the scale comes out. -/
theorem mx_scaled {ι : Type} [Fintype ι] (f g : ι → EReal) (a : EReal) :
    (mx fun i => absE (f i * kS a * g i)) = kS a * mx fun i => absE (f i) * absE (g i) := by
  obtain ⟨r, hr, e⟩ := kS_pos a
  have h0 : (0 : EReal) ≤ (r : EReal) := by exact_mod_cast hr.le
  rw [e, mul_comm (r : EReal), ← mx_mul _ r hr]
  refine congrArg mx (funext fun i => ?_)
  rw [absE_mul, absE_mul_nonneg _ h0]
  ac_rfl

end Cert.Proof.Value
-- ==== Proof.RefMax.lean ====
/-
  The reference's exponent of a magnitude at one index, and its maxima over the values of a token.
-/
module

public import proofs.«01_k».proof.Proof.Gen.ReferenceIdeal.Frame
public import proofs.«01_k».proof.Proof.Spec
public import proofs.«01_k».proof.Proof.Inputs
public import Idealize.ShloMosaic.Lib.Pointwise

@[expose] public section

noncomputable section

namespace Cert.Proof.Ref

open Cert.ReferenceIdeal Cert.ReferenceIdeal.Gen Cert.Proof.Value

open Idealize.ShloMosaic
open Idealize.ShloMosaic.TcCoe Idealize.ShloMosaic.Tactic

/-- The exponents of the scales of a vector, by the logarithm. -/
def vE {s : Shape} (t : FVec Ideal s .f32) : FVec Ideal s .f32 :=
  select (cmpf .olt t (broadcast s (Scalar.ofBits (F := Ideal) .f32 0x00800000#32))) (broadcast s (Scalar.sitofp (F := Ideal) .f32 0#32))
    (minimumf (addf (floor (divf (log t) (log (broadcast s (Scalar.ofBits (F := Ideal) .f32 0x40000000#32)))))
      (broadcast s (Scalar.ofBits (F := Ideal) .f32 0x3F800000#32))) (broadcast s (Scalar.ofBits (F := Ideal) .f32 0x42FC0000#32)))

theorem one_bits : Ideal.ofBits .f32 0x3F800000#32 = 1 := by
  have := pow32_ofNat 127 (by omega) (by omega)
  rw [show pw 127 = 1 by unfold pw; norm_num] at this
  exact this

theorem vE_apply {s : Shape} (t : FVec Ideal s .f32) (j : s.Idx) : vE t j = refE (t j) := by
  show Scalar.select (Ideal.cmp .olt (t j) (Ideal.ofBits .f32 0x00800000#32)) (((0#32).toInt : ℝ) : EReal)
    (min (Ideal.liftRound Int.floor (Ideal.div (Ideal.log (t j)) (Ideal.log (Ideal.ofBits .f32 0x40000000#32))) + Ideal.ofBits .f32 0x3F800000#32)
      (Ideal.ofBits .f32 0x42FC0000#32)) = _
  rw [one_bits]
  unfold refE Ideal.cmp Scalar.select
  by_cases h : t j < Ideal.ofBits .f32 0x00800000#32 <;> simp [h]

theorem kept12 (i : S8192x128x128.Idx) (T : Fin 8192) :
    (reduces_S8192x128x128_S8192).drop i = ix1 T ↔ i 0 = T := by
  constructor
  · intro h; have := congrFun h 0; exact this
  · rintro rfl; funext q; obtain rfl : q = 0 := Subsingleton.elim _ _; rfl

theorem kept02 (i : S128x8192x128.Idx) (T : Fin 8192) :
    (reduces_S128x8192x128_S8192).drop i = ix1 T ↔ i 1 = T := by
  constructor
  · intro h; have := congrFun h 0; exact this
  · rintro rfl; funext q; obtain rfl : q = 0 := Subsingleton.elim _ _; rfl

/-- The largest magnitude of a token whose rows are the first axis. -/
theorem max12 (w : FVec Ideal S8192x128x128 .f32) (T : Fin 8192) :
    multiReduction (F := Ideal) .maximumf [1, 2] S8192 (absf w) 0xFF800000#32 reduces_S8192x128x128_S8192 (.inl rfl) rfl (ix1 T)
      = mx fun p : Fin 128 × Fin 128 => absE (w (ix3 T p.1 p.2)) := by
  refine (multiReduction_maximumf_eq_fold (F := Ideal) (absf w) _ _ _ _ _).trans (eq_mx _ _ fun b => ?_)
  show Finset.fold max (Ideal.ofBits .f32 0xFF800000#32) (fun i => absE (w i)) _ ≤ b ↔ _
  rw [Finset.fold_max_le, ninf_bits]
  constructor
  · rintro ⟨-, h⟩
    have h' : ∀ p : Fin 128 × Fin 128, absE (w (ix3 T p.1 p.2)) ≤ b := fun p =>
      h (ix3 T p.1 p.2) (Finset.mem_filter.mpr ⟨Finset.mem_univ _, (kept12 _ T).mpr rfl⟩)
    exact ⟨le_trans (absE_nonneg _) (h' (0, 0)), h'⟩
  · rintro ⟨-, h⟩
    refine ⟨bot_le, fun i hi => ?_⟩
    have hT : i 0 = T := (kept12 i T).mp (Finset.mem_filter.mp hi).2
    have hi' : i = ix3 T (i 1) (i 2) := (eq_ix3 (n0 := 8192) (n1 := 128) (n2 := 128) i).trans (congrArg (fun z : Fin 8192 => ix3 z (i 1) (i 2)) hT)
    rw [hi']
    exact h (i 1, i 2)

/-- The largest magnitude of a token whose rows are the middle axis. -/
theorem max02 (w : FVec Ideal S128x8192x128 .f32) (T : Fin 8192) :
    multiReduction (F := Ideal) .maximumf [0, 2] S8192 (absf w) 0xFF800000#32 reduces_S128x8192x128_S8192 (.inl rfl) rfl (ix1 T)
      = mx fun p : Fin 128 × Fin 128 => absE (w (ix3 p.1 T p.2)) := by
  refine (multiReduction_maximumf_eq_fold (F := Ideal) (absf w) _ _ _ _ _).trans (eq_mx _ _ fun b => ?_)
  show Finset.fold max (Ideal.ofBits .f32 0xFF800000#32) (fun i => absE (w i)) _ ≤ b ↔ _
  rw [Finset.fold_max_le, ninf_bits]
  constructor
  · rintro ⟨-, h⟩
    have h' : ∀ p : Fin 128 × Fin 128, absE (w (ix3 p.1 T p.2)) ≤ b := fun p =>
      h (ix3 p.1 T p.2) (Finset.mem_filter.mpr ⟨Finset.mem_univ _, (kept02 _ T).mpr rfl⟩)
    exact ⟨le_trans (absE_nonneg _) (h' (0, 0)), h'⟩
  · rintro ⟨-, h⟩
    refine ⟨bot_le, fun i hi => ?_⟩
    have hT : i 1 = T := (kept02 i T).mp (Finset.mem_filter.mp hi).2
    have hi' : i = ix3 (i 0) T (i 2) := (eq_ix3 (n0 := 128) (n1 := 8192) (n2 := 128) i).trans (congrArg (fun z : Fin 8192 => ix3 (i 0) z (i 2)) hT)
    rw [hi']
    exact h (i 0, i 2)

end Cert.Proof.Ref
-- ==== Proof.RefCodes.lean ====
/-
  The reference's codes at one index, its scales as the kernel builds them, and the reshapes of its results.
-/
module

public import proofs.«01_k».proof.Proof.Gen.ReferenceIdeal.Frame
public import proofs.«01_k».proof.Proof.Spec
public import proofs.«01_k».proof.Proof.Inputs
public import Idealize.ShloMosaic.Lib.Pointwise

@[expose] public section

noncomputable section

namespace Cert.Proof.Ref

open Cert.ReferenceIdeal Cert.ReferenceIdeal.Gen Cert.Proof.Value

open Idealize.ShloMosaic
open Idealize.ShloMosaic.TcCoe Idealize.ShloMosaic.Tactic

/-- Column `i` of block `k`, the product the other way round. -/
theorem col_comm (k i : Fin 128) : col k i = ⟨k.val * 128 + i.val, by omega⟩ := Fin.ext (by show 128 * k.val + i.val = k.val * 128 + i.val; omega)

/-- Token `l` of point `t`, the product the other way round. -/
theorem tok_comm (t : Fin 64) (l : Fin 128) : tok t l = ⟨t.val * 128 + l.val, by omega⟩ := Fin.ext (by show 128 * t.val + l.val = t.val * 128 + l.val; omega)

/-- Two to an exponent, at one index. -/
theorem exp2_apply {s : Shape} (v : FVec Ideal s .f32) (j : s.Idx) : exp2 v j = Ideal.exp2 (v j) := rfl

/-- The codes of an array whose tokens are the first axis, from the exponents of the tokens. -/
def q12 (v2 : FVec Ideal S8192x128x128 .f32) (v3 : FVec Ideal S8192x1x1 .f32) : FVec Ideal S8192x128x128 .fp8e4m3 :=
  truncf .fp8e4m3 (minimumf (broadcast S8192x128x128 (Scalar.ofBits (F := Ideal) .f32 0x43E00000#32))
    (maximumf (broadcast S8192x128x128 (Scalar.ofBits (F := Ideal) .f32 0xC3E00000#32))
      (mulf v2 (broadcastTo S8192x128x128 (exp2 (subf (broadcast S8192x1x1 (Scalar.ofBits (F := Ideal) .f32 0x00000000#32)) v3)) broadcasts_S8192x1x1_S8192x128x128)))) bitsLt_fp8e4m3_f32

/-- The codes of an array whose tokens are the middle axis, from the exponents of the tokens. -/
def q02 (v2 : FVec Ideal S128x8192x128 .f32) (v3 : FVec Ideal S1x8192x1 .f32) : FVec Ideal S128x8192x128 .fp8e4m3 :=
  truncf .fp8e4m3 (minimumf (broadcast S128x8192x128 (Scalar.ofBits (F := Ideal) .f32 0x43E00000#32))
    (maximumf (broadcast S128x8192x128 (Scalar.ofBits (F := Ideal) .f32 0xC3E00000#32))
      (mulf v2 (broadcastTo S128x8192x128 (exp2 (subf (broadcast S1x8192x1 (Scalar.ofBits (F := Ideal) .f32 0x00000000#32)) v3)) broadcasts_S1x8192x1_S128x8192x128)))) bitsLt_fp8e4m3_f32

theorem zero32 : Ideal.ofBits .f32 0x00000000#32 = 0 := by rw [zero_bits]; rfl

theorem spread12 (v : FVec Ideal S8192x1x1 .f32) (T : Fin 8192) (k i : Fin 128) : broadcastTo S8192x128x128 v broadcasts_S8192x1x1_S8192x128x128 (ix3 T k i) = v (ix3 T 0 0) := by
  pointwise []

theorem spread02 (v : FVec Ideal S1x8192x1 .f32) (T : Fin 8192) (k i : Fin 128) : broadcastTo S128x8192x128 v broadcasts_S1x8192x1_S128x8192x128 (ix3 k T i) = v (ix3 0 T 0) := by
  pointwise []

theorem q12_apply (v2 : FVec Ideal S8192x128x128 .f32) (v3 : FVec Ideal S8192x1x1 .f32) (T : Fin 8192) (k i : Fin 128) :
    q12 v2 v3 (ix3 T k i) = clip (v2 (ix3 T k i) * Ideal.exp2 (Ideal.ofBits .f32 0x00000000#32 - v3 (ix3 T 0 0))) := by
  show clip (v2 (ix3 T k i) * broadcastTo S8192x128x128 (exp2 (subf (broadcast S8192x1x1 (Scalar.ofBits (F := Ideal) .f32 0x00000000#32)) v3)) broadcasts_S8192x1x1_S8192x128x128 (ix3 T k i)) = _
  rw [spread12, exp2_apply]
  rfl

theorem q02_apply (v2 : FVec Ideal S128x8192x128 .f32) (v3 : FVec Ideal S1x8192x1 .f32) (T : Fin 8192) (k i : Fin 128) :
    q02 v2 v3 (ix3 k T i) = clip (v2 (ix3 k T i) * Ideal.exp2 (Ideal.ofBits .f32 0x00000000#32 - v3 (ix3 0 T 0))) := by
  show clip (v2 (ix3 k T i) * broadcastTo S128x8192x128 (exp2 (subf (broadcast S1x8192x1 (Scalar.ofBits (F := Ideal) .f32 0x00000000#32)) v3)) broadcasts_S1x8192x1_S128x8192x128 (ix3 k T i)) = _
  rw [spread02, exp2_apply]
  rfl

/-- The two exponents of the scales in one place: of `t`, and its negative. -/
theorem kS_ref (a : EReal) : Ideal.exp2 (refE (a * cmul)) = kS a := (kS_eq a).symm
theorem kI_ref (a : EReal) : Ideal.exp2 (Ideal.ofBits .f32 0x00000000#32 - refE (a * cmul)) = kI a := (kI_eq a).symm

/-! ## The reshapes and transposes of the results -/

theorem pay17_apply (v : FVec Ideal S8192x128x128 .fp8e4m3) (T : Fin 8192) (k i : Fin 128) : k0_pay17 (F := Ideal) v (ix2 T (col k i)) = v (ix3 T k i) := by
  unfold col
  pointwise [k0_pay17]

theorem pay18_apply (v : FVec Ideal S8192x1x1 .f32) (t : Fin 64) (l : Fin 128) : k0_pay18 (F := Ideal) v (ix2 t l) = v (ix3 (tok t l) 0 0) := by
  rw [tok_comm]
  pointwise [k0_pay18]

theorem pay19_apply (v : FVec Ideal S128x8192x128 .fp8e4m3) (T : Fin 8192) (s r : Fin 128) : k0_pay19 (F := Ideal) v (ix2 T (col s r)) = v (ix3 r T s) := by
  unfold col
  pointwise [k0_pay19]

theorem pay1_apply (v : FVec Ideal S1x8192x1 .f32) (t : Fin 64) (l : Fin 128) : k0_pay1 (F := Ideal) v (ix2 t l) = v (ix3 0 (tok t l) 0) := by
  rw [tok_comm]
  pointwise [k0_pay1]

end Cert.Proof.Ref
-- ==== Proof.RefFirst.lean ====
/-
  The reference's first quantisation and first product at one index.
-/
module

public import proofs.«01_k».proof.Proof.Gen.ReferenceIdeal.Frame
public import proofs.«01_k».proof.Proof.Spec
public import proofs.«01_k».proof.Proof.Inputs
public import Idealize.ShloMosaic.Lib.Pointwise
public import proofs.«01_k».proof.Proof.RefMax
public import proofs.«01_k».proof.Proof.RefCodes

@[expose] public section

noncomputable section

namespace Cert.Proof.Ref

open Cert.ReferenceIdeal Cert.ReferenceIdeal.Gen Cert.Proof.Value

open Idealize.ShloMosaic
open Idealize.ShloMosaic.TcCoe Idealize.ShloMosaic.Tactic

/-! ## The first quantisation -/

theorem pay2_apply (a0 : Vec Ideal S2x4096x16384 .bf16) (T : Fin 8192) (k i : Fin 128) :
    k0_pay2 (F := Ideal) a0 (ix3 T k i) = tokRow a0 T (col k i) := by
  unfold tokRow
  rw [col_comm]
  pointwise [k0_pay2]

theorem scaled12 (v : FVec Ideal S8192 .f32) (T : Fin 8192) :
    (mulf (shapeCast S8192x1x1 v shapeCasts_S8192_S8192x1x1) (broadcast S8192x1x1 (Scalar.ofBits (F := Ideal) .f32 0x3B124925#32))) (ix3 T 0 0) = v (ix1 T) * cmul := by
  pointwise []

theorem pay3_apply (a0 : Vec Ideal S2x4096x16384 .bf16) (T : Fin 8192) :
    k0_pay3 (F := Ideal) a0 (ix3 T 0 0) = refE ((mx fun p : Fin 128 × Fin 128 => absE (k0_pay2 (F := Ideal) a0 (ix3 T p.1 p.2))) * cmul) := by
  have h : k0_pay3 (F := Ideal) a0 = vE (mulf (shapeCast S8192x1x1 (multiReduction (F := Ideal) .maximumf [1, 2] S8192 (absf (k0_pay2 a0)) 0xFF800000#32 reduces_S8192x128x128_S8192 (.inl rfl) rfl) shapeCasts_S8192_S8192x1x1)
      (broadcast S8192x1x1 (Scalar.ofBits (F := Ideal) .f32 0x3B124925#32))) := rfl
  rw [h, vE_apply]
  exact congrArg refE ((scaled12 _ T).trans (congrArg (· * cmul) (max12 (k0_pay2 a0) T)))

theorem pay4_apply (a0 : Vec Ideal S2x4096x16384 .bf16) (T : Fin 8192) :
    k0_pay4 (F := Ideal) a0 (ix3 T 0 0) = Ideal.exp2 (k0_pay3 (F := Ideal) a0 (ix3 T 0 0)) :=
  exp2_apply (k0_pay3 (F := Ideal) a0) _

theorem pay5_apply (a0 : Vec Ideal S2x4096x16384 .bf16) (T : Fin 8192) (k i : Fin 128) :
    k0_pay5 (F := Ideal) a0 (ix3 T k i) = clip (k0_pay2 (F := Ideal) a0 (ix3 T k i) * Ideal.exp2 (Ideal.ofBits .f32 0x00000000#32 - k0_pay3 (F := Ideal) a0 (ix3 T 0 0))) := by
  have h : k0_pay5 (F := Ideal) a0 = q12 (k0_pay2 (F := Ideal) a0) (k0_pay3 (F := Ideal) a0) := rfl
  rw [h, q12_apply]

theorem pay6_apply (a0 : Vec Ideal S2x4096x16384 .bf16) (a1 : Vec Ideal S128x128x128 .fp8e4m3) (T : Fin 8192) (k j : Fin 128) :
    k0_pay6 (F := Ideal) a0 a1 (ix3 k T j) = (∑ i, k0_pay5 (F := Ideal) a0 (ix3 T k i) * a1 (ix3 k i j)) * k0_pay4 (F := Ideal) a0 (ix3 T 0 0) := by
  unfold k0_pay6
  generalize k0_pay5 (F := Ideal) a0 = v5
  generalize k0_pay4 (F := Ideal) a0 = v4
  pointwise []

theorem pay7_apply (a2 : Vec Ideal S128 .f32) (T : Fin 8192) (k j : Fin 128) :
    k0_pay7 (F := Ideal) a2 (ix3 k T j) = a2 (ix1 k) := by
  pointwise [k0_pay7]

end Cert.Proof.Ref
-- ==== Proof.RefSecond.lean ====
/-
  The reference's second quantisation and second product at one index.
-/
module

public import proofs.«01_k».proof.Proof.Gen.ReferenceIdeal.Frame
public import proofs.«01_k».proof.Proof.Spec
public import proofs.«01_k».proof.Proof.Inputs
public import Idealize.ShloMosaic.Lib.Pointwise
public import proofs.«01_k».proof.Proof.RefMax
public import proofs.«01_k».proof.Proof.RefCodes

@[expose] public section

noncomputable section

namespace Cert.Proof.Ref

open Cert.ReferenceIdeal Cert.ReferenceIdeal.Gen Cert.Proof.Value

open Idealize.ShloMosaic
open Idealize.ShloMosaic.TcCoe Idealize.ShloMosaic.Tactic

/-! ## The second quantisation -/

section
variable (v38 v41 : FVec Ideal S128x8192x128 .f32)

theorem pay8_apply (T : Fin 8192) (k j : Fin 128) : k0_pay8 (F := Ideal) v38 v41 (ix3 k T j) = v38 (ix3 k T j) * v41 (ix3 k T j) := rfl

theorem scaled02 (v : FVec Ideal S8192 .f32) (T : Fin 8192) :
    (mulf (shapeCast S1x8192x1 v shapeCasts_S8192_S1x8192x1) (broadcast S1x8192x1 (Scalar.ofBits (F := Ideal) .f32 0x3B124925#32))) (ix3 0 T 0) = v (ix1 T) * cmul := by
  pointwise []

theorem pay9_apply (T : Fin 8192) :
    k0_pay9 (F := Ideal) v38 v41 (ix3 0 T 0) = refE ((mx fun p : Fin 128 × Fin 128 => absE (k0_pay8 (F := Ideal) v38 v41 (ix3 p.1 T p.2))) * cmul) := by
  have h : k0_pay9 (F := Ideal) v38 v41 = vE (mulf (shapeCast S1x8192x1 (multiReduction (F := Ideal) .maximumf [0, 2] S8192 (absf (k0_pay8 v38 v41)) 0xFF800000#32 reduces_S128x8192x128_S8192 (.inl rfl) rfl) shapeCasts_S8192_S1x8192x1)
      (broadcast S1x8192x1 (Scalar.ofBits (F := Ideal) .f32 0x3B124925#32))) := rfl
  rw [h, vE_apply]
  exact congrArg refE ((scaled02 _ T).trans (congrArg (· * cmul) (max02 (k0_pay8 v38 v41) T)))

theorem pay10_apply (T : Fin 8192) : k0_pay10 (F := Ideal) v38 v41 (ix3 0 T 0) = Ideal.exp2 (k0_pay9 (F := Ideal) v38 v41 (ix3 0 T 0)) :=
  exp2_apply (k0_pay9 (F := Ideal) v38 v41) _

theorem pay11_apply (T : Fin 8192) (k j : Fin 128) :
    k0_pay11 (F := Ideal) v38 v41 (ix3 k T j) = clip (k0_pay8 (F := Ideal) v38 v41 (ix3 k T j) * Ideal.exp2 (Ideal.ofBits .f32 0x00000000#32 - k0_pay9 (F := Ideal) v38 v41 (ix3 0 T 0))) := by
  have h : k0_pay11 (F := Ideal) v38 v41 = q02 (k0_pay8 (F := Ideal) v38 v41) (k0_pay9 (F := Ideal) v38 v41) := rfl
  rw [h, q02_apply]

theorem pay12_apply (a3 : Vec Ideal S128x128x128 .fp8e4m3) (a4 : Vec Ideal S128 .f32) (T : Fin 8192) (j o : Fin 128) :
    k0_pay12 (F := Ideal) v38 v41 a3 a4 (ix3 j T o)
      = (∑ k, k0_pay11 (F := Ideal) v38 v41 (ix3 k T j) * a3 (ix3 j k o)) * k0_pay10 (F := Ideal) v38 v41 (ix3 0 T 0) * a4 (ix1 j) := by
  unfold k0_pay12
  generalize k0_pay11 (F := Ideal) v38 v41 = v11
  generalize k0_pay10 (F := Ideal) v38 v41 = v10
  pointwise []

theorem pay13_apply (a3 : Vec Ideal S128x128x128 .fp8e4m3) (a4 : Vec Ideal S128 .f32) (T : Fin 8192) :
    k0_pay13 (F := Ideal) v38 v41 a3 a4 (ix3 0 T 0) = mx fun p : Fin 128 × Fin 128 => absE (k0_pay12 (F := Ideal) v38 v41 a3 a4 (ix3 p.1 T p.2)) := by
  rw [← max02]
  unfold k0_pay13
  generalize multiReduction (F := Ideal) .maximumf [0, 2] S8192 _ 0xFF800000#32 reduces_S128x8192x128_S8192 (.inl rfl) rfl = v
  pointwise []
end

end Cert.Proof.Ref
-- ==== Proof.RefThird.lean ====
/-
  The reference's third quantisation at one index.
-/
module

public import proofs.«01_k».proof.Proof.Gen.ReferenceIdeal.Frame
public import proofs.«01_k».proof.Proof.Spec
public import proofs.«01_k».proof.Proof.Inputs
public import Idealize.ShloMosaic.Lib.Pointwise
public import proofs.«01_k».proof.Proof.RefMax
public import proofs.«01_k».proof.Proof.RefCodes

@[expose] public section

noncomputable section

namespace Cert.Proof.Ref

open Cert.ReferenceIdeal Cert.ReferenceIdeal.Gen Cert.Proof.Value

open Idealize.ShloMosaic
open Idealize.ShloMosaic.TcCoe Idealize.ShloMosaic.Tactic

/-! ## The third quantisation -/

section
variable (v81 : FVec Ideal S128x8192x128 .f32) (v84 : FVec Ideal S1x8192x1 .f32)

theorem pay14_apply (j : S1x8192x1.Idx) : k0_pay14 (F := Ideal) v84 (Scalar.ofBits .f32 0x3B124925#32) j = refE (v84 j * cmul) := by
  have h : k0_pay14 (F := Ideal) v84 (Scalar.ofBits .f32 0x3B124925#32) = vE (mulf v84 (broadcast S1x8192x1 (Scalar.ofBits (F := Ideal) .f32 0x3B124925#32))) := rfl
  rw [h, vE_apply]
  rfl

end

theorem pay15_apply (v81 : FVec Ideal S128x8192x128 .f32) (v84 : FVec Ideal S1x8192x1 .f32) (c : Ideal .f32) (T : Fin 8192) (o j : Fin 128) :
    k0_pay15 (F := Ideal) v81 v84 c (ix2 T (col o j)) = clip (v81 (ix3 j T o) * Ideal.exp2 (Ideal.ofBits .f32 0x00000000#32 - k0_pay14 (F := Ideal) v84 c (ix3 0 T 0))) := by
  have h : k0_pay15 (F := Ideal) v81 v84 c = k0_pay19 (q02 v81 (k0_pay14 (F := Ideal) v84 c)) := rfl
  rw [h, pay19_apply, q02_apply]

theorem pay16_apply (v84 : FVec Ideal S1x8192x1 .f32) (c : Ideal .f32) (t : Fin 64) (l : Fin 128) :
    k0_pay16 (F := Ideal) v84 c (ix2 t l) = Ideal.exp2 (k0_pay14 (F := Ideal) v84 c (ix3 0 (tok t l) 0)) := by
  have h : k0_pay16 (F := Ideal) v84 c = k0_pay1 (exp2 (k0_pay14 (F := Ideal) v84 c)) := rfl
  rw [h, pay1_apply, exp2_apply]

end Cert.Proof.Ref
-- ==== Proof.RefValue.lean ====
/-
  What the reference leaves in its six results, by the same formulas as the kernel.
-/
module

public import proofs.«01_k».proof.Proof.RefRun
public import proofs.«01_k».proof.Proof.KernelValue
public import proofs.«01_k».proof.Proof.RefMul
public import proofs.«01_k».proof.Proof.RefFirst
public import proofs.«01_k».proof.Proof.RefSecond
public import proofs.«01_k».proof.Proof.RefThird

@[expose] public section

noncomputable section

namespace Cert.Proof.Ref

open Cert.ReferenceIdeal Cert.ReferenceIdeal.Gen Cert.Proof.Value

open Idealize.ShloMosaic
open Idealize.ShloMosaic.TcCoe Idealize.ShloMosaic.Tactic

variable (a0 : Vec Ideal S2x4096x16384 .bf16) (a1 : Vec Ideal S128x128x128 .fp8e4m3) (a2 : Vec Ideal S128 .f32)
  (a3 : Vec Ideal S128x128x128 .fp8e4m3) (a4 : Vec Ideal S128 .f32)

/-! ## The first quantisation -/

theorem exp3 (T : Fin 8192) : k0_pay3 (F := Ideal) a0 (ix3 T 0 0) = refE (ax (tokRow a0 T) * cmul) := by
  rw [pay3_apply]
  refine congrArg (fun z => refE (z * cmul)) ?_
  unfold ax
  rw [← mx_reindex (fun j => absE (tokRow a0 T j)) (fun p : Fin 128 × Fin 128 => col p.1 p.2) (fun j => ⟨(qcol j, rcol j), col_qr j⟩)]
  refine congrArg mx (funext fun p => ?_)
  rw [pay2_apply]

theorem first_scale (T : Fin 8192) : k0_pay4 (F := Ideal) a0 (ix3 T 0 0) = xs (tokRow a0 T) := by
  rw [pay4_apply, exp3, kS_ref]; rfl

theorem first_code (T : Fin 8192) (k i : Fin 128) : k0_pay5 (F := Ideal) a0 (ix3 T k i) = xc (tokRow a0 T) (col k i) := by
  rw [pay5_apply, exp3, kI_ref, pay2_apply]; rfl

theorem first_product (T : Fin 8192) (k j : Fin 128) :
    k0_pay6 (F := Ideal) a0 a1 (ix3 k T j) = Value.a1 (tokRow a0 T) (wT a1) k j * xs (tokRow a0 T) := by
  rw [pay6_apply, first_scale]
  refine congrArg (· * xs (tokRow a0 T)) (Finset.sum_congr rfl fun i _ => ?_)
  rw [first_code]
  exact mul_comm _ _

/-! ## The second quantisation -/

theorem scaled_product (T : Fin 8192) (k j : Fin 128) :
    k0_pay8 (F := Ideal) (k0_pay6 a0 a1) (k0_pay7 a2) (ix3 k T j) = Value.a1 (tokRow a0 T) (wT a1) k j * xs (tokRow a0 T) * wS a2 k := by
  rw [pay8_apply, first_product, pay7_apply]; rfl

theorem exp9 (T : Fin 8192) :
    k0_pay9 (F := Ideal) (k0_pay6 a0 a1) (k0_pay7 a2) (ix3 0 T 0) = refE (xs (tokRow a0 T) * m1 (tokRow a0 T) (wT a1) (wS a2) * cmul) := by
  rw [pay9_apply]
  refine congrArg (fun z => refE (z * cmul)) ?_
  unfold m1
  refine Eq.trans (congrArg mx (funext fun p => ?_))
    (mx_scaled (fun p : Fin 128 × Fin 128 => Value.a1 (tokRow a0 T) (wT a1) p.1 p.2) (fun p => wS a2 p.1) (ax (tokRow a0 T)))
  rw [scaled_product]; rfl

theorem second_scale (T : Fin 8192) :
    k0_pay10 (F := Ideal) (k0_pay6 a0 a1) (k0_pay7 a2) (ix3 0 T 0) = vs (tokRow a0 T) (wT a1) (wS a2) := by
  rw [pay10_apply, exp9, kS_ref]; rfl

theorem second_code (T : Fin 8192) (k j : Fin 128) :
    k0_pay11 (F := Ideal) (k0_pay6 a0 a1) (k0_pay7 a2) (ix3 k T j) = vc (tokRow a0 T) (wT a1) (wS a2) k j := by
  rw [pay11_apply, exp9, kI_ref, scaled_product]
  unfold vc
  refine congrArg clip ?_
  ac_rfl

theorem second_product (T : Fin 8192) (j o : Fin 128) :
    k0_pay12 (F := Ideal) (k0_pay6 a0 a1) (k0_pay7 a2) a3 a4 (ix3 j T o)
      = Value.a2 (tokRow a0 T) (wT a1) (wS a2) (wT a3) j o * vs (tokRow a0 T) (wT a1) (wS a2) * wS a4 j := by
  rw [pay12_apply, second_scale]
  refine congrArg (· * vs (tokRow a0 T) (wT a1) (wS a2) * wS a4 j) (Finset.sum_congr rfl fun k _ => ?_)
  rw [second_code]
  exact mul_comm _ _

theorem second_max (T : Fin 8192) :
    k0_pay13 (F := Ideal) (k0_pay6 a0 a1) (k0_pay7 a2) a3 a4 (ix3 0 T 0)
      = vs (tokRow a0 T) (wT a1) (wS a2) * m2 (tokRow a0 T) (wT a1) (wS a2) (wT a3) (wS a4) := by
  rw [pay13_apply]
  unfold m2
  refine Eq.trans (congrArg mx (funext fun p => ?_))
    (mx_scaled (fun p : Fin 128 × Fin 128 => Value.a2 (tokRow a0 T) (wT a1) (wS a2) (wT a3) p.1 p.2) (fun p => wS a4 p.1)
      (xs (tokRow a0 T) * m1 (tokRow a0 T) (wT a1) (wS a2)))
  rw [second_product]; rfl

/-! ## The six results -/

theorem pay20_eq : k0_pay20 (F := Ideal) a0 a1 a2 a3 a4 = k0_pay6 a0 a1 := by
  unfold k0_pay20
  rw [View.ld_unit_zero (S := S2x4096x16384) RefRun.hz3 _ a0, View.ld_unit_zero (S := S128x128x128) RefRun.hz3 _ a1]

theorem pay21_eq : k0_pay21 (F := Ideal) a0 a1 a2 a3 a4 = k0_pay7 a2 := by
  unfold k0_pay21
  rw [View.ld_unit_zero (S := S128) RefRun.hz1 _ a2]

theorem pay22_eq : k0_pay22 (F := Ideal) a0 a1 a2 a3 a4 = k0_pay13 (k0_pay6 a0 a1) (k0_pay7 a2) a3 a4 := by
  unfold k0_pay22
  rw [View.ld_unit_zero (S := S128x128x128) RefRun.hz3 _ a3, View.ld_unit_zero (S := S128) RefRun.hz1 _ a4, pay20_eq, pay21_eq]

/-- Two arrays of codes are equal when they are at every token, block and column. -/
theorem codes_ext (f g : S8192x16384.Idx → EReal) (h : ∀ T s r, f (ix2 T (col s r)) = g (ix2 T (col s r))) : f = g := by
  funext y
  have e : y = ix2 (y 0) (col (qcol (y 1)) (rcol (y 1))) :=
    (eq_ix2 (n0 := 8192) (n1 := 16384) y).trans (congrArg (fun z : Fin 16384 => ix2 (n0 := 8192) (n1 := 16384) (y 0) z) (col_qr (y 1)).symm)
  rw [e]
  exact h _ _ _

/-- Two arrays of scales are equal when they are at every row and lane. -/
theorem scales_ext (f g : S64x128.Idx → EReal) (h : ∀ t l, f (ix2 t l) = g (ix2 t l)) : f = g := by
  funext y
  rw [eq_ix2 (n0 := 64) (n1 := 128) y]
  exact h _ _

theorem qcol_col (s r : Fin 128) : qcol (col s r) = s := by apply Fin.ext; simp only [col, qcol]; omega
theorem rcol_col (s r : Fin 128) : rcol (col s r) = r := by apply Fin.ext; simp only [col, rcol]; omega

/-- The codes of the third quantisation. -/
theorem result5 : out0_5 (F := Ideal) a0 a1 a2 a3 a4
    = fun y => yc (tokRow a0 (y 0)) (wT a1) (wS a2) (wT a3) (wS a4) (rcol (y 1)) (qcol (y 1)) := by
  refine codes_ext _ _ fun T s r => ?_
  show out0_5 (F := Ideal) a0 a1 a2 a3 a4 (ix2 T (col s r)) = yc (tokRow a0 T) (wT a1) (wS a2) (wT a3) (wS a4) (rcol (col s r)) (qcol (col s r))
  rw [qcol_col, rcol_col]
  unfold out0_5
  rw [View.canon_unit_zero RefRun.hz2, View.ld_unit_zero (S := S128x128x128) RefRun.hz3 _ a3, View.ld_unit_zero (S := S128) RefRun.hz1 _ a4, pay20_eq, pay21_eq, pay22_eq, pay15_apply, pay14_apply, second_max, kI_ref, second_product]
  unfold yc
  refine congrArg clip ?_
  ac_rfl

/-- The scales of the third quantisation. -/
theorem result6 : out0_6 (F := Ideal) a0 a1 a2 a3 a4
    = GS fun T => ys (tokRow a0 T) (wT a1) (wS a2) (wT a3) (wS a4) := by
  refine scales_ext _ _ fun t l => ?_
  show _ = ys (tokRow a0 (tok t l)) (wT a1) (wS a2) (wT a3) (wS a4)
  unfold out0_6
  rw [View.canon_unit_zero RefRun.hz2, pay22_eq, pay16_apply, pay14_apply, second_max, kS_ref]
  rfl

/-- The codes of the first quantisation. -/
theorem result7 : out0_7 (F := Ideal) a0 a1 a2 a3 a4 = fun y => xc (tokRow a0 (y 0)) (y 1) := by
  refine codes_ext _ _ fun T s r => ?_
  show _ = xc (tokRow a0 T) (col s r)
  unfold out0_7
  rw [View.canon_unit_zero RefRun.hz2, View.ld_unit_zero (S := S2x4096x16384) RefRun.hz3 _ a0, pay17_apply, first_code]

/-- The scales of the first quantisation. -/
theorem result8 : out0_8 (F := Ideal) a0 a1 a2 a3 a4 = GS fun T => xs (tokRow a0 T) := by
  refine scales_ext _ _ fun t l => ?_
  show _ = xs (tokRow a0 (tok t l))
  unfold out0_8
  rw [View.canon_unit_zero RefRun.hz2, View.ld_unit_zero (S := S2x4096x16384) RefRun.hz3 _ a0, pay18_apply, first_scale]

/-- The codes of the second quantisation. -/
theorem result9 : out0_9 (F := Ideal) a0 a1 a2 a3 a4
    = fun y => vc (tokRow a0 (y 0)) (wT a1) (wS a2) (rcol (y 1)) (qcol (y 1)) := by
  refine codes_ext _ _ fun T s r => ?_
  show out0_9 (F := Ideal) a0 a1 a2 a3 a4 (ix2 T (col s r)) = vc (tokRow a0 T) (wT a1) (wS a2) (rcol (col s r)) (qcol (col s r))
  rw [qcol_col, rcol_col]
  unfold out0_9
  rw [View.canon_unit_zero RefRun.hz2, pay20_eq, pay21_eq, pay19_apply, second_code]

/-- The scales of the second quantisation. -/
theorem result10 : out0_10 (F := Ideal) a0 a1 a2 a3 a4
    = GS fun T => vs (tokRow a0 T) (wT a1) (wS a2) := by
  refine scales_ext _ _ fun t l => ?_
  show _ = vs (tokRow a0 (tok t l)) (wT a1) (wS a2)
  unfold out0_10
  rw [View.canon_unit_zero RefRun.hz2, pay20_eq, pay21_eq, pay1_apply, second_scale]

end Cert.Proof.Ref
-- ==== Proof.Algebraic.lean ====
/-
  The kernel over the reals and the reference leave the same six results.
-/
module

public import proofs.«01_k».proof.Defs
public import proofs.«01_k».proof.Proof.KernelValue
public import proofs.«01_k».proof.Proof.RefValue

@[expose] public section

noncomputable section

namespace Cert.Proof

open Idealize.ShloMosaic Idealize.ShloMosaic.TcCoe Idealize.SL.Sem

/-- From memories that agree on the arguments, both programs run and their results are equal. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Value.G7 m c, fun c => Value.GS (Value.ysA m c), fun c => Value.G9 m c, fun c => Value.GS (Value.xsA m c), fun c => Value.G11 m c,
    fun c => Value.GS (Value.vsA m c), Value.kernel_value m g, (θ_run _ _ _).mono (fun r h c => ?_) (RefRun.run m' g')⟩
  obtain ⟨h0, h1, h2, h3, h4, h5, k⟩ := h c
  obtain ⟨e0, e1, e2, e3, e4⟩ := hargs c
  rw [e0, e1, e2, e3, e4] at h0 h1 h2 h3 h4 h5
  exact ⟨h0.trans (Ref.result5 _ _ _ _ _), h1.trans (Ref.result6 _ _ _ _ _), h2.trans (Ref.result7 _ _ _ _ _), h3.trans (Ref.result8 _ _ _ _ _),
    h4.trans (Ref.result9 _ _ _ _ _), h5.trans (Ref.result10 _ _ _ _ _), k⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Proof.KernelFrame.frame (F := Bits) m g,
  fun m g _ => Cert.Proof.KernelIdealFrame.frame (F := Ideal) m g,
  fun m g _ => Cert.ReferenceIdeal.Gen.frame m g,
  trivial, algebraic⟩

end Cert.Proof

end
